-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  IdealRules.named_const.Statement Cert.KernelIdeal.κ "scale" .f32 0x3E38AA3B#32 ((8⁻¹ * (Real.log 2)⁻¹ : ℝ) : EReal)
  ∧ IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8x4096x8x64 : Shape := ⟨4, ![8, 4096, 8, 64]⟩
abbrev S8x255x2x64 : Shape := ⟨4, ![8, 255, 2, 64]⟩
abbrev S8x4096x2x64 : Shape := ⟨4, ![8, 4096, 2, 64]⟩
abbrev S8x4096x8x3 : Shape := ⟨4, ![8, 4096, 8, 3]⟩
abbrev S_ : Shape := ⟨0, ![]⟩

class Facts : Prop where
  bcast_S_S8x4096x8x64 : S_.BroadcastsInDim S8x4096x8x64 (![] : Fin 0 → Fin S8x4096x8x64.rank)
  bcast_S_S8x255x2x64 : S_.BroadcastsInDim S8x255x2x64 (![] : Fin 0 → Fin S8x255x2x64.rank)
  bcast_S_S8x4096x2x64 : S_.BroadcastsInDim S8x4096x2x64 (![] : Fin 0 → Fin S8x4096x2x64.rank)

variable [Facts]

def fn {F : FTy → Type} [FloatOps F] (main_arg0 : FVec F S8x4096x8x64 .f32) (main_arg1 : FVec F S8x255x2x64 .f32) (main_arg2 : FVec F S8x255x2x64 .f32) (main_arg3 : FVec F S8x4096x2x64 .f32) (main_arg4 : FVec F S8x4096x2x64 .f32) (main_arg5 : FVec F S8x4096x2x64 .f32) (main_arg6 : FVec F S8x4096x2x64 .f32) (main_arg7 : FVec F S8x4096x8x3 .f32) : IVec S8x4096x8x64 1 × IVec S8x255x2x64 1 × IVec S8x4096x2x64 1 × IVec S8x4096x2x64 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x255x2x64 .f32 := Host.absf main_arg1
  let main_cst_0 : FVec F S_ .f32 := constant S_ .f32 0x7F800000#32
  let main_v4 : FVec F S8x255x2x64 .f32 := broadcastInDim S8x255x2x64 ![] bcast_S_S8x255x2x64 main_cst_0
  let main_v5 : IVec S8x255x2x64 1 := cmpf .olt main_v3 main_v4
  let main_v6 : FVec F S8x4096x2x64 .f32 := Host.absf main_arg3
  let main_cst_1 : FVec F S_ .f32 := constant S_ .f32 0x7F800000#32
  let main_v7 : FVec F S8x4096x2x64 .f32 := broadcastInDim S8x4096x2x64 ![] bcast_S_S8x4096x2x64 main_cst_1
  let main_v8 : IVec S8x4096x2x64 1 := cmpf .olt main_v6 main_v7
  let main_v9 : FVec F S8x4096x2x64 .f32 := Host.absf main_arg5
  let main_cst_2 : FVec F S_ .f32 := constant S_ .f32 0x7F800000#32
  let main_v10 : FVec F S8x4096x2x64 .f32 := broadcastInDim S8x4096x2x64 ![] bcast_S_S8x4096x2x64 main_cst_2
  let main_v11 : IVec S8x4096x2x64 1 := cmpf .olt main_v9 main_v10
  (main_v2, main_v5, main_v8, main_v11)
-- ==== Kernel.lean ====
abbrev S8x4096x8x64 : Shape := ⟨4, ![8, 4096, 8, 64]⟩
abbrev S8x255x2x64 : Shape := ⟨4, ![8, 255, 2, 64]⟩
abbrev S8x4096x2x64 : Shape := ⟨4, ![8, 4096, 2, 64]⟩
abbrev S8x4096x8x3 : Shape := ⟨4, ![8, 4096, 8, 3]⟩
abbrev S8x4096x24 : Shape := ⟨3, ![8, 4096, 24]⟩
abbrev S_ : Shape := ⟨0, ![]⟩
abbrev S8x4096x128 : Shape := ⟨3, ![8, 4096, 128]⟩
abbrev S8x255x128 : Shape := ⟨3, ![8, 255, 128]⟩
abbrev S8x256x128 : Shape := ⟨3, ![8, 256, 128]⟩
abbrev S256x128 : Shape := ⟨2, ![256, 128]⟩
abbrev S4096x128 : Shape := ⟨2, ![4096, 128]⟩
abbrev S8x4096x512 : Shape := ⟨3, ![8, 4096, 512]⟩
abbrev S1x256x512 : Shape := ⟨3, ![1, 256, 512]⟩
abbrev S1x256x128 : Shape := ⟨3, ![1, 256, 128]⟩
abbrev S1x4096x128 : Shape := ⟨3, ![1, 4096, 128]⟩
abbrev S256x512 : Shape := ⟨2, ![256, 512]⟩
abbrev S256x1 : Shape := ⟨2, ![256, 1]⟩
abbrev S1x256 : Shape := ⟨2, ![1, 256]⟩
abbrev S256x256 : Shape := ⟨2, ![256, 256]⟩
abbrev S1024x256 : Shape := ⟨2, ![1024, 256]⟩
abbrev S1024x128 : Shape := ⟨2, ![1024, 128]⟩
abbrev S128x256 : Shape := ⟨2, ![128, 256]⟩
abbrev S64x256 : Shape := ⟨2, ![64, 256]⟩
abbrev S8x256 : Shape := ⟨2, ![8, 256]⟩
abbrev S16x256 : Shape := ⟨2, ![16, 256]⟩
abbrev S48x256 : Shape := ⟨2, ![48, 256]⟩
abbrev S32x256 : Shape := ⟨2, ![32, 256]⟩
abbrev S1x512x128 : Shape := ⟨3, ![1, 512, 128]⟩
abbrev S512x128 : Shape := ⟨2, ![512, 128]⟩
abbrev S512x256 : Shape := ⟨2, ![512, 256]⟩
abbrev S1x512 : Shape := ⟨2, ![1, 512]⟩
abbrev S1024x512 : Shape := ⟨2, ![1024, 512]⟩
abbrev S1x768 : Shape := ⟨2, ![1, 768]⟩
abbrev S256x768 : Shape := ⟨2, ![256, 768]⟩
abbrev S1024x768 : Shape := ⟨2, ![1024, 768]⟩
abbrev S1x768x128 : Shape := ⟨3, ![1, 768, 128]⟩
abbrev S768x128 : Shape := ⟨2, ![768, 128]⟩

abbrev nBuf : Space → Nat
  | .hbm => 141
  | .vmem => 26
  | .smem => 0
  | _ => 0

abbrev hbmTy0_0 (i : Nat) : BufTy := match i % 128 with
  | 0 => ⟨S8x4096x8x64, .f32⟩
  | 1 => ⟨S8x255x2x64, .f32⟩
  | 2 => ⟨S8x255x2x64, .f32⟩
  | 3 => ⟨S8x4096x2x64, .f32⟩
  | 4 => ⟨S8x4096x2x64, .f32⟩
  | 5 => ⟨S8x4096x2x64, .f32⟩
  | 6 => ⟨S8x4096x2x64, .f32⟩
  | 7 => ⟨S8x4096x8x3, .f32⟩
  | 8 => ⟨S8x4096x24, .f32⟩
  | 9 => ⟨S_, .i32⟩
  | 10 => ⟨S_, .f32⟩
  | 11 => ⟨S8x4096x128, .f32⟩
  | 12 => ⟨S8x255x128, .f32⟩
  | 13 => ⟨S_, .i32⟩
  | 14 => ⟨S_, .f32⟩
  | 15 => ⟨S8x256x128, .f32⟩
  | 16 => ⟨S8x255x128, .f32⟩
  | 17 => ⟨S_, .i32⟩
  | 18 => ⟨S_, .f32⟩
  | 19 => ⟨S8x256x128, .f32⟩
  | 20 => ⟨S8x4096x128, .f32⟩
  | 21 => ⟨S8x4096x128, .f32⟩
  | 22 => ⟨S256x128, .i32⟩
  | 23 => ⟨S_, .i32⟩
  | 24 => ⟨S256x128, .i32⟩
  | 25 => ⟨S256x128, .i32⟩
  | 26 => ⟨S256x128, .i32⟩
  | 27 => ⟨S_, .i32⟩
  | 28 => ⟨S256x128, .i32⟩
  | 29 => ⟨S256x128, .i32⟩
  | 30 => ⟨S_, .i32⟩
  | 31 => ⟨S256x128, .i32⟩
  | 32 => ⟨S256x128, .i32⟩
  | 33 => ⟨S256x128, .i1⟩
  | 34 => ⟨S_, .i32⟩
  | 35 => ⟨S256x128, .i32⟩
  | 36 => ⟨S256x128, .i32⟩
  | 37 => ⟨S256x128, .i1⟩
  | 38 => ⟨S256x128, .i1⟩
  | 39 => ⟨S_, .i32⟩
  | 40 => ⟨S256x128, .i32⟩
  | 41 => ⟨S256x128, .i1⟩
  | 42 => ⟨S256x128, .i1⟩
  | 43 => ⟨S_, .i32⟩
  | 44 => ⟨S256x128, .i32⟩
  | 45 => ⟨S256x128, .i1⟩
  | 46 => ⟨S256x128, .i1⟩
  | 47 => ⟨S_, .f32⟩
  | 48 => ⟨S_, .f32⟩
  | 49 => ⟨S256x128, .f32⟩
  | 50 => ⟨S256x128, .f32⟩
  | 51 => ⟨S256x128, .f32⟩
  | 52 => ⟨S4096x128, .i32⟩
  | 53 => ⟨S_, .i32⟩
  | 54 => ⟨S_, .i32⟩
  | 55 => ⟨S4096x128, .i32⟩
  | 56 => ⟨S4096x128, .i32⟩
  | 57 => ⟨S4096x128, .i32⟩
  | 58 => ⟨S_, .i32⟩
  | 59 => ⟨S4096x128, .i32⟩
  | 60 => ⟨S4096x128, .i1⟩
  | 61 => ⟨S4096x128, .i32⟩
  | 62 => ⟨S4096x128, .i32⟩
  | 63 => ⟨S_, .i32⟩
  | 64 => ⟨S4096x128, .i32⟩
  | 65 => ⟨S4096x128, .i1⟩
  | 66 => ⟨S4096x128, .i1⟩
  | 67 => ⟨S_, .i32⟩
  | 68 => ⟨S4096x128, .i32⟩
  | 69 => ⟨S4096x128, .i32⟩
  | 70 => ⟨S4096x128, .i32⟩
  | 71 => ⟨S4096x128, .i32⟩
  | 72 => ⟨S4096x128, .i1⟩
  | 73 => ⟨S_, .f32⟩
  | 74 => ⟨S_, .f32⟩
  | 75 => ⟨S4096x128, .f32⟩
  | 76 => ⟨S4096x128, .f32⟩
  | 77 => ⟨S4096x128, .f32⟩
  | 78 => ⟨S256x128, .bf16⟩
  | 79 => ⟨S4096x128, .bf16⟩
  | 80 => ⟨S8x4096x512, .f32⟩
  | 81 => ⟨S8x256x128, .bf16⟩
  | 82 => ⟨S8x256x128, .i32⟩
  | 83 => ⟨S_, .i32⟩
  | 84 => ⟨S8x256x128, .i32⟩
  | 85 => ⟨S8x256x128, .i1⟩
  | 86 => ⟨S_, .f32⟩
  | 87 => ⟨S_, .f32⟩
  | 88 => ⟨S8x256x128, .f32⟩
  | 89 => ⟨S8x256x128, .f32⟩
  | 90 => ⟨S8x256x128, .bf16⟩
  | 91 => ⟨S8x256x128, .i32⟩
  | 92 => ⟨S_, .i32⟩
  | 93 => ⟨S8x256x128, .i32⟩
  | 94 => ⟨S8x256x128, .i1⟩
  | 95 => ⟨S_, .f32⟩
  | 96 => ⟨S_, .f32⟩
  | 97 => ⟨S8x256x128, .f32⟩
  | 98 => ⟨S8x256x128, .f32⟩
  | 99 => ⟨S8x256x128, .bf16⟩
  | 100 => ⟨S8x4096x128, .f32⟩
  | 101 => ⟨S8x4096x128, .bf16⟩
  | 102 => ⟨S8x4096x128, .i32⟩
  | 103 => ⟨S_, .i32⟩
  | 104 => ⟨S8x4096x128, .i32⟩
  | 105 => ⟨S8x4096x128, .i1⟩
  | 106 => ⟨S_, .f32⟩
  | 107 => ⟨S_, .f32⟩
  | 108 => ⟨S8x4096x128, .f32⟩
  | 109 => ⟨S8x4096x128, .f32⟩
  | 110 => ⟨S8x4096x128, .bf16⟩
  | 111 => ⟨S8x4096x128, .i32⟩
  | 112 => ⟨S_, .i32⟩
  | 113 => ⟨S8x4096x128, .i32⟩
  | 114 => ⟨S8x4096x128, .i1⟩
  | 115 => ⟨S_, .f32⟩
  | 116 => ⟨S_, .f32⟩
  | 117 => ⟨S8x4096x128, .f32⟩
  | 118 => ⟨S8x4096x128, .f32⟩
  | 119 => ⟨S8x4096x128, .bf16⟩
  | 120 => ⟨S8x4096x128, .f32⟩
  | 121 => ⟨S8x4096x128, .bf16⟩
  | 122 => ⟨S8x4096x128, .i32⟩
  | 123 => ⟨S_, .i32⟩
  | 124 => ⟨S8x4096x128, .i32⟩
  | 125 => ⟨S8x4096x128, .i1⟩
  | 126 => ⟨S_, .f32⟩
  | 127 => ⟨S_, .f32⟩
  | _ => ⟨S8x4096x8x64, .f32⟩

abbrev hbmTy0_1 (i : Nat) : BufTy := match i % 128 with
  | 0 => ⟨S8x4096x128, .f32⟩
  | 1 => ⟨S8x4096x128, .f32⟩
  | 2 => ⟨S8x4096x128, .bf16⟩
  | 3 => ⟨S8x4096x128, .i32⟩
  | 4 => ⟨S_, .i32⟩
  | 5 => ⟨S8x4096x128, .i32⟩
  | 6 => ⟨S8x4096x128, .i1⟩
  | 7 => ⟨S_, .f32⟩
  | 8 => ⟨S_, .f32⟩
  | 9 => ⟨S8x4096x128, .f32⟩
  | 10 => ⟨S8x4096x128, .f32⟩
  | 11 => ⟨S8x4096x128, .bf16⟩
  | 12 => ⟨S8x4096x512, .bf16⟩
  | _ => ⟨S8x4096x8x64, .f32⟩

abbrev hbmTy (i : Nat) : BufTy := match i / 128 with
  | 0 => hbmTy0_0 i
  | 1 => hbmTy0_1 i
  | _ => ⟨S8x4096x8x64, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S256x128, .bf16⟩
  | .local _ .vmem, ⟨23, _⟩ => ⟨S4096x128, .bf16⟩
  | .local _ .vmem, ⟨24, _⟩ => ⟨S1x256x512, .bf16⟩
  | .local _ .vmem, ⟨25, _⟩ => ⟨S1x256x512, .bf16⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call2_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v27 : Ref sig .tc := ⟨.hbm, 51, rfl⟩
abbrev main_v28 : Ref sig .tc := ⟨.hbm, 52, rfl⟩
abbrev main_c_9 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_v5 : Ref sig .tc := ⟨.hbm, 59, rfl⟩
abbrev main_call4_v6 : Ref sig .tc := ⟨.hbm, 60, rfl⟩
abbrev main_call4_v7 : Ref sig .tc := ⟨.hbm, 61, rfl⟩
abbrev main_call4_v8 : Ref sig .tc := ⟨.hbm, 62, rfl⟩
abbrev main_call4_c : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_c_0 : Ref sig .tc := ⟨.hbm, 67, rfl⟩
abbrev main_call4_v12 : Ref sig .tc := ⟨.hbm, 68, rfl⟩
abbrev main_call4_v13 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_10 : Ref sig .tc := ⟨.hbm, 73, rfl⟩
abbrev main_cst_11 : Ref sig .tc := ⟨.hbm, 74, rfl⟩
abbrev main_call5_v0 : Ref sig .tc := ⟨.hbm, 75, rfl⟩
abbrev main_call5_v1 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_12 : Ref sig .tc := ⟨.hbm, 83, rfl⟩
abbrev main_v38 : Ref sig .tc := ⟨.hbm, 84, rfl⟩
abbrev main_v39 : Ref sig .tc := ⟨.hbm, 85, rfl⟩
abbrev main_cst_13 : Ref sig .tc := ⟨.hbm, 86, rfl⟩
abbrev main_call6_v0 : Ref sig .tc := ⟨.hbm, 87, rfl⟩
abbrev main_call6_v1 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c_14 : Ref sig .tc := ⟨.hbm, 92, rfl⟩
abbrev main_v43 : Ref sig .tc := ⟨.hbm, 93, rfl⟩
abbrev main_v44 : Ref sig .tc := ⟨.hbm, 94, rfl⟩
abbrev main_cst_15 : Ref sig .tc := ⟨.hbm, 95, rfl⟩
abbrev main_call7_v0 : Ref sig .tc := ⟨.hbm, 96, rfl⟩
abbrev main_call7_v1 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_c_16 : Ref sig .tc := ⟨.hbm, 103, rfl⟩
abbrev main_v50 : Ref sig .tc := ⟨.hbm, 104, rfl⟩
abbrev main_v51 : Ref sig .tc := ⟨.hbm, 105, rfl⟩
abbrev main_cst_17 : Ref sig .tc := ⟨.hbm, 106, rfl⟩
abbrev main_call8_v0 : Ref sig .tc := ⟨.hbm, 107, rfl⟩
abbrev main_call8_v1 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_c_18 : Ref sig .tc := ⟨.hbm, 112, rfl⟩
abbrev main_v55 : Ref sig .tc := ⟨.hbm, 113, rfl⟩
abbrev main_v56 : Ref sig .tc := ⟨.hbm, 114, rfl⟩
abbrev main_cst_19 : Ref sig .tc := ⟨.hbm, 115, rfl⟩
abbrev main_call9_v0 : Ref sig .tc := ⟨.hbm, 116, rfl⟩
abbrev main_call9_v1 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_c_20 : Ref sig .tc := ⟨.hbm, 123, rfl⟩
abbrev main_v62 : Ref sig .tc := ⟨.hbm, 124, rfl⟩
abbrev main_v63 : Ref sig .tc := ⟨.hbm, 125, rfl⟩
abbrev main_cst_21 : Ref sig .tc := ⟨.hbm, 126, rfl⟩
abbrev main_call10_v0 : Ref sig .tc := ⟨.hbm, 127, rfl⟩
abbrev main_call10_v1 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_c_22 : Ref sig .tc := ⟨.hbm, 132, rfl⟩
abbrev main_v67 : Ref sig .tc := ⟨.hbm, 133, rfl⟩
abbrev main_v68 : Ref sig .tc := ⟨.hbm, 134, rfl⟩
abbrev main_cst_23 : Ref sig .tc := ⟨.hbm, 135, rfl⟩
abbrev main_call11_v0 : Ref sig .tc := ⟨.hbm, 136, rfl⟩
abbrev main_call11_v1 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_88 : BitVec 32 := 1#32
  ⟨c0_i32_86, v276, c1_i32_88⟩
def k0_mult1 (i : grid0.Coords) (k0_t1 : Fin (k0_t1_loop i).trips) : BitVec 32 :=
  let c0_i32_145 : BitVec 32 := 0#32
  let c2_i32_144 : BitVec 32 := 2#32
  let c0_i32_86 : BitVec 32 := 0#32
  let c1_i32_88 : BitVec 32 := 1#32
  let arg16 : BitVec 32 := Scf.iv c0_i32_86 c1_i32_88 k0_t1
  let v470 : BitVec 32 := Scalar.muli c2_i32_144 arg16
  let v471 : BitVec 32 := Scalar.addi c0_i32_145 v470
  let c512_i32_149 : BitVec 32 := 512#32
  let v475 : BitVec 32 := Scalar.muli v471 c512_i32_149
  v475
def k0_off1 (i : grid0.Coords) (k0_t1 : Fin (k0_t1_loop i).trips) : Fin 3 → Nat :=
  let c0_150 : Index := 0#32
  let c0_i32_145 : BitVec 32 := 0#32
  let c2_i32_144 : BitVec 32 := 2#32
  let c0_i32_86 : BitVec 32 := 0#32
  let c1_i32_88 : BitVec 32 := 1#32
  let arg16 : BitVec 32 := Scf.iv c0_i32_86 c1_i32_88 k0_t1
  let v470 : BitVec 32 := Scalar.muli c2_i32_144 arg16
  let v471 : BitVec 32 := Scalar.addi c0_i32_145 v470
  let c512_i32_149 : BitVec 32 := 512#32
  let v475 : BitVec 32 := Scalar.muli v471 c512_i32_149
  let v476 : BitVec 32 := v475
  let v477 : Index := Scalar.indexCast v476
  let c0_151 : Index := 0#32
  ![0, v477.toNat, 0]
def k0_off2 (i : grid0.Coords) (k0_t1 : Fin (k0_t1_loop i).trips) : Fin 2 → Nat :=
  let c0_i32_145 : BitVec 32 := 0#32
  let c2_i32_144 : BitVec 32 := 2#32
  let c0_i32_86 : BitVec 32 := 0#32
  let c1_i32_88 : BitVec 32 := 1#32
  let arg16 : BitVec 32 := Scf.iv c0_i32_86 c1_i32_88 k0_t1
  let v470 : BitVec 32 := Scalar.muli c2_i32_144 arg16
  let v471 : BitVec 32 := Scalar.addi c0_i32_145 v470
  let c512_i32_149 : BitVec 32 := 512#32
  let v475 : BitVec 32 := Scalar.muli v471 c512_i32_149
  let v476 : BitVec 32 := v475
  let v480 : Index := Scalar.indexCast v476
  let c0_152 : Index := 0#32
  ![v480.toNat, 0]
def k0_mult2 (i : grid0.Coords) (k0_t1 : Fin (k0_t1_loop i).trips) : BitVec 32 :=
  let c0_i32_147 : BitVec 32 := 0#32
  let c2_i32_146 : BitVec 32 := 2#32
  let c0_i32_86 : BitVec 32 := 0#32
  let c1_i32_88 : BitVec 32 := 1#32
  let arg16 : BitVec 32 := Scf.iv c0_i32_86 c1_i32_88 k0_t1
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_157 : BitVec 32 := 512#32
  let v498 : BitVec 32 := Scalar.muli v474 c512_i32_157
  v498
def k0_off3 (i : grid0.Coords) (k0_t1 : Fin (k0_t1_loop i).trips) : Fin 3 → Nat :=
  let c0_158 : Index := 0#32
  let c0_i32_147 : BitVec 32 := 0#32
  let c2_i32_146 : BitVec 32 := 2#32
  let c0_i32_86 : BitVec 32 := 0#32
  let c1_i32_88 : BitVec 32 := 1#32
  let arg16 : BitVec 32 := Scf.iv c0_i32_86 c1_i32_88 k0_t1
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_157 : BitVec 32 := 512#32
  let v498 : BitVec 32 := Scalar.muli v474 c512_i32_157
  let v499 : BitVec 32 := v498
  let v500 : Index := Scalar.indexCast v499
  let c0_159 : Index := 0#32
  ![0, v500.toNat, 0]
def k0_off4 (i : grid0.Coords) (k0_t1 : Fin (k0_t1_loop i).trips) : Fin 2 → Nat :=
  let c0_i32_147 : BitVec 32 := 0#32
  let c2_i32_146 : BitVec 32 := 2#32
  let c0_i32_86 : BitVec 32 := 0#32
  let c1_i32_88 : BitVec 32 := 1#32
  let arg16 : BitVec 32 := Scf.iv c0_i32_86 c1_i32_88 k0_t1
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_157 : BitVec 32 := 512#32
  let v498 : BitVec 32 := Scalar.muli v474 c512_i32_157
  let v499 : BitVec 32 := v498
  let v503 : Index := Scalar.indexCast v499
  let c0_160 : Index := 0#32
  ![v503.toNat, 0]
def k0_mult3 (i : grid0.Coords) (k0_t1 : Fin (k0_t1_loop i).trips) : BitVec 32 :=
  let c0_i32_145 : BitVec 32 := 0#32
  let c2_i32_144 : BitVec 32 := 2#32
  let c0_i32_86 : BitVec 32 := 0#32
  let c1_i32_88 : BitVec 32 := 1#32
  let arg16 : BitVec 32 := Scf.iv c0_i32_86 c1_i32_88 k0_t1
  let v470 : BitVec 32 := Scalar.muli c2_i32_144 arg16
  let v471 : BitVec 32 := Scalar.addi c0_i32_145 v470
  let c512_i32_165 : BitVec 32 := 512#32
  let v523 : BitVec 32 := Scalar.muli v471 c512_i32_165
  v523
def k0_mult4 (i : grid0.Coords) (k0_t1 : Fin (k0_t1_loop i).trips) : BitVec 32 :=
  let c0_i32_145 : BitVec 32 := 0#32
  let c2_i32_144 : BitVec 32 := 2#32
  let c0_i32_86 : BitVec 32 := 0#32
  let c1_i32_88 : BitVec 32 := 1#32
  let arg16 : BitVec 32 := Scf.iv c0_i32_86 c1_i32_88 k0_t1
  let v470 : BitVec 32 := Scalar.muli c2_i32_144 arg16
  let v471 : BitVec 32 := Scalar.addi c0_i32_145 v470
  let c512_i32_169 : BitVec 32 := 512#32
  let v532 : BitVec 32 := Scalar.muli v471 c512_i32_169
  v532
def k0_mult5 (i : grid0.Coords) (k0_t1 : Fin (k0_t1_loop i).trips) : BitVec 32 :=
  let c0_i32_147 : BitVec 32 := 0#32
  let c2_i32_146 : BitVec 32 := 2#32
  let c0_i32_86 : BitVec 32 := 0#32
  let c1_i32_88 : BitVec 32 := 1#32
  let arg16 : BitVec 32 := Scf.iv c0_i32_86 c1_i32_88 k0_t1
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_173 : BitVec 32 := 512#32
  let v541 : BitVec 32 := Scalar.muli v474 c512_i32_173
  v541
def k0_mult6 (i : grid0.Coords) (k0_t1 : Fin (k0_t1_loop i).trips) : BitVec 32 :=
  let c0_i32_147 : BitVec 32 := 0#32
  let c2_i32_146 : BitVec 32 := 2#32
  let c0_i32_86 : BitVec 32 := 0#32
  let c1_i32_88 : BitVec 32 := 1#32
  let arg16 : BitVec 32 := Scf.iv c0_i32_86 c1_i32_88 k0_t1
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_177 : BitVec 32 := 512#32
  let v550 : BitVec 32 := Scalar.muli v474 c512_i32_177
  v550
@[reducible] def k0_t2_loop (i : grid0.Coords) : Scf.Loop 32 :=
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let v273 : BitVec 32 := Scalar.addi c0_i32_86 v272
  let c1_i32_89 : BitVec 32 := 1#32
  ⟨v276, v273, c1_i32_89⟩
def k0_mult7 (i : grid0.Coords) (k0_t2 : Fin (k0_t2_loop i).trips) : BitVec 32 :=
  let c0_i32_145 : BitVec 32 := 0#32
  let c2_i32_144 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v470 : BitVec 32 := Scalar.muli c2_i32_144 arg16
  let v471 : BitVec 32 := Scalar.addi c0_i32_145 v470
  let c512_i32_149 : BitVec 32 := 512#32
  let v475 : BitVec 32 := Scalar.muli v471 c512_i32_149
  v475
def k0_off5 (i : grid0.Coords) (k0_t2 : Fin (k0_t2_loop i).trips) : Fin 3 → Nat :=
  let c0_150 : Index := 0#32
  let c0_i32_145 : BitVec 32 := 0#32
  let c2_i32_144 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v470 : BitVec 32 := Scalar.muli c2_i32_144 arg16
  let v471 : BitVec 32 := Scalar.addi c0_i32_145 v470
  let c512_i32_149 : BitVec 32 := 512#32
  let v475 : BitVec 32 := Scalar.muli v471 c512_i32_149
  let v476 : BitVec 32 := v475
  let v477 : Index := Scalar.indexCast v476
  let c0_151 : Index := 0#32
  ![0, v477.toNat, 0]
def k0_off6 (i : grid0.Coords) (k0_t2 : Fin (k0_t2_loop i).trips) : Fin 2 → Nat :=
  let c0_i32_145 : BitVec 32 := 0#32
  let c2_i32_144 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v470 : BitVec 32 := Scalar.muli c2_i32_144 arg16
  let v471 : BitVec 32 := Scalar.addi c0_i32_145 v470
  let c512_i32_149 : BitVec 32 := 512#32
  let v475 : BitVec 32 := Scalar.muli v471 c512_i32_149
  let v476 : BitVec 32 := v475
  let v480 : Index := Scalar.indexCast v476
  let c0_152 : Index := 0#32
  ![v480.toNat, 0]
def k0_mult8 (i : grid0.Coords) (k0_t2 : Fin (k0_t2_loop i).trips) : BitVec 32 :=
  let c0_i32_147 : BitVec 32 := 0#32
  let c2_i32_146 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_157 : BitVec 32 := 512#32
  let v498 : BitVec 32 := Scalar.muli v474 c512_i32_157
  v498
def k0_off7 (i : grid0.Coords) (k0_t2 : Fin (k0_t2_loop i).trips) : Fin 3 → Nat :=
  let c0_158 : Index := 0#32
  let c0_i32_147 : BitVec 32 := 0#32
  let c2_i32_146 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_157 : BitVec 32 := 512#32
  let v498 : BitVec 32 := Scalar.muli v474 c512_i32_157
  let v499 : BitVec 32 := v498
  let v500 : Index := Scalar.indexCast v499
  let c0_159 : Index := 0#32
  ![0, v500.toNat, 0]
def k0_off8 (i : grid0.Coords) (k0_t2 : Fin (k0_t2_loop i).trips) : Fin 2 → Nat :=
  let c0_i32_147 : BitVec 32 := 0#32
  let c2_i32_146 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_157 : BitVec 32 := 512#32
  let v498 : BitVec 32 := Scalar.muli v474 c512_i32_157
  let v499 : BitVec 32 := v498
  let v503 : Index := Scalar.indexCast v499
  let c0_160 : Index := 0#32
  ![v503.toNat, 0]
def k0_mult9 (i : grid0.Coords) (k0_t2 : Fin (k0_t2_loop i).trips) : BitVec 32 :=
  let c0_i32_145 : BitVec 32 := 0#32
  let c2_i32_144 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v470 : BitVec 32 := Scalar.muli c2_i32_144 arg16
  let v471 : BitVec 32 := Scalar.addi c0_i32_145 v470
  let c512_i32_165 : BitVec 32 := 512#32
  let v523 : BitVec 32 := Scalar.muli v471 c512_i32_165
  v523
def k0_mult10 (i : grid0.Coords) (k0_t2 : Fin (k0_t2_loop i).trips) : BitVec 32 :=
  let c0_i32_145 : BitVec 32 := 0#32
  let c2_i32_144 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v470 : BitVec 32 := Scalar.muli c2_i32_144 arg16
  let v471 : BitVec 32 := Scalar.addi c0_i32_145 v470
  let c512_i32_169 : BitVec 32 := 512#32
  let v532 : BitVec 32 := Scalar.muli v471 c512_i32_169
  v532
def k0_mult11 (i : grid0.Coords) (k0_t2 : Fin (k0_t2_loop i).trips) : BitVec 32 :=
  let c0_i32_147 : BitVec 32 := 0#32
  let c2_i32_146 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_173 : BitVec 32 := 512#32
  let v541 : BitVec 32 := Scalar.muli v474 c512_i32_173
  v541
def k0_mult12 (i : grid0.Coords) (k0_t2 : Fin (k0_t2_loop i).trips) : BitVec 32 :=
  let c0_i32_147 : BitVec 32 := 0#32
  let c2_i32_146 : BitVec 32 := 2#32
  let c0_i32_86 : BitVec 32 := 0#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v272 : BitVec 32 := Scalar.subi v271 c0_i32_86
  let c1_i32_87 : BitVec 32 := 1#32
  let v274 : BitVec 32 := Scalar.divsi v272 c1_i32_87
  let v275 : BitVec 32 := Scalar.muli v274 c1_i32_87
  let v276 : BitVec 32 := Scalar.addi c0_i32_86 v275
  let c1_i32_89 : BitVec 32 := 1#32
  let arg16 : BitVec 32 := Scf.iv v276 c1_i32_89 k0_t2
  let v472 : BitVec 32 := Scalar.muli c2_i32_146 arg16
  let v473 : BitVec 32 := Scalar.addi c0_i32_147 v472
  let c1_i32_148 : BitVec 32 := 1#32
  let v474 : BitVec 32 := Scalar.addi v473 c1_i32_148
  let c512_i32_177 : BitVec 32 := 512#32
  let v550 : BitVec 32 := Scalar.muli v474 c512_i32_177
  v550
@[reducible] def k0_t3_loop (i : grid0.Coords) : Scf.Loop 32 :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let v281 : BitVec 32 := Scalar.subi v251 v280
  let c1_i32_92 : BitVec 32 := 1#32
  let v283 : BitVec 32 := Scalar.divsi v281 c1_i32_92
  let v284 : BitVec 32 := Scalar.muli v283 c1_i32_92
  let v285 : BitVec 32 := Scalar.addi v280 v284
  let c1_i32_93 : BitVec 32 := 1#32
  ⟨v280, v285, c1_i32_93⟩
def k0_mult13 (i : grid0.Coords) (k0_t3 : Fin (k0_t3_loop i).trips) : BitVec 32 :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let c1_i32_93 : BitVec 32 := 1#32
  let arg16 : BitVec 32 := Scf.iv v280 c1_i32_93 k0_t3
  let c512_i32_144 : BitVec 32 := 512#32
  let v470 : BitVec 32 := Scalar.muli arg16 c512_i32_144
  v470
def k0_off9 (i : grid0.Coords) (k0_t3 : Fin (k0_t3_loop i).trips) : Fin 3 → Nat :=
  let c0_145 : Index := 0#32
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let c1_i32_93 : BitVec 32 := 1#32
  let arg16 : BitVec 32 := Scf.iv v280 c1_i32_93 k0_t3
  let c512_i32_144 : BitVec 32 := 512#32
  let v470 : BitVec 32 := Scalar.muli arg16 c512_i32_144
  let v471 : BitVec 32 := v470
  let v472 : Index := Scalar.indexCast v471
  let c0_146 : Index := 0#32
  ![0, v472.toNat, 0]
def k0_off10 (i : grid0.Coords) (k0_t3 : Fin (k0_t3_loop i).trips) : Fin 2 → Nat :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let c1_i32_93 : BitVec 32 := 1#32
  let arg16 : BitVec 32 := Scf.iv v280 c1_i32_93 k0_t3
  let c512_i32_144 : BitVec 32 := 512#32
  let v470 : BitVec 32 := Scalar.muli arg16 c512_i32_144
  let v471 : BitVec 32 := v470
  let v475 : Index := Scalar.indexCast v471
  let c0_147 : Index := 0#32
  ![v475.toNat, 0]
def k0_mult14 (i : grid0.Coords) (k0_t3 : Fin (k0_t3_loop i).trips) : BitVec 32 :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let c1_i32_93 : BitVec 32 := 1#32
  let arg16 : BitVec 32 := Scf.iv v280 c1_i32_93 k0_t3
  let c512_i32_152 : BitVec 32 := 512#32
  let v495 : BitVec 32 := Scalar.muli arg16 c512_i32_152
  v495
def k0_mult15 (i : grid0.Coords) (k0_t3 : Fin (k0_t3_loop i).trips) : BitVec 32 :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let c1_i32_93 : BitVec 32 := 1#32
  let arg16 : BitVec 32 := Scf.iv v280 c1_i32_93 k0_t3
  let c512_i32_156 : BitVec 32 := 512#32
  let v504 : BitVec 32 := Scalar.muli arg16 c512_i32_156
  v504
@[reducible] def k0_t4_loop (i : grid0.Coords) : Scf.Loop 32 :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let v281 : BitVec 32 := Scalar.subi v251 v280
  let c1_i32_92 : BitVec 32 := 1#32
  let v283 : BitVec 32 := Scalar.divsi v281 c1_i32_92
  let v284 : BitVec 32 := Scalar.muli v283 c1_i32_92
  let v285 : BitVec 32 := Scalar.addi v280 v284
  let v282 : BitVec 32 := Scalar.addi v280 v281
  let c1_i32_94 : BitVec 32 := 1#32
  ⟨v285, v282, c1_i32_94⟩
def k0_mult16 (i : grid0.Coords) (k0_t4 : Fin (k0_t4_loop i).trips) : BitVec 32 :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let v281 : BitVec 32 := Scalar.subi v251 v280
  let c1_i32_92 : BitVec 32 := 1#32
  let v283 : BitVec 32 := Scalar.divsi v281 c1_i32_92
  let v284 : BitVec 32 := Scalar.muli v283 c1_i32_92
  let v285 : BitVec 32 := Scalar.addi v280 v284
  let c1_i32_94 : BitVec 32 := 1#32
  let arg16 : BitVec 32 := Scf.iv v285 c1_i32_94 k0_t4
  let c512_i32_144 : BitVec 32 := 512#32
  let v470 : BitVec 32 := Scalar.muli arg16 c512_i32_144
  v470
def k0_off11 (i : grid0.Coords) (k0_t4 : Fin (k0_t4_loop i).trips) : Fin 3 → Nat :=
  let c0_145 : Index := 0#32
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let v281 : BitVec 32 := Scalar.subi v251 v280
  let c1_i32_92 : BitVec 32 := 1#32
  let v283 : BitVec 32 := Scalar.divsi v281 c1_i32_92
  let v284 : BitVec 32 := Scalar.muli v283 c1_i32_92
  let v285 : BitVec 32 := Scalar.addi v280 v284
  let c1_i32_94 : BitVec 32 := 1#32
  let arg16 : BitVec 32 := Scf.iv v285 c1_i32_94 k0_t4
  let c512_i32_144 : BitVec 32 := 512#32
  let v470 : BitVec 32 := Scalar.muli arg16 c512_i32_144
  let v471 : BitVec 32 := v470
  let v472 : Index := Scalar.indexCast v471
  let c0_146 : Index := 0#32
  ![0, v472.toNat, 0]
def k0_off12 (i : grid0.Coords) (k0_t4 : Fin (k0_t4_loop i).trips) : Fin 2 → Nat :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let v281 : BitVec 32 := Scalar.subi v251 v280
  let c1_i32_92 : BitVec 32 := 1#32
  let v283 : BitVec 32 := Scalar.divsi v281 c1_i32_92
  let v284 : BitVec 32 := Scalar.muli v283 c1_i32_92
  let v285 : BitVec 32 := Scalar.addi v280 v284
  let c1_i32_94 : BitVec 32 := 1#32
  let arg16 : BitVec 32 := Scf.iv v285 c1_i32_94 k0_t4
  let c512_i32_144 : BitVec 32 := 512#32
  let v470 : BitVec 32 := Scalar.muli arg16 c512_i32_144
  let v471 : BitVec 32 := v470
  let v475 : Index := Scalar.indexCast v471
  let c0_147 : Index := 0#32
  ![v475.toNat, 0]
def k0_mult17 (i : grid0.Coords) (k0_t4 : Fin (k0_t4_loop i).trips) : BitVec 32 :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let v281 : BitVec 32 := Scalar.subi v251 v280
  let c1_i32_92 : BitVec 32 := 1#32
  let v283 : BitVec 32 := Scalar.divsi v281 c1_i32_92
  let v284 : BitVec 32 := Scalar.muli v283 c1_i32_92
  let v285 : BitVec 32 := Scalar.addi v280 v284
  let c1_i32_94 : BitVec 32 := 1#32
  let arg16 : BitVec 32 := Scf.iv v285 c1_i32_94 k0_t4
  let c512_i32_152 : BitVec 32 := 512#32
  let v495 : BitVec 32 := Scalar.muli arg16 c512_i32_152
  v495
def k0_mult18 (i : grid0.Coords) (k0_t4 : Fin (k0_t4_loop i).trips) : BitVec 32 :=
  let c0_i32_91 : BitVec 32 := 0#32
  let c2_i32_90 : BitVec 32 := 2#32
  let arg1 : BitVec 32 := BitVec.ofNat 32 (i 1).val
  let c256_i32 : BitVec 32 := 256#32
  let v0 : BitVec 32 := Scalar.muli arg1 c256_i32
  let c256_i32_68 : BitVec 32 := 256#32
  let v232 : BitVec 32 := Scalar.addi v0 c256_i32_68
  let c1_i32_69 : BitVec 32 := 1#32
  let v233 : BitVec 32 := Scalar.subi v232 c1_i32_69
  let c0_i32_70 : BitVec 32 := 0#32
  let v235 : BitVec 1 := Scalar.cmpi .sgt v233 c0_i32_70
  let v236 : BitVec 32 := Scalar.extui v235
  let c0_i32_71 : BitVec 32 := 0#32
  let v237 : BitVec 1 := Scalar.cmpi .slt v233 c0_i32_71
  let v238 : BitVec 32 := Scalar.extui v237
  let v239 : BitVec 32 := Scalar.subi v236 v238
  let c512_i32 : BitVec 32 := 512#32
  let c0_i32_72 : BitVec 32 := 0#32
  let v240 : BitVec 1 := Scalar.cmpi .sgt c512_i32 c0_i32_72
  let v241 : BitVec 32 := Scalar.extui v240
  let c0_i32_73 : BitVec 32 := 0#32
  let v242 : BitVec 1 := Scalar.cmpi .slt c512_i32 c0_i32_73
  let v243 : BitVec 32 := Scalar.extui v242
  let v244 : BitVec 32 := Scalar.subi v241 v243
  let v245 : BitVec 1 := Scalar.cmpi .ne v239 v244
  let v246 : BitVec 32 := Scalar.remsi v233 c512_i32
  let c0_i32_74 : BitVec 32 := 0#32
  let v247 : BitVec 1 := Scalar.cmpi .ne v246 c0_i32_74
  let v248 : BitVec 1 := Scalar.andi v245 v247
  let v234 : BitVec 32 := Scalar.divsi v233 c512_i32
  let c1_i32_75 : BitVec 32 := 1#32
  let v249 : BitVec 32 := Scalar.subi v234 c1_i32_75
  let v250 : BitVec 32 := Scalar.select v248 v249 v234
  let c1_i32_76 : BitVec 32 := 1#32
  let v251 : BitVec 32 := Scalar.addi v250 c1_i32_76
  let c0_i32_79 : BitVec 32 := 0#32
  let v254 : BitVec 32 := Scalar.subi v251 c0_i32_79
  let c0_i32_80 : BitVec 32 := 0#32
  let v256 : BitVec 1 := Scalar.cmpi .sgt v254 c0_i32_80
  let v257 : BitVec 32 := Scalar.extui v256
  let c0_i32_81 : BitVec 32 := 0#32
  let v258 : BitVec 1 := Scalar.cmpi .slt v254 c0_i32_81
  let v259 : BitVec 32 := Scalar.extui v258
  let v260 : BitVec 32 := Scalar.subi v257 v259
  let c2_i32 : BitVec 32 := 2#32
  let c0_i32_82 : BitVec 32 := 0#32
  let v261 : BitVec 1 := Scalar.cmpi .sgt c2_i32 c0_i32_82
  let v262 : BitVec 32 := Scalar.extui v261
  let c0_i32_83 : BitVec 32 := 0#32
  let v263 : BitVec 1 := Scalar.cmpi .slt c2_i32 c0_i32_83
  let v264 : BitVec 32 := Scalar.extui v263
  let v265 : BitVec 32 := Scalar.subi v262 v264
  let v266 : BitVec 1 := Scalar.cmpi .ne v260 v265
  let v267 : BitVec 32 := Scalar.remsi v254 c2_i32
  let c0_i32_84 : BitVec 32 := 0#32
  let v268 : BitVec 1 := Scalar.cmpi .ne v267 c0_i32_84
  let v269 : BitVec 1 := Scalar.andi v266 v268
  let v255 : BitVec 32 := Scalar.divsi v254 c2_i32
  let c1_i32_85 : BitVec 32 := 1#32
  let v270 : BitVec 32 := Scalar.subi v255 c1_i32_85
  let v271 : BitVec 32 := Scalar.select v269 v270 v255
  let v279 : BitVec 32 := Scalar.muli c2_i32_90 v271
  let v280 : BitVec 32 := Scalar.addi c0_i32_91 v279
  let v281 : BitVec 32 := Scalar.subi v251 v280
  let c1_i32_92 : BitVec 32 := 1#32
  let v283 : BitVec 32 := Scalar.divsi v281 c1_i32_92
  let v284 : BitVec 32 := Scalar.muli v283 c1_i32_92
  let v285 : BitVec 32 := Scalar.addi v280 v284
  let c1_i32_94 : BitVec 32 := 1#32
  let arg16 : BitVec 32 := Scf.iv v285 c1_i32_94 k0_t4
  let c512_i32_156 : BitVec 32 := 512#32
  let v504 : BitVec 32 := Scalar.muli arg16 c512_i32_156
  v504
def k0_mult19 (i : grid0.Coords) : BitVec 32 :=
  let arg1 : BitVec 32 := BitVec.ofNat 32 (i 1).val
  let c256_i32 : BitVec 32 := 256#32
  let v0 : BitVec 32 := Scalar.muli arg1 c256_i32
  let c256_i32_95 : BitVec 32 := 256#32
  let v288 : BitVec 32 := Scalar.addi v0 c256_i32_95
  let c768_i32 : BitVec 32 := 768#32
  let v289 : BitVec 32 := Scalar.subi v288 c768_i32
  let c0_i32_96 : BitVec 32 := 0#32
  let v290 : BitVec 32 := Scalar.maxsi v289 c0_i32_96
  v290
def k0_off13 (i : grid0.Coords) : Fin 3 → Nat :=
  let c0_101 : Index := 0#32
  let arg1 : BitVec 32 := BitVec.ofNat 32 (i 1).val
  let c256_i32 : BitVec 32 := 256#32
  let v0 : BitVec 32 := Scalar.muli arg1 c256_i32
  let c256_i32_95 : BitVec 32 := 256#32
  let v288 : BitVec 32 := Scalar.addi v0 c256_i32_95
  let c768_i32 : BitVec 32 := 768#32
  let v289 : BitVec 32 := Scalar.subi v288 c768_i32
  let c0_i32_96 : BitVec 32 := 0#32
  let v290 : BitVec 32 := Scalar.maxsi v289 c0_i32_96
  let v291 : BitVec 32 := v290
  let v307 : Index := Scalar.indexCast v291
  let c0_102 : Index := 0#32
  ![0, v307.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "neg" => some ⊥
  | "scale" => some ((8⁻¹ * (Real.log 2)⁻¹ : ℝ) : EReal)
  | _ => none
-- ==== ReferenceIdeal.lean ====
abbrev S8x4096x8x64 : Shape := ⟨4, ![8, 4096, 8, 64]⟩
abbrev S8x255x2x64 : Shape := ⟨4, ![8, 255, 2, 64]⟩
abbrev S8x4096x2x64 : Shape := ⟨4, ![8, 4096, 2, 64]⟩
abbrev S8x4096x8x3 : Shape := ⟨4, ![8, 4096, 8, 3]⟩
abbrev S4096 : Shape := ⟨1, ![4096]⟩
abbrev S8x4096x2x4x64 : Shape := ⟨5, ![8, 4096, 2, 4, 64]⟩
abbrev S8x4096x2x4x3 : Shape := ⟨5, ![8, 4096, 2, 4, 3]⟩
abbrev S255 : Shape := ⟨1, ![255]⟩
abbrev S_ : Shape := ⟨0, ![]⟩
abbrev S8x2x255x4096x4 : Shape := ⟨5, ![8, 2, 255, 4096, 4]⟩
abbrev S8x2x4x4096x255 : Shape := ⟨5, ![8, 2, 4, 4096, 255]⟩
abbrev S1x255 : Shape := ⟨2, ![1, 255]⟩
abbrev S4096x1 : Shape := ⟨2, ![4096, 1]⟩
abbrev S4096x255 : Shape := ⟨2, ![4096, 255]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S255x1 : Shape := ⟨2, ![255, 1]⟩
abbrev S64 : Shape := ⟨1, ![64]⟩
abbrev S1x64 : Shape := ⟨2, ![1, 64]⟩
abbrev S255x64 : Shape := ⟨2, ![255, 64]⟩
abbrev S8x2x4096x255 : Shape := ⟨4, ![8, 2, 4096, 255]⟩
abbrev S8x2x4096x64 : Shape := ⟨4, ![8, 2, 4096, 64]⟩
abbrev S4096x64 : Shape := ⟨2, ![4096, 64]⟩
abbrev S8x2x4096x16 : Shape := ⟨4, ![8, 2, 4096, 16]⟩
abbrev S8x2x4096x16x1 : Shape := ⟨5, ![8, 2, 4096, 16, 1]⟩
abbrev S1x1x1x1x64 : Shape := ⟨5, ![1, 1, 1, 1, 64]⟩
abbrev S8x2x4096x16x64 : Shape := ⟨5, ![8, 2, 4096, 16, 64]⟩
abbrev S8x2x4096x64x1 : Shape := ⟨5, ![8, 2, 4096, 64, 1]⟩
abbrev S8x2x4096x64x64 : Shape := ⟨5, ![8, 2, 4096, 64, 64]⟩
abbrev S8x2x4096x4096 : Shape := ⟨4, ![8, 2, 4096, 4096]⟩
abbrev S8x2x4096x4096x4 : Shape := ⟨5, ![8, 2, 4096, 4096, 4]⟩
abbrev S8x2x4x4096x4096 : Shape := ⟨5, ![8, 2, 4, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S8x2x1x4096x4096 : Shape := ⟨5, ![8, 2, 1, 4096, 4096]⟩
abbrev S8x4096x2x4x1 : Shape := ⟨5, ![8, 4096, 2, 4, 1]⟩
abbrev S8x4096x512 : Shape := ⟨3, ![8, 4096, 512]⟩

abbrev nBuf : Space → Nat
  | .hbm => 233
  | .vmem => 0
  | .smem => 0
  | _ => 0

abbrev hbmTy0_0 (i : Nat) : BufTy := match i % 128 with
  | 0 => ⟨S8x4096x8x64, .f32⟩
  | 1 => ⟨S8x255x2x64, .f32⟩
  | 2 => ⟨S8x255x2x64, .f32⟩
  | 3 => ⟨S8x4096x2x64, .f32⟩
  | 4 => ⟨S8x4096x2x64, .f32⟩
  | 5 => ⟨S8x4096x2x64, .f32⟩
  | 6 => ⟨S8x4096x2x64, .f32⟩
  | 7 => ⟨S8x4096x8x3, .f32⟩
  | 8 => ⟨S4096, .i32⟩
  | 9 => ⟨S8x4096x2x4x64, .f32⟩
  | 10 => ⟨S8x4096x2x4x3, .f32⟩
  | 11 => ⟨S255, .i32⟩
  | 12 => ⟨S_, .i32⟩
  | 13 => ⟨S255, .i32⟩
  | 14 => ⟨S255, .i32⟩
  | 15 => ⟨S_, .i32⟩
  | 16 => ⟨S255, .i32⟩
  | 17 => ⟨S255, .i32⟩
  | 18 => ⟨S_, .i32⟩
  | 19 => ⟨S255, .i32⟩
  | 20 => ⟨S255, .i32⟩
  | 21 => ⟨S8x2x255x4096x4, .f32⟩
  | 22 => ⟨S8x2x4x4096x255, .f32⟩
  | 23 => ⟨S_, .f32⟩
  | 24 => ⟨S8x2x4x4096x255, .f32⟩
  | 25 => ⟨S8x2x4x4096x255, .f32⟩
  | 26 => ⟨S1x255, .i32⟩
  | 27 => ⟨S4096x1, .i32⟩
  | 28 => ⟨S4096x255, .i32⟩
  | 29 => ⟨S4096x255, .i32⟩
  | 30 => ⟨S4096x255, .i1⟩
  | 31 => ⟨S8x2x4x4096x255, .i1⟩
  | 32 => ⟨S_, .f32⟩
  | 33 => ⟨S8x2x4x4096x255, .f32⟩
  | 34 => ⟨S8x2x4x4096x255, .f32⟩
  | 35 => ⟨S_, .f32⟩
  | 36 => ⟨S8x2x4x4096, .f32⟩
  | 37 => ⟨S_, .f32⟩
  | 38 => ⟨S8x2x4x4096, .f32⟩
  | 39 => ⟨S8x2x4x4096, .f32⟩
  | 40 => ⟨S8x2x4x4096x1, .f32⟩
  | 41 => ⟨S8x2x4x4096x255, .f32⟩
  | 42 => ⟨S8x2x4x4096x255, .f32⟩
  | 43 => ⟨S8x2x4x4096x255, .f32⟩
  | 44 => ⟨S_, .f32⟩
  | 45 => ⟨S8x2x4x4096, .f32⟩
  | 46 => ⟨S8x2x4x4096x1, .f32⟩
  | 47 => ⟨S8x2x4x4096x255, .f32⟩
  | 48 => ⟨S8x2x4x4096x255, .f32⟩
  | 49 => ⟨S_, .f32⟩
  | 50 => ⟨S8x2x4x4096x255, .f32⟩
  | 51 => ⟨S8x2x4x4096x255, .f32⟩
  | 52 => ⟨S8x2x64x4x4096, .f32⟩
  | 53 => ⟨S8x4096x2x4x64, .f32⟩
  | 54 => ⟨S255, .i32⟩
  | 55 => ⟨S255x1, .i32⟩
  | 56 => ⟨S_, .i32⟩
  | 57 => ⟨S255x1, .i32⟩
  | 58 => ⟨S255x1, .i32⟩
  | 59 => ⟨S64, .i32⟩
  | 60 => ⟨S1x64, .i32⟩
  | 61 => ⟨S_, .i32⟩
  | 62 => ⟨S1x64, .i32⟩
  | 63 => ⟨S1x64, .i32⟩
  | 64 => ⟨S_, .i32⟩
  | 65 => ⟨S1x64, .i32⟩
  | 66 => ⟨S1x64, .i32⟩
  | 67 => ⟨S255x64, .i32⟩
  | 68 => ⟨S255x64, .i32⟩
  | 69 => ⟨S255x64, .i1⟩
  | 70 => ⟨S_, .i32⟩
  | 71 => ⟨S255x1, .i32⟩
  | 72 => ⟨S255x1, .i32⟩
  | 73 => ⟨S255x64, .i32⟩
  | 74 => ⟨S255x64, .i32⟩
  | 75 => ⟨S255x64, .i1⟩
  | 76 => ⟨S255x64, .i1⟩
  | 77 => ⟨S255x64, .f32⟩
  | 78 => ⟨S_, .f32⟩
  | 79 => ⟨S8x2x4096x255, .f32⟩
  | 80 => ⟨S8x2x4096x64, .f32⟩
  | 81 => ⟨S64, .i32⟩
  | 82 => ⟨S1x64, .i32⟩
  | 83 => ⟨S_, .i32⟩
  | 84 => ⟨S_, .i32⟩
  | 85 => ⟨S4096, .i32⟩
  | 86 => ⟨S4096, .i32⟩
  | 87 => ⟨S4096, .i32⟩
  | 88 => ⟨S_, .i32⟩
  | 89 => ⟨S4096, .i32⟩
  | 90 => ⟨S4096, .i1⟩
  | 91 => ⟨S4096, .i32⟩
  | 92 => ⟨S4096, .i32⟩
  | 93 => ⟨S_, .i32⟩
  | 94 => ⟨S4096, .i32⟩
  | 95 => ⟨S4096, .i1⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S_, .i32⟩
  | 103 => ⟨S1x64, .i32⟩
  | 104 => ⟨S1x64, .i1⟩
  | 105 => ⟨S4096x64, .i32⟩
  | 106 => ⟨S4096x64, .i32⟩
  | 107 => ⟨S4096x64, .i1⟩
  | 108 => ⟨S4096x64, .i1⟩
  | 109 => ⟨S4096x64, .i1⟩
  | 110 => ⟨S_, .i32⟩
  | 111 => ⟨S4096x1, .i32⟩
  | 112 => ⟨S4096x1, .i32⟩
  | 113 => ⟨S4096x64, .i32⟩
  | 114 => ⟨S4096x64, .i32⟩
  | 115 => ⟨S4096x64, .i1⟩
  | 116 => ⟨S4096x64, .i1⟩
  | 117 => ⟨S4096x64, .i32⟩
  | 118 => ⟨S4096x64, .i32⟩
  | 119 => ⟨S4096x64, .i1⟩
  | 120 => ⟨S_, .f32⟩
  | 121 => ⟨S_, .f32⟩
  | 122 => ⟨S8x2x4096x64, .i1⟩
  | 123 => ⟨S8x2x4096x64, .f32⟩
  | 124 => ⟨S8x2x4096x64, .f32⟩
  | 125 => ⟨S_, .f32⟩
  | 126 => ⟨S_, .f32⟩
  | 127 => ⟨S8x2x4096x64, .i1⟩
  | _ => ⟨S8x4096x8x64, .f32⟩

abbrev hbmTy0_1 (i : Nat) : BufTy := match i % 128 with
  | 0 => ⟨S8x2x4096x64, .f32⟩
  | 1 => ⟨S8x2x4096x64, .f32⟩
  | 2 => ⟨S8x2x4096x16, .f32⟩
  | 3 => ⟨S8x2x4096x16, .i32⟩
  | 4 => ⟨S8x2x4096x16x1, .i32⟩
  | 5 => ⟨S64, .i32⟩
  | 6 => ⟨S1x1x1x1x64, .i32⟩
  | 7 => ⟨S8x2x4096x16x64, .i32⟩
  | 8 => ⟨S8x2x4096x16x64, .i32⟩
  | 9 => ⟨S8x2x4096x16x64, .i1⟩
  | 10 => ⟨S_, .i1⟩
  | 11 => ⟨S8x2x4096x64, .i1⟩
  | 12 => ⟨S8x2x4096x64x1, .i1⟩
  | 13 => ⟨S8x2x4096x64x64, .i1⟩
  | 14 => ⟨S8x2x4096x4096, .i1⟩
  | 15 => ⟨S8x2x4096x4096x4, .f32⟩
  | 16 => ⟨S8x2x4x4096x4096, .f32⟩
  | 17 => ⟨S_, .f32⟩
  | 18 => ⟨S8x2x4x4096x4096, .f32⟩
  | 19 => ⟨S8x2x4x4096x4096, .f32⟩
  | 20 => ⟨S1x4096, .i32⟩
  | 21 => ⟨S4096x1, .i32⟩
  | 22 => ⟨S4096x4096, .i32⟩
  | 23 => ⟨S4096x4096, .i32⟩
  | 24 => ⟨S4096x4096, .i1⟩
  | 25 => ⟨S1x1x4096x4096, .i1⟩
  | 26 => ⟨S8x2x4096x4096, .i1⟩
  | 27 => ⟨S8x2x4096x4096, .i1⟩
  | 28 => ⟨S8x2x1x4096x4096, .i1⟩
  | 29 => ⟨S8x2x4x4096x4096, .i1⟩
  | 30 => ⟨S_, .f32⟩
  | 31 => ⟨S8x2x4x4096x4096, .f32⟩
  | 32 => ⟨S8x2x4x4096x4096, .f32⟩
  | 33 => ⟨S_, .f32⟩
  | 34 => ⟨S8x2x4x4096, .f32⟩
  | 35 => ⟨S_, .f32⟩
  | 36 => ⟨S8x2x4x4096, .f32⟩
  | 37 => ⟨S8x2x4x4096, .f32⟩
  | 38 => ⟨S8x2x4x4096x1, .f32⟩
  | 39 => ⟨S8x2x4x4096x4096, .f32⟩
  | 40 => ⟨S8x2x4x4096x4096, .f32⟩
  | 41 => ⟨S8x2x4x4096x4096, .f32⟩
  | 42 => ⟨S_, .f32⟩
  | 43 => ⟨S8x2x4x4096, .f32⟩
  | 44 => ⟨S8x2x4x4096x1, .f32⟩
  | 45 => ⟨S8x2x4x4096x4096, .f32⟩
  | 46 => ⟨S8x2x4x4096x4096, .f32⟩
  | 47 => ⟨S_, .f32⟩
  | 48 => ⟨S8x2x4x4096x4096, .f32⟩
  | 49 => ⟨S8x2x4x4096x4096, .f32⟩
  | 50 => ⟨S8x2x64x4x4096, .f32⟩
  | 51 => ⟨S8x4096x2x4x64, .f32⟩
  | 52 => ⟨S4096x1, .i32⟩
  | 53 => ⟨S1x4096, .i32⟩
  | 54 => ⟨S4096x4096, .i32⟩
  | 55 => ⟨S4096x4096, .i32⟩
  | 56 => ⟨S4096x4096, .i32⟩
  | 57 => ⟨S8x2x4096x4096x4, .f32⟩
  | 58 => ⟨S8x2x4x4096x4096, .f32⟩
  | 59 => ⟨S_, .f32⟩
  | 60 => ⟨S8x2x4x4096x4096, .f32⟩
  | 61 => ⟨S8x2x4x4096x4096, .f32⟩
  | 62 => ⟨S_, .i32⟩
  | 63 => ⟨S4096x4096, .i32⟩
  | 64 => ⟨S4096x4096, .i1⟩
  | 65 => ⟨S_, .i32⟩
  | 66 => ⟨S4096x4096, .i32⟩
  | 67 => ⟨S4096x4096, .i1⟩
  | 68 => ⟨S4096x4096, .i1⟩
  | 69 => ⟨S8x2x4x4096x4096, .i1⟩
  | 70 => ⟨S_, .f32⟩
  | 71 => ⟨S8x2x4x4096x4096, .f32⟩
  | 72 => ⟨S8x2x4x4096x4096, .f32⟩
  | 73 => ⟨S_, .f32⟩
  | 74 => ⟨S8x2x4x4096, .f32⟩
  | 75 => ⟨S_, .f32⟩
  | 76 => ⟨S8x2x4x4096, .f32⟩
  | 77 => ⟨S8x2x4x4096, .f32⟩
  | 78 => ⟨S8x2x4x4096x1, .f32⟩
  | 79 => ⟨S8x2x4x4096x4096, .f32⟩
  | 80 => ⟨S8x2x4x4096x4096, .f32⟩
  | 81 => ⟨S8x2x4x4096x4096, .f32⟩
  | 82 => ⟨S_, .f32⟩
  | 83 => ⟨S8x2x4x4096, .f32⟩
  | 84 => ⟨S8x2x4x4096x1, .f32⟩
  | 85 => ⟨S8x2x4x4096x4096, .f32⟩
  | 86 => ⟨S8x2x4x4096x4096, .f32⟩
  | 87 => ⟨S_, .f32⟩
  | 88 => ⟨S8x2x4x4096x4096, .f32⟩
  | 89 => ⟨S8x2x4x4096x4096, .f32⟩
  | 90 => ⟨S8x2x64x4x4096, .f32⟩
  | 91 => ⟨S8x4096x2x4x64, .f32⟩
  | 92 => ⟨S8x4096x2x4x1, .f32⟩
  | 93 => ⟨S8x4096x2x4x64, .f32⟩
  | 94 => ⟨S8x4096x2x4x64, .f32⟩
  | 95 => ⟨S8x4096x2x4x1, .f32⟩
  | 96 => ⟨S8x4096x2x4x64, .f32⟩
  | 97 => ⟨S8x4096x2x4x64, .f32⟩
  | 98 => ⟨S8x4096x2x4x64, .f32⟩
  | 99 => ⟨S8x4096x2x4x1, .f32⟩
  | 100 => ⟨S8x4096x2x4x64, .f32⟩
  | 101 => ⟨S8x4096x2x4x64, .f32⟩
  | 102 => ⟨S8x4096x2x4x64, .f32⟩
  | 103 => ⟨S8x4096x512, .f32⟩
  | 104 => ⟨S8x4096x512, .bf16⟩
  | _ => ⟨S8x4096x8x64, .f32⟩

abbrev hbmTy (i : Nat) : BufTy := match i / 128 with
  | 0 => hbmTy0_0 i
  | 1 => hbmTy0_1 i
  | _ => ⟨S8x4096x8x64, .f32⟩

abbrev bufTy : (tb : Table) → Fin (tcTables nBuf tb) → BufTy
  | .hbm, ⟨i, _⟩ => hbmTy i
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_c : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_c_0 : Ref sig .tc := ⟨.hbm, 97, rfl⟩
abbrev main_call0_v12 : Ref sig .tc := ⟨.hbm, 98, rfl⟩
abbrev main_call0_v13 : Ref sig .tc := ⟨.hbm, 99, rfl⟩
abbrev main_v61 : Ref sig .tc := ⟨.hbm, 100, rfl⟩
abbrev main_v62 : Ref sig .tc := ⟨.hbm, 101, rfl⟩
abbrev main_c_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_14 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v79 : Ref sig .tc := ⟨.hbm, 124, rfl⟩
abbrev main_cst_16 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_v80 : Ref sig .tc := ⟨.hbm, 129, rfl⟩
abbrev main_values : Ref sig .tc := ⟨.hbm, 130, rfl⟩
abbrev main_indices : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_17 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_18 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_19 : Ref sig .tc := ⟨.hbm, 158, rfl⟩
abbrev main_v105 : Ref sig .tc := ⟨.hbm, 159, rfl⟩
abbrev main_v106 : Ref sig .tc := ⟨.hbm, 160, rfl⟩
abbrev main_cst_20 : Ref sig .tc := ⟨.hbm, 161, rfl⟩
abbrev main_v107 : Ref sig .tc := ⟨.hbm, 162, rfl⟩
abbrev main_cst_21 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_cst_22 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_23 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_24 : Ref sig .tc := ⟨.hbm, 187, rfl⟩
abbrev main_v129 : Ref sig .tc := ⟨.hbm, 188, rfl⟩
abbrev main_v130 : Ref sig .tc := ⟨.hbm, 189, rfl⟩
abbrev main_c_25 : Ref sig .tc := ⟨.hbm, 190, rfl⟩
abbrev main_v131 : Ref sig .tc := ⟨.hbm, 191, rfl⟩
abbrev main_v132 : Ref sig .tc := ⟨.hbm, 192, rfl⟩
abbrev main_c_26 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_cst_27 : Ref sig .tc := ⟨.hbm, 198, rfl⟩
abbrev main_v137 : Ref sig .tc := ⟨.hbm, 199, rfl⟩
abbrev main_v138 : Ref sig .tc := ⟨.hbm, 200, rfl⟩
abbrev main_cst_28 : Ref sig .tc := ⟨.hbm, 201, rfl⟩
abbrev main_v139 : Ref sig .tc := ⟨.hbm, 202, rfl⟩
abbrev main_cst_29 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_30 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_cst_31 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S32768x512 : Shape := ⟨2, ![32768, 512]⟩
abbrev S32768x2048 : Shape := ⟨2, ![32768, 2048]⟩
abbrev S1x1024 : Shape := ⟨2, ![1, 1024]⟩
abbrev S1x2816 : Shape := ⟨2, ![1, 2816]⟩
abbrev S512x512 : Shape := ⟨2, ![512, 512]⟩
abbrev S512x2048 : Shape := ⟨2, ![512, 2048]⟩
abbrev S520x2816 : Shape := ⟨2, ![520, 2816]⟩
abbrev S8x2816 : Shape := ⟨2, ![8, 2816]⟩
abbrev S512 : Shape := ⟨1, ![512]⟩
abbrev S512x1 : Shape := ⟨2, ![512, 1]⟩
abbrev S3x1024 : Shape := ⟨2, ![3, 1024]⟩
abbrev S8x1024 : Shape := ⟨2, ![8, 1024]⟩
abbrev S1024x512 : Shape := ⟨2, ![1024, 512]⟩
abbrev S1024x256 : Shape := ⟨2, ![1024, 256]⟩
abbrev S512x256 : Shape := ⟨2, ![512, 256]⟩
abbrev S3x512 : Shape := ⟨2, ![3, 512]⟩
abbrev S1x512 : Shape := ⟨2, ![1, 512]⟩
abbrev S8x512 : Shape := ⟨2, ![8, 512]⟩
abbrev S3x256 : Shape := ⟨2, ![3, 256]⟩
abbrev S1x256 : Shape := ⟨2, ![1, 256]⟩
abbrev S8x256 : Shape := ⟨2, ![8, 256]⟩
abbrev S256x1024 : Shape := ⟨2, ![256, 1024]⟩

abbrev nBuf : Space → Nat
  | .hbm => 27
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S32768x1024, .f32⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S32768x2048, .f32⟩
  | .hbm, ⟨18, _⟩ => ⟨S32768x2048, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1024x5632, .bf16⟩
  | .hbm, ⟨24, _⟩ => ⟨S1x2816, .f32⟩
  | .hbm, ⟨25, _⟩ => ⟨S2816x1024, .bf16⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S3x2816, .f32⟩
  | .local _ .vmem, ⟨14, _⟩ => ⟨S1x2816, .f32⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | .local _ .vmem, ⟨18, _⟩ => ⟨S520x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S8x4096x5632, .f32⟩
  | .hbm, ⟨38, _⟩ => ⟨S8x4096x2816, .f32⟩
  | .hbm, ⟨39, _⟩ => ⟨S_, .i32⟩
  | .hbm, ⟨40, _⟩ => ⟨S_, .f32⟩
  | .hbm, ⟨41, _⟩ => ⟨S8x4098x2816, .f32⟩
  | .hbm, ⟨42, _⟩ => ⟨S1x2816, .f32⟩
  | .hbm, ⟨43, _⟩ => ⟨S2816, .f32⟩
  | .hbm, ⟨44, _⟩ => ⟨S8x4096x2816, .f32⟩
  | .hbm, ⟨45, _⟩ => ⟨S1x1x2816, .f32⟩
  | .hbm, ⟨46, _⟩ => ⟨S8x4096x2816, .f32⟩
  | .hbm, ⟨47, _⟩ => ⟨S8x4096x2816, .f32⟩
  | .hbm, ⟨48, _⟩ => ⟨S1x2816, .f32⟩
  | .hbm, ⟨49, _⟩ => ⟨S2816, .f32⟩
  | .hbm, ⟨50, _⟩ => ⟨S8x4096x2816, .f32⟩
  | .hbm, ⟨51, _⟩ => ⟨S1x1x2816, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S1x2816, .f32⟩
  | .hbm, ⟨56, _⟩ => ⟨S2816, .f32⟩
  | .hbm, ⟨57, _⟩ => ⟨S8x4096x2816, .f32⟩
  | .hbm, ⟨58, _⟩ => ⟨S1x1x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S1x1x2816, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S_, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S8x4096x1024, .f32⟩
  | .hbm, ⟨77, _⟩ => ⟨S8x4096x1024, .f32⟩
  | .hbm, ⟨78, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.Soft.lean ====
/- A softmax over some of the keys, in extended real numbers: the reference's, which takes off the largest score and
   divides each weight by their sum, and the kernel's, which divides the weighted sum of the values instead, agree. -/
module

public import Idealize.ShloMosaic.Lib.Pointwise

@[expose] public section

noncomputable section

namespace Cert.Nsa

open Idealize.ShloMosaic

/-- The weight of a key: the exponential of its score, or nothing where the key is not attended to. -/
def wt (m : Prop) [Decidable m] (s : ℝ) : ℝ := if m then Real.exp s else 0

/-- The average of the values with the weights `w`; zero where no key has weight. -/
def soft {n : ℕ} (w : Fin n → ℝ) (v : Fin n → EReal) : EReal :=
  (∑ k, (w k : EReal) * v k) * (((∑ k, w k)⁻¹ : ℝ) : EReal)

/-- The score of a key for a query. -/
def score (q k : Fin 64 → EReal) : ℝ := (∑ d, (q d).toReal * (k d).toReal) * 8⁻¹

theorem wt_nonneg (m : Prop) [Decidable m] (s : ℝ) : 0 ≤ wt m s := by
  unfold wt; split_ifs
  · exact (Real.exp_pos s).le
  · exact le_rfl

theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem sum_mul_coe {ι : Type} (t : Finset ι) (f : ι → EReal) {r : ℝ} (hr : 0 ≤ r) :
    (∑ k ∈ t, f k) * (r : EReal) = ∑ k ∈ t, f k * (r : EReal) := by
  classical
  induction t using Finset.induction_on with
  | empty => simp
  | insert a t ha ih =>
    rw [Finset.sum_insert ha, Finset.sum_insert ha,
      EReal.right_distrib_of_nonneg_of_ne_top (EReal.coe_nonneg.mpr hr) (EReal.coe_ne_top r), ih]

/-- Values weighted by normalized weights. -/
theorem sum_norm {n : ℕ} (w : Fin n → ℝ) (hw : ∀ k, 0 ≤ w k) (v : Fin n → EReal) :
    ∑ k, v k * ((w k * (∑ x, w x)⁻¹ : ℝ) : EReal) = soft w v := by
  unfold soft
  rw [sum_mul_coe _ _ (inv_nonneg.mpr (Finset.sum_nonneg fun k _ => hw k))]
  refine Finset.sum_congr rfl fun k _ => ?_
  rw [EReal.coe_mul, ← mul_assoc, mul_comm (v k)]

/-- The quotient of two real numbers, the second of them positive. -/
theorem div_coe (a : ℝ) {b : ℝ} (hb : 0 < b) : Ideal.div (a : EReal) (b : EReal) = ((a * b⁻¹ : ℝ) : EReal) := by
  have h0 : (b : EReal) ≠ 0 := by exact_mod_cast hb.ne'
  unfold Ideal.div
  rw [if_neg h0, EReal.coe_mul, EReal.coe_inv]

/-- The reference's softmax: `M` is what it takes off, real as soon as some key is attended to. -/
theorem softmax_at {n : ℕ} (m : Fin n → Prop) [DecidablePred m] (s : Fin n → ℝ) (M : EReal)
    (hbot : (∃ k, m k) → M ≠ ⊥) (htop : M ≠ ⊤) (k : Fin n) :
    (if m k then Ideal.div (Ideal.exp ((if m k then (s k : EReal) else ⊥) - M))
        (∑ x, Ideal.exp ((if m x then (s x : EReal) else ⊥) - M)) else 0)
      = ((wt (m k) (s k) * (∑ x, wt (m x) (s x))⁻¹ : ℝ) : EReal) := by
  by_cases hk : m k
  · have hM : M ≠ ⊥ := hbot ⟨k, hk⟩
    lift M to ℝ using ⟨htop, hM⟩
    have term : ∀ x, Ideal.exp ((if m x then (s x : EReal) else ⊥) - (M : EReal))
        = ((wt (m x) (s x) * Real.exp (-M) : ℝ) : EReal) := by
      intro x
      by_cases hx : m x
      · rw [if_pos hx, ← EReal.coe_sub, wt, if_pos hx, ← Real.exp_add, ← sub_eq_add_neg]; rfl
      · rw [if_neg hx, wt, if_neg hx, zero_mul, EReal.bot_sub]; rfl
    have pos : 0 < ∑ x, wt (m x) (s x) := by
      refine Finset.sum_pos' (fun x _ => wt_nonneg _ _) ⟨k, Finset.mem_univ k, ?_⟩
      rw [wt, if_pos hk]; exact Real.exp_pos _
    have e := Real.exp_pos (-M)
    rw [if_pos hk]
    simp only [term]
    rw [← coe_sum, ← Finset.sum_mul, div_coe _ (mul_pos pos e), mul_inv]
    congr 1
    field_simp
  · rw [if_neg hk, wt, if_neg hk, zero_mul]; rfl

/-- The kernel's reciprocal of a sum of weights. -/
theorem inverse_at {S : ℝ} (hS : 0 ≤ S) :
    Scalar.select (Ideal.cmp CmpFPredicate.ogt (S : EReal) 0) (Ideal.div 1 (S : EReal)) 0 = ((S⁻¹ : ℝ) : EReal) := by
  rcases hS.eq_or_lt with h | h
  · subst h; simp [Ideal.cmp, Scalar.select]
  · have : (1 : EReal) = ((1 : ℝ) : EReal) := rfl
    rw [this, div_coe _ h, one_mul]
    simp [Ideal.cmp, Scalar.select, h]

/-- A power of two whose exponent is a score in units of the logarithm of two. -/
theorem exp2_at (s : ℝ) : Ideal.exp2 ((s * (Real.log 2)⁻¹ : ℝ) : EReal) = ((Real.exp s : ℝ) : EReal) := by
  rw [Ideal.exp2_coe]
  congr 1
  show (2 : ℝ) ^ (s * (Real.log 2)⁻¹) = Real.exp s
  rw [Real.rpow_def_of_pos two_pos]
  have : Real.log 2 ≠ 0 := (Real.log_pos one_lt_two).ne'
  field_simp

end Cert.Nsa

end
-- ==== Proof.Spec.lean ====
/- The attention of one query to the keys of its group of heads, with extended real values: what both programs compute.

   A query attends to the compressed blocks that have ended, to the keys of the sixteen 64-key blocks that matter most
   to it, and to the keys of a sliding window; a gate weighs each of the three averages. -/
module

public import proofs.«01_k».proof.Proof.Soft

@[expose] public section

noncomputable section

namespace Cert.Nsa

open Idealize.ShloMosaic

/-- An extended real that is a real number. -/
def IsReal (x : EReal) : Prop := x ≠ ⊤ ∧ x ≠ ⊥

theorem IsReal.coe {x : EReal} (h : IsReal x) : ((x.toReal : ℝ) : EReal) = x := EReal.coe_toReal h.1 h.2

theorem isReal_coe (r : ℝ) : IsReal (r : EReal) := ⟨EReal.coe_ne_top r, EReal.coe_ne_bot r⟩

/-- The product of a query and a key. -/
theorem dot_at {q k : Fin 64 → EReal} (hq : ∀ d, IsReal (q d)) (hk : ∀ d, IsReal (k d)) :
    ∑ d, q d * k d = ((8 * score q k : ℝ) : EReal) := by
  have : (8 * score q k : ℝ) = ∑ d, (q d).toReal * (k d).toReal := by unfold score; ring
  rw [this, coe_sum]
  refine Finset.sum_congr rfl fun d _ => ?_
  rw [EReal.coe_mul, (hq d).coe, (hk d).coe]

/-- The same with every component of the query multiplied by a real number. -/
theorem dot_scaled {q k : Fin 64 → EReal} (hq : ∀ d, IsReal (q d)) (hk : ∀ d, IsReal (k d)) (L : ℝ) :
    ∑ d, (q d * ((8⁻¹ * L : ℝ) : EReal)) * k d = ((score q k * L : ℝ) : EReal) := by
  have : (score q k * L : ℝ) = ∑ d, ((q d).toReal * (8⁻¹ * L)) * (k d).toReal := by
    unfold score; rw [Finset.sum_mul, Finset.sum_mul]
    exact Finset.sum_congr rfl fun d _ => by ring
  rw [this, coe_sum]
  refine Finset.sum_congr rfl fun d _ => ?_
  conv_rhs => rw [EReal.coe_mul, EReal.coe_mul, (hq d).coe, (hk d).coe]

/-- What the attention of one query reads: its position, the query in each of the group's four heads, the keys and
    values of the three branches, and the gates. -/
structure Row where
  t : ℕ
  q : Fin 4 → Fin 64 → EReal
  kc : Fin 255 → Fin 64 → EReal
  vc : Fin 255 → Fin 64 → EReal
  ks : Fin 4096 → Fin 64 → EReal
  vs : Fin 4096 → Fin 64 → EReal
  kw : Fin 4096 → Fin 64 → EReal
  vw : Fin 4096 → Fin 64 → EReal
  gate : Fin 4 → Fin 3 → EReal

namespace Row

variable (R : Row)

/-- The weights of the compressed blocks. -/
def wc (h : Fin 4) (k : Fin 255) : ℝ := wt (16 * k.val + 31 ≤ R.t) (score (R.q h) (R.kc k))

/-- How much the 64-key block `j` matters: the attention of the four heads to the compressed blocks that overlap it. -/
def imp (j : ℕ) : ℝ := ∑ k : Fin 255, (∑ h, R.wc h k * (∑ x, R.wc h x)⁻¹) *
  (if 16 * k.val < 64 * j + 64 ∧ 64 * j < 16 * k.val + 32 then 1 else 0)

/-- The block scores: block zero, the query's own block and the one before it come first, later blocks last. -/
def ord (j : ℕ) : EReal :=
  if j = 0 ∨ j = R.t / 64 ∨ j + 1 = R.t / 64 then Ideal.ofBits .f32 0x4E6E6B28#32
  else if j ≤ R.t / 64 then ((R.imp j : ℝ) : EReal) else Ideal.ofBits .f32 0xCE6E6B28#32

/-- Whether block `j'` comes before block `j`: a greater score, or the same score and a lower index. -/
def before (j' j : ℕ) : Prop := R.ord j < R.ord j' ∨ (R.ord j' = R.ord j ∧ j' < j)

open Classical in
/-- The sixteen blocks that come first are kept. -/
def kept (j : ℕ) : Prop := ((Finset.range 64).filter fun j' => R.before j' j).card < 16

open Classical in
/-- The weights of the keys of the kept blocks. -/
def ws (h : Fin 4) (k : Fin 4096) : ℝ := wt (R.kept (k.val / 64) ∧ k.val ≤ R.t) (score (R.q h) (R.ks k))

/-- The weights of the keys of the sliding window. -/
def ww (h : Fin 4) (k : Fin 4096) : ℝ := wt (k.val ≤ R.t ∧ R.t < k.val + 512) (score (R.q h) (R.kw k))

/-- The attention of the query in head `h`, dimension `d`. -/
def out (h : Fin 4) (d : Fin 64) : EReal :=
  R.gate h 0 * soft (R.wc h) (fun k => R.vc k d) + R.gate h 1 * soft (R.ws h) (fun k => R.vs k d)
    + R.gate h 2 * soft (R.ww h) (fun k => R.vw k d)

theorem imp_nonneg (j : ℕ) : 0 ≤ R.imp j := by
  unfold imp
  refine Finset.sum_nonneg fun k _ => mul_nonneg (Finset.sum_nonneg fun h _ => mul_nonneg (wt_nonneg _ _)
    (inv_nonneg.mpr (Finset.sum_nonneg fun x _ => wt_nonneg _ _))) ?_
  split_ifs <;> norm_num

/-- The scores that stand for first and last. -/
theorem last_neg : Ideal.ofBits .f32 0xCE6E6B28#32 ≤ 0 := by
  have : (0 : ℝ) ≤ 15625000 * 2 ^ 6 := by norm_num
  simp [Ideal.ofBits, Ideal.ieee]
  exact_mod_cast this
theorem first_pos : 0 ≤ Ideal.ofBits .f32 0x4E6E6B28#32 := by
  have : (0 : ℝ) ≤ 15625000 * 2 ^ 6 := by norm_num
  simp [Ideal.ofBits, Ideal.ieee]
  exact_mod_cast this

/-- No score is below that of the later blocks. -/
theorem last_le_ord (j : ℕ) : Ideal.ofBits .f32 0xCE6E6B28#32 ≤ R.ord j := by
  unfold ord; split_ifs
  · exact last_neg.trans first_pos
  · exact last_neg.trans (EReal.coe_nonneg.mpr (R.imp_nonneg j))
  · exact le_rfl

/-- A block after the query's own comes before no block of lower index. -/
theorem not_before_of_late {j' j : ℕ} (hl : R.t / 64 < j') (h : j ≤ j') : ¬ R.before j' j := by
  have e : R.ord j' = Ideal.ofBits .f32 0xCE6E6B28#32 := by
    unfold ord; rw [if_neg (by omega), if_neg (by omega)]
  unfold before; rw [e]
  rintro (h1 | ⟨-, h2⟩)
  · exact absurd (R.last_le_ord j) (not_le.mpr h1)
  · omega

open Classical in
/-- So only blocks up to some bound past the query's own need be counted. -/
theorem kept_iff {live : ℕ} (hl : R.t / 64 < live) (h64 : live ≤ 64) {j : ℕ} (hj : j < live) :
    R.kept j ↔ ((Finset.range live).filter fun j' => R.before j' j).card < 16 := by
  unfold kept
  have : (Finset.range 64).filter (fun j' => R.before j' j) = (Finset.range live).filter fun j' => R.before j' j := by
    ext x
    simp only [Finset.mem_filter, Finset.mem_range]
    constructor
    · rintro ⟨-, hb⟩
      refine ⟨?_, hb⟩
      by_contra hx
      exact R.not_before_of_late (by omega) (by omega) hb
    · rintro ⟨hx, hb⟩; exact ⟨by omega, hb⟩
  rw [this]

/-- Where at most sixteen blocks can be seen, all of them are kept. -/
theorem kept_of_few (hl : R.t / 64 < 16) {j : ℕ} (hj : j < 16) : R.kept j := by
  classical
  rw [R.kept_iff hl (by norm_num) hj]
  have hn : ¬ R.before j j := by rintro (h | ⟨-, h⟩); exacts [lt_irrefl _ h, lt_irrefl _ h]
  refine lt_of_lt_of_le (Finset.card_lt_card (t := Finset.range 16) ?_) (by simp)
  refine ⟨Finset.filter_subset _ _, fun h => hn ?_⟩
  exact (Finset.mem_filter.mp (h (Finset.mem_range.mpr hj))).2

end Row

end Cert.Nsa

end
-- ==== Proof.Result.lean ====
/- The attention's result as a function of the program's arguments. -/
module

public import proofs.«01_k».proof.Proof.Spec

@[expose] public section

noncomputable section

namespace Cert.Nsa

open Idealize.ShloMosaic

/-- The program's arguments: sequence, position, head or key group, dimension. -/
structure Inputs where
  q : Fin 8 → Fin 4096 → Fin 8 → Fin 64 → EReal
  kc : Fin 8 → Fin 255 → Fin 2 → Fin 64 → EReal
  vc : Fin 8 → Fin 255 → Fin 2 → Fin 64 → EReal
  ks : Fin 8 → Fin 4096 → Fin 2 → Fin 64 → EReal
  vs : Fin 8 → Fin 4096 → Fin 2 → Fin 64 → EReal
  kw : Fin 8 → Fin 4096 → Fin 2 → Fin 64 → EReal
  vw : Fin 8 → Fin 4096 → Fin 2 → Fin 64 → EReal
  gate : Fin 8 → Fin 4096 → Fin 8 → Fin 3 → EReal

namespace Inputs

/-- The head of a group. -/
def headOf (g : Fin 2) (h : Fin 4) : Fin 8 := ⟨4 * g.val + h.val, by omega⟩

/-- What position `t` of sequence `b` reads for group `g`. -/
def row (A : Inputs) (b : Fin 8) (t : Fin 4096) (g : Fin 2) : Row where
  t := t.val
  q h d := A.q b t (headOf g h) d
  kc k d := A.kc b k g d
  vc k d := A.vc b k g d
  ks k d := A.ks b k g d
  vs k d := A.vs b k g d
  kw k d := A.kw b k g d
  vw k d := A.vw b k g d
  gate h e := A.gate b t (headOf g h) e

/-- The attention of all heads of a position, side by side. -/
def result (A : Inputs) (b : Fin 8) (t : Fin 4096) (n : Fin 512) : EReal :=
  (A.row b t ⟨n.val / 256, by omega⟩).out ⟨n.val / 64 % 4, by omega⟩ ⟨n.val % 64, by omega⟩

/-- Queries and keys are finite. -/
structure Finite (A : Inputs) : Prop where
  q : ∀ b t h d, IsReal (A.q b t h d)
  kc : ∀ b k g d, IsReal (A.kc b k g d)
  ks : ∀ b k g d, IsReal (A.ks b k g d)
  kw : ∀ b k g d, IsReal (A.kw b k g d)

end Inputs

end Cert.Nsa
end
end
-- ==== Proof.BlockMask.lean ====
/- The block mask of the selected branch, as the kernel computes it.

   A grid point holds 256 queries. For each group of heads it has the importance of every 64-key block to every
   query (blocks down, queries across). Of the `live` blocks that any of its queries can see it keeps, per query,
   the sixteen that come first when blocks are ordered by importance, the lower index first among equals; the
   block of the queries themselves, the one before it and block zero count as infinitely important, and blocks
   after the query's own as infinitely unimportant. It never sorts: it counts for each block the blocks that come
   before it. Everything here is stated for any float values, so that both printed programs can cite it. -/
module

public import Idealize.ShloMosaic.PureOps

@[expose] public section

noncomputable section

namespace Cert.Nsa

open Idealize.ShloMosaic

variable {F : FTy → Type} [FloatOps F]

/-- `n` rows over the 256 queries of a grid point. -/
abbrev Rows (n : ℕ) : Shape := ⟨2, ![n, 256]⟩

theorem rows_slices {n : ℕ} (r k : ℕ) (h : r + k ≤ n) : (Rows n).Slices ![r, 0] (Rows k) :=
  ⟨rfl, fun a => by fin_cases a <;> simp [h]⟩

theorem rows_iotas (n : ℕ) (a : Fin 2) : (Rows n).Iotas .tc 32 [a] := by
  constructor <;> simp

/-- The 64-key block each query lies in, by the rounding-down division of the positions `t0 + lane`. -/
def ownBlock (live : ℕ) (t0 : BitVec 32) : IVec (Rows live) 32 :=
  let pos : IVec (Rows live) 32 := addi (broadcast (Rows live) t0) (iota .tc (Rows live) 32 [1] (rows_iotas live 1))
  let sgn : IVec (Rows live) 32 := subi (extui 32 (cmpi .sgt pos (broadcast (Rows live) 0#32)))
    (extui 32 (cmpi .slt pos (broadcast (Rows live) 0#32)))
  let sgn64 : BitVec 32 := Scalar.subi (Scalar.extui (Scalar.cmpi .sgt 64#32 0#32)) (Scalar.extui (Scalar.cmpi .slt 64#32 0#32))
  let quo : IVec (Rows live) 32 := divsi pos (broadcast (Rows live) 64#32)
  select (andi (cmpi .ne sgn (broadcast (Rows live) sgn64))
      (cmpi .ne (remsi pos (broadcast (Rows live) 64#32)) (broadcast (Rows live) 0#32)))
    (subi quo (broadcast (Rows live) 1#32)) quo

/-- The scores the blocks are ordered by. -/
def blockScore (live : ℕ) (t0 : BitVec 32) (imp : FVec F (Rows live) .f32) : FVec F (Rows live) .f32 :=
  let blk : IVec (Rows live) 32 := iota .tc (Rows live) 32 [0] (rows_iotas live 0)
  let cur := ownBlock live t0
  let forced := ori (ori (cmpi .eq blk (broadcast (Rows live) 0#32)) (cmpi .eq blk cur))
    (cmpi .eq blk (subi cur (broadcast (Rows live) 1#32)))
  select forced (broadcast (Rows live) (Scalar.ofBits .f32 0x4E6E6B28#32))
    (select (cmpi .sle blk cur) imp (broadcast (Rows live) (Scalar.ofBits .f32 0xCE6E6B28#32)))

/-- Eight rows of the scores, from row `8 r`. -/
def tileOf {live : ℕ} (a : FVec F (Rows live) .f32) (r : ℕ) : FVec F (Rows 8) .f32 :=
  if h : 8 * r + 8 ≤ live then extractStridedSlice (Rows 8) ![8 * r, 0] a (rows_slices _ _ h) else fun _ => Scalar.ofBits .f32 0#32

/-- Row `j` of the scores, over eight rows. -/
def rowOf {live : ℕ} (a : FVec F (Rows live) .f32) (j : ℕ) : FVec F (Rows 8) .f32 :=
  if h : j + 1 ≤ live then
    broadcastTo (Rows 8) (shapeCast (Rows 1) (extractStridedSlice (Rows 1) ![j, 0] a (rows_slices _ _ h)))
  else fun _ => Scalar.ofBits .f32 0#32

/-- Whether block `j` comes before each of the blocks `8 r … 8 r + 7`. -/
def comesBefore {live : ℕ} (a : FVec F (Rows live) .f32) (r j : ℕ) : IVec (Rows 8) 1 :=
  if j < 8 * r then cmpf .oge (rowOf a j) (tileOf a r)
  else if 8 * r + 8 ≤ j then cmpf .ogt (rowOf a j) (tileOf a r)
  else ori (cmpf .ogt (rowOf a j) (tileOf a r))
    (andi (cmpf .oeq (rowOf a j) (tileOf a r))
      (cmpi .sgt (iota .tc (Rows 8) 32 [0] (rows_iotas 8 0)) (broadcast (Rows 8) (BitVec.ofNat 32 (j - 8 * r)))))

/-- How many of the first `n` blocks come before each of the blocks `8 r … 8 r + 7`. -/
def countBefore {live : ℕ} (a : FVec F (Rows live) .f32) (r n : ℕ) : IVec (Rows 8) 32 :=
  Nat.rec (motive := fun _ => IVec (Rows 8) 32) (broadcast (Rows 8) 0#32)
    (fun j acc => addi acc (extui 32 (comesBefore a r j))) n

/-- The mask of eight blocks: zero where fewer than sixteen blocks come before, `neg` elsewhere. -/
def tileMask {live : ℕ} (neg : F .f32) (a : FVec F (Rows live) .f32) (r : ℕ) : FVec F (Rows 8) .f32 :=
  select (cmpi .slt (countBefore a r live) (broadcast (Rows 8) 16#32)) (broadcast (Rows 8) (Scalar.ofBits .f32 0#32))
    (broadcast (Rows 8) neg)

/-- The mask of rows no query of the point sees, and the rows that only fill up the 128 lanes. -/
def dead (n : ℕ) (neg : F .f32) : FVec F (Rows n) .f32 := broadcast (Rows n) neg
def filler (n : ℕ) : FVec F (Rows n) .f32 := broadcast (Rows n) (Scalar.ofBits .f32 0#32)

/-- The pieces of the mask join to 128 rows. -/
theorem joins16 : Shape.Concatenates [Rows 16, Rows 48, Rows 64] (Rows 128) 0 := by decide
theorem joins32 : Shape.Concatenates [Rows 8, Rows 8, Rows 8, Rows 8, Rows 32, Rows 64] (Rows 128) 0 := by decide
theorem joins48 : Shape.Concatenates [Rows 8, Rows 8, Rows 8, Rows 8, Rows 8, Rows 8, Rows 16, Rows 64] (Rows 128) 0 := by decide
theorem joins64 : Shape.Concatenates [Rows 8, Rows 8, Rows 8, Rows 8, Rows 8, Rows 8, Rows 8, Rows 8, Rows 64] (Rows 128) 0 := by
  decide

/-- The mask where sixteen blocks are live: all of them are kept. -/
def mask16 (neg : F .f32) : FVec F (Rows 128) .f32 :=
  concatenate (Rows 128) 0 [⟨Rows 16, filler 16⟩, ⟨Rows 48, dead 48 neg⟩, ⟨Rows 64, filler 64⟩] joins16

/-- The mask of 32 live blocks with scores `a`. -/
def join32 (neg : F .f32) (a : FVec F (Rows 32) .f32) : FVec F (Rows 128) .f32 :=
  concatenate (Rows 128) 0 [⟨Rows 8, tileMask neg a 0⟩, ⟨Rows 8, tileMask neg a 1⟩, ⟨Rows 8, tileMask neg a 2⟩,
    ⟨Rows 8, tileMask neg a 3⟩, ⟨Rows 32, dead 32 neg⟩, ⟨Rows 64, filler 64⟩] joins32

/-- The mask of 48 live blocks with scores `a`. -/
def join48 (neg : F .f32) (a : FVec F (Rows 48) .f32) : FVec F (Rows 128) .f32 :=
  concatenate (Rows 128) 0 [⟨Rows 8, tileMask neg a 0⟩, ⟨Rows 8, tileMask neg a 1⟩, ⟨Rows 8, tileMask neg a 2⟩,
    ⟨Rows 8, tileMask neg a 3⟩, ⟨Rows 8, tileMask neg a 4⟩, ⟨Rows 8, tileMask neg a 5⟩,
    ⟨Rows 16, dead 16 neg⟩, ⟨Rows 64, filler 64⟩] joins48

/-- The mask of 64 live blocks with scores `a`. -/
def join64 (neg : F .f32) (a : FVec F (Rows 64) .f32) : FVec F (Rows 128) .f32 :=
  concatenate (Rows 128) 0 [⟨Rows 8, tileMask neg a 0⟩, ⟨Rows 8, tileMask neg a 1⟩, ⟨Rows 8, tileMask neg a 2⟩,
    ⟨Rows 8, tileMask neg a 3⟩, ⟨Rows 8, tileMask neg a 4⟩, ⟨Rows 8, tileMask neg a 5⟩, ⟨Rows 8, tileMask neg a 6⟩,
    ⟨Rows 8, tileMask neg a 7⟩, ⟨Rows 64, filler 64⟩] joins64

/-- The mask where 32, 48 or all 64 blocks are live. -/
def mask32 (neg : F .f32) (t0 : BitVec 32) (imp : FVec F (Rows 64) .f32) : FVec F (Rows 128) .f32 :=
  join32 neg (blockScore 32 t0 (extractStridedSlice (Rows 32) ![0, 0] imp (rows_slices 0 32 (by decide))))
def mask48 (neg : F .f32) (t0 : BitVec 32) (imp : FVec F (Rows 64) .f32) : FVec F (Rows 128) .f32 :=
  join48 neg (blockScore 48 t0 (extractStridedSlice (Rows 48) ![0, 0] imp (rows_slices 0 48 (by decide))))
def mask64 (neg : F .f32) (t0 : BitVec 32) (imp : FVec F (Rows 64) .f32) : FVec F (Rows 128) .f32 :=
  join64 neg (blockScore 64 t0 imp)

/-- The rounding-down quotient of two words, as the kernel's scalar unit computes it. -/
def floorQuot (a b : BitVec 32) : BitVec 32 :=
  Scalar.select (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- Which of the four masks a grid point takes: sixteen more live blocks for each step. -/
def whichMask (t0 : BitVec 32) : BitVec 32 :=
  Scalar.minsi (Scalar.maxsi (floorQuot (floorQuot (Scalar.subi (Scalar.addi t0 256#32) 1#32) 64#32) 16#32) 0#32) 3#32

/-- The mask that the word `w` selects, for one group of heads. -/
def maskBy (w : BitVec 32) (neg : F .f32) (t0 : BitVec 32) (imp : FVec F (Rows 64) .f32) : FVec F (Rows 128) .f32 :=
  if Scalar.cmpi .ne w 0#32 = 1#1 then
    if Scalar.cmpi .ne (Scalar.subi w 1#32) 0#32 = 1#1 then
      if Scalar.cmpi .ne (Scalar.subi (Scalar.subi w 1#32) 1#32) 0#32 = 1#1 then mask64 neg t0 imp
      else mask48 neg t0 imp
    else mask32 neg t0 imp
  else mask16 neg

/-- How many tiles of 512 keys a grid point reads. -/
def tileCount (t0 : BitVec 32) : BitVec 32 :=
  Scalar.addi (floorQuot (Scalar.subi (Scalar.addi t0 256#32) 1#32) 512#32) 1#32

end Cert.Nsa

end
-- ==== Proof.Words.lean ====
/- Words that hold small natural numbers: their sums, products, comparisons and quotients. -/
module

public import Idealize.ShloMosaic.Lib.WordCmp
public import Idealize.ShloMosaic.Lib.Routing.Words
public import Idealize.ShloMosaic.Lib.Pointwise
public import proofs.«01_k».proof.Proof.BlockMask

@[expose] public section

noncomputable section

namespace Cert.Nsa.Word

open Idealize.ShloMosaic Idealize.ShloMosaic.WordCmp

theorem add (a b : ℕ) : IntOp.addi (BitVec.ofNat 32 a) (BitVec.ofNat 32 b) = BitVec.ofNat 32 (a + b) := addi_ofNat a b
theorem mul (a b : ℕ) : IntOp.muli (BitVec.ofNat 32 a) (BitVec.ofNat 32 b) = BitVec.ofNat 32 (a * b) := muli_ofNat a b
theorem sadd (a b : ℕ) : Scalar.addi (BitVec.ofNat 32 a) (BitVec.ofNat 32 b) = BitVec.ofNat 32 (a + b) := addi_ofNat a b
theorem smul (a b : ℕ) : Scalar.muli (BitVec.ofNat 32 a) (BitVec.ofNat 32 b) = BitVec.ofNat 32 (a * b) := muli_ofNat a b
theorem sub {a b : ℕ} (h : b ≤ a) : IntOp.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega
theorem ssub {a b : ℕ} (h : b ≤ a) : Scalar.subi (BitVec.ofNat 32 a) (BitVec.ofNat 32 b) = BitVec.ofNat 32 (a - b) := sub h

theorem sle {a b : ℕ} (ha : a < 2147483648) (hb : b < 2147483648) :
    IntOp.cmpi .sle (BitVec.ofNat 32 a) (BitVec.ofNat 32 b) = BitVec.ofBool (decide (a ≤ b)) := cmpi_sle_ofNat ha hb
theorem slt {a b : ℕ} (ha : a < 2147483648) (hb : b < 2147483648) :
    IntOp.cmpi .slt (BitVec.ofNat 32 a) (BitVec.ofNat 32 b) = BitVec.ofBool (decide (a < b)) := cmpi_slt_ofNat ha hb
theorem sge {a b : ℕ} (ha : a < 2147483648) (hb : b < 2147483648) :
    IntOp.cmpi .sge (BitVec.ofNat 32 a) (BitVec.ofNat 32 b) = BitVec.ofBool (decide (b ≤ a)) := cmpi_sge_ofNat ha hb
theorem sgt {a b : ℕ} (ha : a < 2147483648) (hb : b < 2147483648) :
    IntOp.cmpi .sgt (BitVec.ofNat 32 a) (BitVec.ofNat 32 b) = BitVec.ofBool (decide (b < a)) := cmpi_sgt_ofNat ha hb
theorem eqw {a b : ℕ} (ha : a < 2147483648) (hb : b < 2147483648) :
    IntOp.cmpi .eq (BitVec.ofNat 32 a) (BitVec.ofNat 32 b) = BitVec.ofBool (decide (a = b)) :=
  cmpi_eq_ofNat (by omega) (by omega)

theorem sel {α : Type} (p : Prop) [Decidable p] (x y : α) : Scalar.select (BitVec.ofBool (decide p)) x y = if p then x else y := by
  rw [select_ofBool]; simp
theorem and (p q : Prop) [Decidable p] [Decidable q] :
    IntOp.andi (BitVec.ofBool (decide p)) (BitVec.ofBool (decide q)) = BitVec.ofBool (decide (p ∧ q)) := by
  rw [andi_ofBool]; simp
theorem or (p q : Prop) [Decidable p] [Decidable q] :
    IntOp.ori (BitVec.ofBool (decide p)) (BitVec.ofBool (decide q)) = BitVec.ofBool (decide (p ∨ q)) := by
  rw [ori_ofBool]; simp

theorem subInt {a b : ℕ} (ha : a < 1073741824) (hb : b < 1073741824) :
    (IntOp.subi (BitVec.ofNat 32 a) (BitVec.ofNat 32 b)).toInt = (a : ℤ) - b := by
  show (BitVec.ofNat 32 a - BitVec.ofNat 32 b).toInt = _
  rw [BitVec.toInt_sub, toInt_ofNat_of_lt (by omega), toInt_ofNat_of_lt (by omega), Int.bmod_eq_of_le] <;> omega

/-- The difference of two small positions, against zero and against a small number. -/
theorem sub_sge {a b : ℕ} (ha : a < 1073741824) (hb : b < 1073741824) :
    IntOp.cmpi .sge (IntOp.subi (BitVec.ofNat 32 a) (BitVec.ofNat 32 b)) 0#32 = BitVec.ofBool (decide (b ≤ a)) := by
  rw [cmpi_sge_eq, subInt ha hb]
  congr 2
  simp
theorem sub_slt {a b n : ℕ} (ha : a < 1073741824) (hb : b < 1073741824) (hn : n < 1073741824) :
    IntOp.cmpi .slt (IntOp.subi (BitVec.ofNat 32 a) (BitVec.ofNat 32 b)) (BitVec.ofNat 32 n) = BitVec.ofBool (decide (a < b + n)) := by
  rw [cmpi_slt_eq, subInt ha hb, toInt_ofNat_of_lt (by omega)]
  congr 2
  apply propext; omega

/-- The rounding-down quotient, on any unit: for natural numbers it is their quotient. -/
theorem quot (u : ArithUnit) {a b : ℕ} (ha : a < 2147483648) (hb : b < 2147483648) (h : 0 < b) :
    Scalar.select (IntOp.andi
      (IntOp.cmpi .ne (IntOp.subi (Scalar.extui (Scalar.cmpi .sgt (BitVec.ofNat 32 a) 0#32) : BitVec 32) (Scalar.extui (Scalar.cmpi .slt (BitVec.ofNat 32 a) 0#32)))
        (IntOp.subi (Scalar.extui (Scalar.cmpi .sgt (BitVec.ofNat 32 b) 0#32)) (Scalar.extui (Scalar.cmpi .slt (BitVec.ofNat 32 b) 0#32))))
      (IntOp.cmpi .ne (IntOp.remsi u (BitVec.ofNat 32 a) (BitVec.ofNat 32 b)) 0#32))
    (IntOp.subi (IntOp.divsi u (BitVec.ofNat 32 a) (BitVec.ofNat 32 b)) 1#32) (IntOp.divsi u (BitVec.ofNat 32 a) (BitVec.ofNat 32 b))
      = BitVec.ofNat 32 (a / b) := by
  have e1 : IntOp.divsi u (BitVec.ofNat 32 a) (BitVec.ofNat 32 b) = BitVec.ofNat 32 (a / b) := Routing.divsi_word u ha h hb
  have e2 : IntOp.remsi u (BitVec.ofNat 32 a) (BitVec.ofNat 32 b) = BitVec.ofNat 32 (a % b) := Routing.remsi_word u ha h hb
  rw [e1, e2]
  have s1 : Scalar.cmpi .sgt (BitVec.ofNat 32 b) 0#32 = 1#1 := by
    show IntOp.cmpi .sgt (BitVec.ofNat 32 b) (BitVec.ofNat 32 0) = _
    rw [sgt hb (by omega), decide_eq_true h]; rfl
  have s2 : ∀ c : ℕ, c < 2147483648 → Scalar.cmpi .slt (BitVec.ofNat 32 c) 0#32 = 0#1 := fun c hc => by
    show IntOp.cmpi .slt (BitVec.ofNat 32 c) (BitVec.ofNat 32 0) = _
    rw [slt hc (by omega), decide_eq_false (by omega)]; rfl
  rw [s1, s2 a ha, s2 b hb]
  rcases Nat.eq_zero_or_pos a with rfl | h0
  · rw [Nat.zero_mod, Nat.zero_div]; rfl
  · have s3 : Scalar.cmpi .sgt (BitVec.ofNat 32 a) 0#32 = 1#1 := by
      show IntOp.cmpi .sgt (BitVec.ofNat 32 a) (BitVec.ofNat 32 0) = _
      rw [sgt ha (by omega), decide_eq_true h0]; rfl
    rw [s3]
    show Scalar.select (IntOp.andi 0#1 _) _ _ = _
    rw [show ∀ c : BitVec 1, IntOp.andi 0#1 c = 0#1 from by decide]
    rfl

theorem floorQuot_ofNat {a b : ℕ} (ha : a < 2147483648) (hb : b < 2147483648) (h : 0 < b) :
    floorQuot (BitVec.ofNat 32 a) (BitVec.ofNat 32 b) = BitVec.ofNat 32 (a / b) := quot .scalar ha hb h

theorem ownBlock_at {live : ℕ} (t0 : ℕ) (h : t0 < 4096) (r : Fin live) (c : Fin 256) :
    ownBlock live (BitVec.ofNat 32 t0) (ix2 r c) = BitVec.ofNat 32 ((t0 + c.val) / 64) := by
  rw [← quot .vector (a := t0 + c.val) (b := 64) (by omega) (by omega) (by omega), ← add]
  pointwise [ownBlock]
  rfl

/-- The value of the counter of a loop that starts at zero and counts by one. -/
theorem iv (k : ℕ) : Scf.iv (0#32) (1#32) k = BitVec.ofNat 32 k := by
  show (0#32 : BitVec 32) + BitVec.ofNat 32 k * 1#32 = _
  rw [BitVec.zero_add, BitVec.mul_one]

theorem toNat_small {a : ℕ} (h : a < 4294967296) : (BitVec.ofNat 32 a).toNat = a := by
  rw [BitVec.toNat_ofNat]; exact Nat.mod_eq_of_lt h

end Cert.Nsa.Word

end
-- ==== Proof.Rank.lean ====
/- The kernel's mask of blocks is zero where the block is kept and minus infinity elsewhere. -/
module

public import proofs.«01_k».proof.Proof.Spec
public import proofs.«01_k».proof.Proof.Words
public import Idealize.ShloMosaic.Lib.Pointwise

@[expose] public section

set_option maxRecDepth 16384

noncomputable section

namespace Cert.Nsa

open Idealize.ShloMosaic

theorem eq_pred {a b : ℕ} (ha : a < 1073741824) (hb : b < 1073741824) :
    IntOp.cmpi .eq (BitVec.ofNat 32 a) (IntOp.subi (BitVec.ofNat 32 b) 1#32) = BitVec.ofBool (decide (a + 1 = b)) := by
  rw [WordCmp.cmpi_eq_eq_toNat]
  congr 2
  show ((BitVec.ofNat 32 a).toNat = (BitVec.ofNat 32 b - 1#32).toNat) = _
  simp only [BitVec.toNat_sub, BitVec.toNat_ofNat]
  apply propext; omega

/-- The block scores of a query whose importances are in a column. -/
theorem score_at (R : Row) {live : ℕ} (h64 : live ≤ 64) (t0 : ℕ) (h0 : t0 + 256 ≤ 4096) (c : Fin 256) (ht : R.t = t0 + c.val)
    (imp : FVec Ideal (Rows live) .f32) (hi : ∀ j : Fin live, (imp (ix2 j c) : EReal) = ((R.imp j.val : ℝ) : EReal)) (j : Fin live) :
    (blockScore live (BitVec.ofNat 32 t0) imp (ix2 j c) : EReal) = R.ord j.val := by
  have hc := c.isLt
  have hj := j.isLt
  have e := Word.ownBlock_at (live := live) t0 (by omega) j c
  pointwise [blockScore]
  rw [e]
  have h0' : (0#32 : BitVec 32) = BitVec.ofNat 32 0 := rfl
  rw [h0']
  simp (disch := omega) only [Word.eqw, eq_pred, Word.or, Word.sel, Word.sle]
  rw [hi j, Row.ord, ht]
  simp only [or_assoc]

/-- A tile or a row of the scores, at an index. -/
theorem tileOf_at {live : ℕ} (a : FVec Ideal (Rows live) .f32) (r : ℕ) (h : 8 * r + 8 ≤ live) (s : Fin 8) (c : Fin 256) :
    (tileOf a r (ix2 s c) : EReal) = a (ix2 ⟨8 * r + s.val, by omega⟩ c) := by
  unfold tileOf
  rw [dif_pos h]
  refine congrArg a (funext fun x => ?_)
  fin_cases x <;> exact Fin.ext (by first | rfl | exact Nat.zero_add _)
theorem rowOf_at {live : ℕ} (a : FVec Ideal (Rows live) .f32) (j : ℕ) (h : j < live) (s : Fin 8) (c : Fin 256) :
    (rowOf a j (ix2 s c) : EReal) = a (ix2 ⟨j, h⟩ c) := by
  unfold rowOf
  rw [dif_pos (show j + 1 ≤ live from h)]
  pointwise
  refine congrArg a (funext fun x => ?_)
  fin_cases x <;> exact Fin.ext (by first | rfl | exact Nat.zero_add _)

open Classical in
theorem comesBefore_at (R : Row) {live : ℕ} (h64 : live ≤ 64) (a : FVec Ideal (Rows live) .f32) (c : Fin 256)
    (ha : ∀ j : Fin live, (a (ix2 j c) : EReal) = R.ord j.val) (r j : ℕ) (h : 8 * r + 8 ≤ live) (hj : j < live) (s : Fin 8) :
    comesBefore a r j (ix2 s c) = BitVec.ofBool (decide (R.before j (8 * r + s.val))) := by
  have hs := s.isLt
  have e1 := tileOf_at a r h s c
  have e2 := rowOf_at a j hj s c
  rw [ha] at e1 e2
  unfold comesBefore
  split_ifs with h1 h2
  · pointwise
    rw [e1, e2]
    refine congrArg BitVec.ofBool (decide_eq_decide.mpr ?_)
    unfold Row.before
    rw [le_iff_lt_or_eq]
    exact or_congr Iff.rfl ⟨fun h => ⟨h.symm, by omega⟩, fun h => h.1.symm⟩
  · pointwise
    rw [e1, e2]
    refine congrArg BitVec.ofBool (decide_eq_decide.mpr ?_)
    unfold Row.before
    exact ⟨Or.inl, fun h => h.elim id fun h => absurd h.2 (by omega)⟩
  · pointwise
    rw [e1, e2, Word.sgt (by omega) (by omega), Word.and, Word.or]
    refine congrArg BitVec.ofBool (decide_eq_decide.mpr ?_)
    unfold Row.before
    exact or_congr Iff.rfl (and_congr Iff.rfl (by omega))

open Classical in
theorem count_at (R : Row) {live : ℕ} (h64 : live ≤ 64) (a : FVec Ideal (Rows live) .f32) (c : Fin 256)
    (ha : ∀ j : Fin live, (a (ix2 j c) : EReal) = R.ord j.val) (r : ℕ) (h : 8 * r + 8 ≤ live) (s : Fin 8) (n : ℕ) (hn : n ≤ live) :
    countBefore a r n (ix2 s c) = BitVec.ofNat 32 (((Finset.range n).filter fun j => R.before j (8 * r + s.val)).card) := by
  induction n with
  | zero => rfl
  | succ n ih =>
    have e := comesBefore_at R h64 a c ha r n h (by omega) s
    have : countBefore a r (n + 1) (ix2 s c) = IntOp.addi (countBefore a r n (ix2 s c)) ((comesBefore a r n (ix2 s c)).setWidth 32) := rfl
    rw [this, ih (by omega), e, Finset.range_add_one, Finset.filter_insert]
    by_cases hb : R.before n (8 * r + s.val)
    · rw [if_pos hb, Finset.card_insert_of_notMem (by simp), decide_eq_true hb, ← Word.add]
      rfl
    · rw [if_neg hb, decide_eq_false hb]
      show IntOp.addi _ (BitVec.ofNat 32 0) = _
      rw [Word.add]; rfl

open Classical in
theorem tileMask_at (R : Row) {live : ℕ} (h64 : live ≤ 64) (hl : R.t / 64 < live) (a : FVec Ideal (Rows live) .f32) (c : Fin 256)
    (ha : ∀ j : Fin live, (a (ix2 j c) : EReal) = R.ord j.val) (neg : Ideal .f32) (r : ℕ) (h : 8 * r + 8 ≤ live) (s : Fin 8) :
    (tileMask neg a r (ix2 s c) : EReal) = if R.kept (8 * r + s.val) then 0 else neg := by
  have hs := s.isLt
  have e := count_at R h64 a c ha r h s live le_rfl
  have hcard : ((Finset.range live).filter fun j => R.before j (8 * r + s.val)).card ≤ live := by
    simpa using Finset.card_filter_le (Finset.range live) fun j => R.before j (8 * r + s.val)
  pointwise [tileMask]
  rw [e]
  simp (disch := omega) only [Word.slt, Word.sel]
  exact if_congr (R.kept_iff hl h64 (by omega)).symm rfl rfl

/-- The kernel's blocks in the rows of the mask. -/
theorem join32_at (neg : Ideal .f32) (a : FVec Ideal (Rows 32) .f32) (t : Fin 4) (s : Fin 8) (c : Fin 256) :
    join32 neg a (ix2 ⟨8 * t.val + s.val, by omega⟩ c) = tileMask neg a t.val (ix2 s c) := by
  have hs := s.isLt
  fin_cases t <;> simp only [] <;> pointwise [join32] <;>
  (try simp (disch := omega) only [dif_neg, dif_pos]) <;>
  exact congrArg (fun x => tileMask neg a _ (ix2 x c)) (Fin.ext (by dsimp only <;> omega))
theorem join48_at (neg : Ideal .f32) (a : FVec Ideal (Rows 48) .f32) (t : Fin 6) (s : Fin 8) (c : Fin 256) :
    join48 neg a (ix2 ⟨8 * t.val + s.val, by omega⟩ c) = tileMask neg a t.val (ix2 s c) := by
  have hs := s.isLt
  fin_cases t <;> simp only [] <;> pointwise [join48] <;>
  (try simp (disch := omega) only [dif_neg, dif_pos]) <;>
  exact congrArg (fun x => tileMask neg a _ (ix2 x c)) (Fin.ext (by dsimp only <;> omega))
theorem join64_at (neg : Ideal .f32) (a : FVec Ideal (Rows 64) .f32) (t : Fin 8) (s : Fin 8) (c : Fin 256) :
    join64 neg a (ix2 ⟨8 * t.val + s.val, by omega⟩ c) = tileMask neg a t.val (ix2 s c) := by
  have hs := s.isLt
  fin_cases t <;> simp only [] <;> pointwise [join64] <;>
  (try simp (disch := omega) only [dif_neg, dif_pos]) <;>
  exact congrArg (fun x => tileMask neg a _ (ix2 x c)) (Fin.ext (by dsimp only <;> omega))

theorem which_eq : ∀ j : Fin 16, whichMask (BitVec.ofNat 32 (j.val * 256)) = BitVec.ofNat 32 (j.val / 4) := by decide

open Classical in
/-- The mask of the blocks a query can see. -/
theorem maskBy_at (R : Row) (i : Fin 16) (c : Fin 256) (ht : R.t = i.val * 256 + c.val)
    (imp : FVec Ideal (Rows 64) .f32) (hi : ∀ j : Fin 64, (imp (ix2 j c) : EReal) = ((R.imp j.val : ℝ) : EReal))
    (neg : Ideal .f32) (j : Fin 128) (hj : j.val ≤ R.t / 64) :
    (maskBy (whichMask (BitVec.ofNat 32 (i.val * 256))) neg (BitVec.ofNat 32 (i.val * 256)) imp (ix2 j c) : EReal)
      = if R.kept j.val then 0 else neg := by
  have hc := c.isLt
  rw [which_eq]
  have h4 : i.val / 4 < 4 := by omega
  generalize hq : i.val / 4 = q at *
  have hs : j.val % 8 < 8 := Nat.mod_lt _ (by norm_num)
  have hj' : 8 * (j.val / 8) + j.val % 8 = j.val := by omega
  interval_cases q
  · have : maskBy (BitVec.ofNat 32 0) neg (BitVec.ofNat 32 (i.val * 256)) imp = mask16 neg := rfl
    rw [this, if_pos (R.kept_of_few (by omega) (by omega))]
    pointwise [mask16, filler]
    rw [dif_pos (by omega)]
  · have : maskBy (BitVec.ofNat 32 1) neg (BitVec.ofNat 32 (i.val * 256)) imp = mask32 neg (BitVec.ofNat 32 (i.val * 256)) imp := rfl
    rw [this]
    unfold mask32
    have ha := score_at R (live := 32) (by norm_num) (i.val * 256) (by omega) c ht
      (extractStridedSlice (Rows 32) ![0, 0] imp (rows_slices 0 32 (by decide))) (fun j => by pointwise; exact hi ⟨j.val, by omega⟩)
    have e := join32_at neg (blockScore 32 (BitVec.ofNat 32 (i.val * 256)) (extractStridedSlice (Rows 32) ![0, 0] imp (rows_slices 0 32 (by decide)))) ⟨j.val / 8, by omega⟩ ⟨j.val % 8, hs⟩ c
    rw [tileMask_at R (by norm_num) (by omega) _ c ha neg _ (by dsimp only; omega)] at e
    simpa only [hj'] using e
  · have : maskBy (BitVec.ofNat 32 2) neg (BitVec.ofNat 32 (i.val * 256)) imp = mask48 neg (BitVec.ofNat 32 (i.val * 256)) imp := rfl
    rw [this]
    unfold mask48
    have ha := score_at R (live := 48) (by norm_num) (i.val * 256) (by omega) c ht
      (extractStridedSlice (Rows 48) ![0, 0] imp (rows_slices 0 48 (by decide))) (fun j => by pointwise; exact hi ⟨j.val, by omega⟩)
    have e := join48_at neg (blockScore 48 (BitVec.ofNat 32 (i.val * 256)) (extractStridedSlice (Rows 48) ![0, 0] imp (rows_slices 0 48 (by decide)))) ⟨j.val / 8, by omega⟩ ⟨j.val % 8, hs⟩ c
    rw [tileMask_at R (by norm_num) (by omega) _ c ha neg _ (by dsimp only; omega)] at e
    simpa only [hj'] using e
  · have : maskBy (BitVec.ofNat 32 3) neg (BitVec.ofNat 32 (i.val * 256)) imp = mask64 neg (BitVec.ofNat 32 (i.val * 256)) imp := rfl
    rw [this]
    unfold mask64
    have ha := score_at R (live := 64) (by norm_num) (i.val * 256) (by omega) c ht imp hi
    have e := join64_at neg (blockScore 64 (BitVec.ofNat 32 (i.val * 256)) imp) ⟨j.val / 8, by omega⟩ ⟨j.val % 8, hs⟩ c
    rw [tileMask_at R (by norm_num) (by omega) _ c ha neg _ (by dsimp only; omega)] at e
    simpa only [hj'] using e

end Cert.Nsa
end
-- ==== Proof.Quot.lean ====
/- The quotient of two natural numbers as words, where the program compares the operands' signs. -/
module

public import proofs.«01_k».proof.Proof.Words

@[expose] public section

namespace Cert.Nsa.Word

open Idealize.ShloMosaic

theorem sign_pos {a : ℕ} (ha : a < 2147483648) (h : 0 < a) :
    (if BitVec.ofNat 32 a = 0 then 0 else if (BitVec.ofNat 32 a).msb = true then -1 else 1 : BitVec 32) = 1 := by
  have h0 : (BitVec.ofNat 32 a).toNat = a := toNat_small (by omega)
  rw [if_neg (fun e => by have := congrArg BitVec.toNat e; rw [h0] at this; simp at this; omega), if_neg]
  rw [BitVec.msb_eq_decide, h0]
  simp; omega

theorem quot_sign (u : ArithUnit) {a : ℕ} (ha : a < 2147483648) :
    Scalar.select (IntOp.andi
      (IntOp.cmpi .ne (if BitVec.ofNat 32 a = 0 then 0 else if (BitVec.ofNat 32 a).msb = true then -1 else 1 : BitVec 32)
        (if 64#32 = 0 then 0 else if (64#32 : BitVec 32).msb = true then -1 else 1 : BitVec 32))
      (IntOp.cmpi .ne (IntOp.remsi u (BitVec.ofNat 32 a) 64#32) 0#32))
    (IntOp.subi (IntOp.divsi u (BitVec.ofNat 32 a) 64#32) 1#32) (IntOp.divsi u (BitVec.ofNat 32 a) 64#32)
      = BitVec.ofNat 32 (a / 64) := by
  have e1 : IntOp.divsi u (BitVec.ofNat 32 a) 64#32 = BitVec.ofNat 32 (a / 64) := Routing.divsi_word u ha (by omega) (by omega)
  have e2 : IntOp.remsi u (BitVec.ofNat 32 a) 64#32 = BitVec.ofNat 32 (a % 64) := Routing.remsi_word u ha (by omega) (by omega)
  rw [e1, e2]
  rcases Nat.eq_zero_or_pos a with rfl | h0
  · rw [Nat.zero_mod, Nat.zero_div]; rfl
  · rw [sign_pos ha h0]
    show Scalar.select (IntOp.andi 0#1 _) _ _ = _
    rw [show ∀ c : BitVec 1, IntOp.andi 0#1 c = 0#1 from by decide]
    rfl

end Cert.Nsa.Word
end
-- ==== Proof.RefIdeal.lean ====
/- The reference's scores and masks over the reals. -/
module

public import proofs.«01_k».proof.Proof.Gen.ReferenceIdeal.Run
public import proofs.«01_k».proof.Proof.Result
public import proofs.«01_k».proof.Proof.Rank
public import proofs.«01_k».proof.Proof.Quot
public import Idealize.ShloMosaic.Lib.Pointwise

@[expose] public section

set_option maxRecDepth 16384

noncomputable section

namespace Cert.ReferenceIdeal.Nsa

open Cert.ReferenceIdeal Cert.ReferenceIdeal.Gen Cert.ReferenceIdeal.Value Cert.Nsa
open Idealize.ShloMosaic Idealize.ShloMosaic.TcCoe Idealize.ShloMosaic.Tactic

theorem eighth : Ideal.ofBits .f32 0x3E000000#32 = ((8⁻¹ : ℝ) : EReal) := by
  simp [Ideal.ofBits, Ideal.ieee]
  rw [← EReal.coe_mul]
  congr 1
  norm_num
theorem neg_inf : Ideal.ofBits .f32 0xFF800000#32 = ⊥ := by
  simp [Ideal.ofBits, Ideal.ieee]

variable (V : Valuation τ sig (Elt Ideal))

/-- The arguments. -/
def inputs : Inputs where
  q b t h d := (V (Proc.devRef .tc main_arg0) : FVec Ideal S8x4096x8x64 .f32) (ix4 b t h d)
  kc b k g d := (V (Proc.devRef .tc main_arg1) : FVec Ideal S8x255x2x64 .f32) (ix4 b k g d)
  vc b k g d := (V (Proc.devRef .tc main_arg2) : FVec Ideal S8x255x2x64 .f32) (ix4 b k g d)
  ks b k g d := (V (Proc.devRef .tc main_arg3) : FVec Ideal S8x4096x2x64 .f32) (ix4 b k g d)
  vs b k g d := (V (Proc.devRef .tc main_arg4) : FVec Ideal S8x4096x2x64 .f32) (ix4 b k g d)
  kw b k g d := (V (Proc.devRef .tc main_arg5) : FVec Ideal S8x4096x2x64 .f32) (ix4 b k g d)
  vw b k g d := (V (Proc.devRef .tc main_arg6) : FVec Ideal S8x4096x2x64 .f32) (ix4 b k g d)
  gate b t h e := (V (Proc.devRef .tc main_arg7) : FVec Ideal S8x4096x8x3 .f32) (ix4 b t h e)

/-- What position `t` reads. -/
abbrev row (b : Fin 8) (t : Fin 4096) (g : Fin 2) : Row := (inputs V).row b t g

theorem query_at (b : Fin 8) (t : Fin 4096) (g : Fin 2) (h : Fin 4) (d : Fin 64) :
    (res_main_v1 V (ix5 b t g h d) : EReal) = (row V b t g).q h d := by
  pointwise [res_main_v1]
  show (V (Proc.devRef .tc main_arg0) : FVec Ideal S8x4096x8x64 .f32) _ = (V (Proc.devRef .tc main_arg0) : FVec Ideal S8x4096x8x64 .f32) _
  congr 2
  exact Fin.ext (by simp only [Inputs.headOf]; omega)

theorem mask_c (b : Fin 8) (g : Fin 2) (h : Fin 4) (t : Fin 4096) (k : Fin 255) :
    res_main_v19 V (ix5 b g h t k) = BitVec.ofBool (decide (16 * k.val + 31 ≤ t.val)) := by
  pointwise [res_main_v19, res_main_v0]
  rw [show (16#32 : BitVec 32) = BitVec.ofNat 32 16 from rfl, show (32#32 : BitVec 32) = BitVec.ofNat 32 32 from rfl,
    show (1#32 : BitVec 32) = BitVec.ofNat 32 1 from rfl, Word.mul, Word.add, Word.sub (by omega), Word.sle (by omega) (by omega)]
  congr 2
  exact propext (by omega)

/-- A score as the reference computes it. -/
theorem score_eq {q k : Fin 64 → EReal} (hq : ∀ d, IsReal (q d)) (hk : ∀ d, IsReal (k d)) :
    (∑ d, k d * q d) * Ideal.ofBits .f32 0x3E000000#32 = ((score q k : ℝ) : EReal) := by
  rw [Finset.sum_congr rfl fun d _ => mul_comm (k d) (q d), dot_at hq hk, eighth, ← EReal.coe_mul]
  congr 1
  ring

theorem masked_c (hf : (inputs V).Finite) (b : Fin 8) (g : Fin 2) (h : Fin 4) (t : Fin 4096) (k : Fin 255) :
    (res_main_v21 V (ix5 b g h t k) : EReal)
      = if 16 * k.val + 31 ≤ t.val then ((score ((row V b t g).q h) ((row V b t g).kc k) : ℝ) : EReal) else ⊥ := by
  pointwise [res_main_v21]
  simp only [query_at]
  rw [mask_c, Word.sel, show Ideal.ofBits .f32 4286578688#32 = ⊥ from neg_inf]
  exact if_congr Iff.rfl (score_eq (q := (row V b t g).q h) (k := (row V b t g).kc k) (fun d => hf.q _ _ _ _) (fun d => hf.kc _ _ _ _)) rfl

theorem masked_s (hf : (inputs V).Finite) (b : Fin 8) (g : Fin 2) (h : Fin 4) (t : Fin 4096) (k : Fin 4096) (p : Prop) [Decidable p]
    (hp : res_main_v104 V (ix5 b g h t k) = BitVec.ofBool (decide p)) :
    (res_main_v106 V (ix5 b g h t k) : EReal)
      = if p then ((score ((row V b t g).q h) ((row V b t g).ks k) : ℝ) : EReal) else ⊥ := by
  pointwise [res_main_v106]
  simp only [query_at]
  rw [hp, Word.sel, show Ideal.ofBits .f32 4286578688#32 = ⊥ from neg_inf]
  exact if_congr Iff.rfl (score_eq (q := (row V b t g).q h) (k := (row V b t g).ks k) (fun d => hf.q _ _ _ _) (fun d => hf.ks _ _ _ _)) rfl

theorem mask_w (b : Fin 8) (g : Fin 2) (h : Fin 4) (t : Fin 4096) (k : Fin 4096) :
    res_main_v136 V (ix5 b g h t k) = BitVec.ofBool (decide (k.val ≤ t.val ∧ t.val < k.val + 512)) := by
  pointwise [res_main_v136, res_main_v126, res_main_v0]
  rw [Word.sub_sge (by omega) (by omega), show (512#32 : BitVec 32) = BitVec.ofNat 32 512 from rfl,
    Word.sub_slt (by omega) (by omega) (by omega), Word.and]

theorem masked_w (hf : (inputs V).Finite) (b : Fin 8) (g : Fin 2) (h : Fin 4) (t : Fin 4096) (k : Fin 4096) :
    (res_main_v138 V (ix5 b g h t k) : EReal)
      = if k.val ≤ t.val ∧ t.val < k.val + 512 then ((score ((row V b t g).q h) ((row V b t g).kw k) : ℝ) : EReal) else ⊥ := by
  pointwise [res_main_v138]
  simp only [query_at]
  rw [mask_w, Word.sel, show Ideal.ofBits .f32 4286578688#32 = ⊥ from neg_inf]
  exact if_congr Iff.rfl (score_eq (q := (row V b t g).q h) (k := (row V b t g).kw k) (fun d => hf.q _ _ _ _) (fun d => hf.kw _ _ _ _)) rfl

theorem drop_c (b : Fin 8) (g : Fin 2) (h : Fin 4) (t : Fin 4096) (k : Fin 255) :
    reducesTo_S8x2x4x4096x255_S8x2x4x4096_d4.drop (ix5 b g h t k) = ix4 b g h t := by
  funext a
  fin_cases a <;> rfl
theorem drop_k (b : Fin 8) (g : Fin 2) (h : Fin 4) (t : Fin 4096) (k : Fin 4096) :
    reducesTo_S8x2x4x4096x4096_S8x2x4x4096_d4.drop (ix5 b g h t k) = ix4 b g h t := by
  funext a
  fin_cases a <;> rfl

end Cert.ReferenceIdeal.Nsa
end
end
-- ==== Proof.RefSoft.lean ====
/- The reference's attention weights over the reals: each is a softmax over the keys its mask lets through. -/
module

public import proofs.«01_k».proof.Proof.RefIdeal
public import proofs.«01_k».proof.Proof.Result
public import proofs.«01_k».proof.Proof.Rank
public import proofs.«01_k».proof.Proof.Quot
public import Idealize.ShloMosaic.Lib.Pointwise

@[expose] public section

set_option maxRecDepth 16384

noncomputable section

namespace Cert.ReferenceIdeal.Nsa

open Cert.ReferenceIdeal Cert.ReferenceIdeal.Gen Cert.ReferenceIdeal.Value Cert.Nsa
open Idealize.ShloMosaic Idealize.ShloMosaic.TcCoe Idealize.ShloMosaic.Tactic

/-- The largest of some values, none of which is `⊤`. -/
theorem peak {s t u : Shape} {axes : List (Fin s.rank)} (X : FVec Ideal s .f32) (init : FVec Ideal u .f32) (h : s.ReducesTo axes t)
    (hu : 0 < u.numel) (hi : (init (Shape.Idx.first hu) : EReal) = ⊥) (hX : ∀ i, (X i : EReal) ≠ ⊤) (j : t.Idx) (M : EReal)
    (hM : M = Host.reduce (α := Ideal .f32) FloatOps.maximumf X init h hu j) :
    max (⊥ : EReal) M ≠ ⊤ ∧ ∀ i, h.drop i = j → (X i : EReal) ≠ ⊥ → max (⊥ : EReal) M ≠ ⊥ := by
  rw [max_eq_right bot_le]
  have e : M = (Finset.univ.filter fun i => h.drop i = j).fold max (⊥ : EReal) X := by
    rw [hM, ← hi]; exact Host.reduce_eq_fold (max : EReal → EReal → EReal) X init h hu j
  rw [e]
  constructor
  · exact ne_of_lt ((Finset.fold_max_lt _).mpr ⟨bot_lt_top, fun i _ => lt_top_iff_ne_top.mpr (hX i)⟩)
  · intro i hi' hb he
    have : X i ≤ (Finset.univ.filter fun i => h.drop i = j).fold max (⊥ : EReal) X :=
      (Finset.le_fold_max _).mpr (Or.inr ⟨i, Finset.mem_filter.mpr ⟨Finset.mem_univ i, hi'⟩, le_rfl⟩)
    exact hb (le_bot_iff.mp (he ▸ this))

/-- The quotients of the exponentials by their sum are the normalised weights. -/
theorem share_at {n : ℕ} (m : Fin n → Prop) [DecidablePred m] (s : Fin n → ℝ) (X E : Fin n → EReal) (M : EReal)
    (hX : ∀ k, X k = if m k then (s k : EReal) else ⊥) (hE : ∀ k, E k = Ideal.exp (X k - max ⊥ M))
    (hM : max ⊥ M ≠ ⊤ ∧ ∀ k, X k ≠ ⊥ → max ⊥ M ≠ ⊥) (k : Fin n) (w : BitVec 1) (hw : w = BitVec.ofBool (decide (m k))) :
    Scalar.select w (Ideal.div (E k) (∑ x, E x)) 0 = ((wt (m k) (s k) * (∑ x, wt (m x) (s x))⁻¹ : ℝ) : EReal) := by
  rw [hw, Word.sel]
  simp only [hE, hX]
  refine softmax_at m s _ (fun ⟨x, hx⟩ => hM.2 x ?_) hM.1 k
  rw [hX, if_pos hx]
  exact EReal.coe_ne_bot _

theorem ne_top (p : Prop) [Decidable p] (x : ℝ) : (if p then (x : EReal) else ⊥) ≠ ⊤ := by
  split_ifs
  · exact EReal.coe_ne_top x
  · exact bot_ne_top

variable (V : Valuation τ sig (Elt Ideal))

/-- The largest score of each query, over the compressed blocks and over the keys. -/
def peakC (X : FVec Ideal S8x2x4x4096x255 .f32) : FVec Ideal S8x2x4x4096 .f32 :=
  Host.reduce FloatOps.maximumf X (constant S_ .f32 0xFF800000#32) reducesTo_S8x2x4x4096x255_S8x2x4x4096_d4 h_S_
def peakS (X : FVec Ideal S8x2x4x4096x4096 .f32) : FVec Ideal S8x2x4x4096 .f32 :=
  Host.reduce FloatOps.maximumf X (constant S_ .f32 0xFF800000#32) reducesTo_S8x2x4x4096x4096_S8x2x4x4096_d4 h_S_

/-- The exponentials of the scores less a number for each query. -/
def expC (X : FVec Ideal S8x2x4x4096x255 .f32) (Y : FVec Ideal S8x2x4x4096 .f32) : FVec Ideal S8x2x4x4096x255 .f32 :=
  Host.exp (subf X (broadcastInDim S8x2x4x4096x255 ![0, 1, 2, 3, 4] bcast_S8x2x4x4096x1_S8x2x4x4096x255_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) Y))))
def expS (X : FVec Ideal S8x2x4x4096x4096 .f32) (Y : FVec Ideal S8x2x4x4096 .f32) : FVec Ideal S8x2x4x4096x4096 .f32 :=
  Host.exp (subf X (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) Y))))

theorem expC_at (X : FVec Ideal S8x2x4x4096x255 .f32) (Y : FVec Ideal S8x2x4x4096 .f32) (b : Fin 8) (g : Fin 2) (h : Fin 4)
    (t : Fin 4096) (k : Fin 255) : (expC X Y (ix5 b g h t k) : EReal)
      = Ideal.exp (X (ix5 b g h t k) - max ⊥ (Y (ix4 b g h t) : EReal)) := by
  rw [← neg_inf]
  pointwise [expC]
theorem expS_at (X : FVec Ideal S8x2x4x4096x4096 .f32) (Y : FVec Ideal S8x2x4x4096 .f32) (b : Fin 8) (g : Fin 2) (h : Fin 4)
    (t : Fin 4096) (k : Fin 4096) : (expS X Y (ix5 b g h t k) : EReal)
      = Ideal.exp (X (ix5 b g h t k) - max ⊥ (Y (ix4 b g h t) : EReal)) := by
  rw [← neg_inf]
  pointwise [expS]

theorem exp_c : res_main_v28 V = expC (res_main_v21 V) (peakC (res_main_v21 V)) := by
  unfold res_main_v28 expC peakC; with_reducible rfl
theorem exp_s : res_main_v113 V = expS (res_main_v106 V) (peakS (res_main_v106 V)) := by
  unfold res_main_v113 expS peakS; with_reducible rfl
theorem exp_w : res_main_v145 V = expS (res_main_v138 V) (peakS (res_main_v138 V)) := by
  unfold res_main_v145 expS peakS; with_reducible rfl

/-- The quotients by the sums, over the keys. -/
def share (mask : IVec S8x2x4x4096x4096 1) (E : FVec Ideal S8x2x4x4096x4096 .f32) : FVec Ideal S8x2x4x4096x4096 .f32 :=
  select mask (Host.divf E (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduceAdd E (constant S_ .f32 0x00000000#32) reducesTo_S8x2x4x4096x4096_S8x2x4x4096_d4 h_S_)))) (broadcastInDim S8x2x4x4096x4096 ![] bcast_S_S8x2x4x4096x4096 (constant S_ .f32 0x00000000#32))

theorem share_eq (mask : IVec S8x2x4x4096x4096 1) (E : FVec Ideal S8x2x4x4096x4096 .f32) (b : Fin 8) (g : Fin 2) (h : Fin 4)
    (t : Fin 4096) (k : Fin 4096) : (share mask E (ix5 b g h t k) : EReal)
      = Scalar.select (mask (ix5 b g h t k)) (Ideal.div (E (ix5 b g h t k)) (∑ x, (E (ix5 b g h t x) : EReal))) 0 := by
  pointwise [share]
theorem share_c_eq (b : Fin 8) (g : Fin 2) (h : Fin 4) (t : Fin 4096) (k : Fin 255) : (res_main_v34 V (ix5 b g h t k) : EReal)
      = Scalar.select (res_main_v19 V (ix5 b g h t k)) (Ideal.div (res_main_v28 V (ix5 b g h t k)) (∑ x, (res_main_v28 V (ix5 b g h t x) : EReal))) 0 := by
  pointwise [res_main_v34]

theorem ix5_eq {a b c d e : ℕ} (i : (⟨5, ![a, b, c, d, e]⟩ : Shape).Idx) : i = ix5 (i 0) (i 1) (i 2) (i 3) (i 4) := by
  funext x
  fin_cases x <;> rfl

theorem share_c (hf : (inputs V).Finite) (b : Fin 8) (g : Fin 2) (h : Fin 4) (t : Fin 4096) (k : Fin 255) :
    (res_main_v34 V (ix5 b g h t k) : EReal)
      = (((row V b t g).wc h k * (∑ x, (row V b t g).wc h x)⁻¹ : ℝ) : EReal) := by
  rw [share_c_eq]
  refine share_at (fun x : Fin 255 => 16 * x.val + 31 ≤ t.val) (fun x => score ((row V b t g).q h) ((row V b t g).kc x))
    (fun x => (res_main_v21 V (ix5 b g h t x) : EReal)) (fun x => (res_main_v28 V (ix5 b g h t x) : EReal))
    (peakC (res_main_v21 V) (ix4 b g h t)) (fun x => masked_c V hf b g h t x)
    (fun x => by rw [exp_c]; exact expC_at _ _ b g h t x) ?_ k _ (mask_c V b g h t k)
  have := peak (res_main_v21 V) (constant S_ .f32 0xFF800000#32) reducesTo_S8x2x4x4096x255_S8x2x4x4096_d4 h_S_ neg_inf
    (fun i => by rw [ix5_eq i]; exact (masked_c V hf _ _ _ _ _).trans_ne (ne_top _ _)) (ix4 b g h t) _ rfl
  exact ⟨this.1, fun x hx => this.2 _ (drop_c b g h t x) hx⟩

theorem share_w (hf : (inputs V).Finite) (b : Fin 8) (g : Fin 2) (h : Fin 4) (t : Fin 4096) (k : Fin 4096) :
    (share (res_main_v136 V) (res_main_v145 V) (ix5 b g h t k) : EReal)
      = (((row V b t g).ww h k * (∑ x, (row V b t g).ww h x)⁻¹ : ℝ) : EReal) := by
  rw [share_eq]
  refine share_at (fun x : Fin 4096 => x.val ≤ t.val ∧ t.val < x.val + 512) (fun x => score ((row V b t g).q h) ((row V b t g).kw x))
    (fun x => (res_main_v138 V (ix5 b g h t x) : EReal)) (fun x => (res_main_v145 V (ix5 b g h t x) : EReal))
    (peakS (res_main_v138 V) (ix4 b g h t)) (fun x => masked_w V hf b g h t x)
    (fun x => by rw [exp_w]; exact expS_at _ _ b g h t x) ?_ k _ (mask_w V b g h t k)
  have := peak (res_main_v138 V) (constant S_ .f32 0xFF800000#32) reducesTo_S8x2x4x4096x4096_S8x2x4x4096_d4 h_S_ neg_inf
    (fun i => by rw [ix5_eq i]; exact (masked_w V hf _ _ _ _ _).trans_ne (ne_top _ _)) (ix4 b g h t) _ rfl
  exact ⟨this.1, fun x hx => this.2 _ (drop_k b g h t x) hx⟩

open Classical in
theorem share_s (hf : (inputs V).Finite)
    (hp : ∀ b g h t k, res_main_v104 V (ix5 b g h t k) = BitVec.ofBool (decide ((row V b t g).kept (k.val / 64) ∧ k.val ≤ t.val)))
    (b : Fin 8) (g : Fin 2) (h : Fin 4) (t : Fin 4096) (k : Fin 4096) :
    (share (res_main_v104 V) (res_main_v113 V) (ix5 b g h t k) : EReal)
      = (((row V b t g).ws h k * (∑ x, (row V b t g).ws h x)⁻¹ : ℝ) : EReal) := by
  rw [share_eq]
  refine share_at (fun x : Fin 4096 => (row V b t g).kept (x.val / 64) ∧ x.val ≤ t.val) (fun x => score ((row V b t g).q h) ((row V b t g).ks x))
    (fun x => (res_main_v106 V (ix5 b g h t x) : EReal)) (fun x => (res_main_v113 V (ix5 b g h t x) : EReal))
    (peakS (res_main_v106 V) (ix4 b g h t)) (fun x => masked_s V hf b g h t x _ (hp b g h t x))
    (fun x => by rw [exp_s]; exact expS_at _ _ b g h t x) ?_ k _ (hp b g h t k)
  have := peak (res_main_v106 V) (constant S_ .f32 0xFF800000#32) reducesTo_S8x2x4x4096x4096_S8x2x4x4096_d4 h_S_ neg_inf
    (fun i => by rw [ix5_eq i]; exact (masked_s V hf _ _ _ _ _ _ (hp _ _ _ _ _)).trans_ne (ne_top _ _)) (ix4 b g h t) _ rfl
  exact ⟨this.1, fun x hx => this.2 _ (drop_k b g h t x) hx⟩

end Cert.ReferenceIdeal.Nsa
end
end
-- ==== Proof.Place.lean ====
/- In a stable sort by one key, an element's place is the number of elements that come before it. -/
module

public import Idealize.ShloMosaic.Lib.SortFacts
public import proofs.«01_k».proof.Proof.Spec

@[expose] public section

namespace Cert.Nsa

open Idealize.ShloMosaic

/-- A greater key first, and of equal keys the lower position. -/
def ahead {n : ℕ} (key : Fin n → EReal) (a b : Fin n) : Prop := key b < key a ∨ (key a = key b ∧ a < b)

variable {n : ℕ} {key : Fin n → EReal} {R : Fin n → Fin n → Bool}

theorem ahead_irrefl (a : Fin n) : ¬ ahead key a a := by
  rintro (h | h)
  exacts [lt_irrefl _ h, lt_irrefl _ h.2]

theorem ahead_asymm {a b : Fin n} (h : ahead key a b) : ¬ ahead key b a := by
  rintro (h' | h') <;> rcases h with h | h
  · exact lt_asymm h h'
  · exact absurd h' (h.1 ▸ lt_irrefl _)
  · exact absurd h (h'.1 ▸ lt_irrefl _)
  · exact lt_asymm h.2 h'.2

theorem insert_ahead (hR : ∀ a b, R a b = true ↔ key b < key a) (a : Fin n) (l : List (Fin n)) (ha : ∀ b ∈ l, a < b)
    (hl : l.Pairwise (ahead key)) : (insertBefore R a l).Pairwise (ahead key) := by
  induction l with
  | nil => exact List.pairwise_singleton _ _
  | cons b l ih =>
    rw [List.pairwise_cons] at hl
    unfold insertBefore
    split
    · next h =>
      refine List.pairwise_cons.mpr ⟨fun x hx => ?_, ih (fun x hx => ha x (List.mem_cons_of_mem _ hx)) hl.2⟩
      rcases List.mem_cons.mp ((perm_insertBefore R a l).mem_iff.mp hx) with rfl | hx
      · exact Or.inl ((hR _ _).mp h)
      · exact hl.1 x hx
    · next h =>
      have hba : key b ≤ key a := not_lt.mp fun h' => h ((hR _ _).mpr h')
      refine List.pairwise_cons.mpr ⟨fun x hx => ?_, List.pairwise_cons.mpr hl⟩
      have hxb : key x ≤ key b := by
        rcases List.mem_cons.mp hx with rfl | hx
        · exact le_rfl
        · exact (hl.1 x hx).elim le_of_lt fun h => h.1.ge
      rcases lt_or_eq_of_le (hxb.trans hba) with h' | h'
      · exact Or.inl h'
      · exact Or.inr ⟨h'.symm, ha x hx⟩

theorem sort_ahead (hR : ∀ a b, R a b = true ↔ key b < key a) (l : List (Fin n)) (hl : l.Pairwise (· < ·)) :
    (stableSort R l).Pairwise (ahead key) := by
  induction l with
  | nil => exact List.Pairwise.nil
  | cons a l ih =>
    rw [List.pairwise_cons] at hl
    exact insert_ahead hR a _ (fun b hb => hl.1 b ((perm_stableSort R l).mem_iff.mp hb)) (ih hl.2)

theorem sorted_ahead (hR : ∀ a b, R a b = true ↔ key b < key a) {i i' : Fin n} (h : i < i') :
    ahead key (sortedFrom R i) (sortedFrom R i') :=
  List.pairwise_iff_get.mp (sort_ahead hR (List.finRange n) (List.pairwise_lt_finRange n)) _ _ h

open Classical in
/-- The element at place `i` has `i` elements before it. -/
theorem place (hR : ∀ a b, R a b = true ↔ key b < key a) (i : Fin n) :
    (Finset.univ.filter fun a => ahead key a (sortedFrom R i)).card = i.val := by
  have hb : Function.Bijective (sortedFrom R) := ⟨sortedFrom_injective R, sortedFrom_surjective R⟩
  have : (Finset.univ.filter fun a => ahead key a (sortedFrom R i)) = (Finset.Iio i).image (sortedFrom R) := by
    ext a
    obtain ⟨i', rfl⟩ := hb.2 a
    simp only [Finset.mem_filter, Finset.mem_univ, true_and, Finset.mem_image, Finset.mem_Iio]
    constructor
    · intro h
      refine ⟨i', lt_of_not_ge fun hle => ?_, rfl⟩
      rcases lt_or_eq_of_le hle with h' | h'
      · exact ahead_asymm h (sorted_ahead hR h')
      · exact ahead_irrefl _ (h' ▸ h)
    · rintro ⟨x, hx, hxe⟩
      exact hb.1 hxe ▸ sorted_ahead hR hx
  rw [this, Finset.card_image_of_injective _ hb.1, Fin.card_Iio]

open Classical in
/-- An element is in one of the first `k` places when fewer than `k` elements come before it. -/
theorem in_first (hR : ∀ a b, R a b = true ↔ key b < key a) {k : ℕ} (hk : k ≤ n) (j : Fin n) :
    (∃ x : Fin k, sortedFrom R (x.castLE hk) = j) ↔ (Finset.univ.filter fun a => ahead key a j).card < k := by
  obtain ⟨i, rfl⟩ := sortedFrom_surjective R j
  rw [place hR i]
  constructor
  · rintro ⟨x, hx⟩
    rw [← sortedFrom_injective R hx]
    exact x.isLt
  · intro h
    exact ⟨⟨i.val, h⟩, congrArg _ (Fin.ext rfl)⟩

end Cert.Nsa
end
-- ==== Proof.RefBlocks.lean ====
/- The reference keeps the sixteen key blocks that come first. -/
module

public import proofs.«01_k».proof.Proof.RefSoft
public import proofs.«01_k».proof.Proof.Result
public import proofs.«01_k».proof.Proof.Rank
public import proofs.«01_k».proof.Proof.Quot
public import proofs.«01_k».proof.Proof.Place
public import Idealize.ShloMosaic.Lib.Pointwise

@[expose] public section

set_option maxRecDepth 16384

noncomputable section

namespace Cert.ReferenceIdeal.Nsa

open Cert.ReferenceIdeal Cert.ReferenceIdeal.Gen Cert.ReferenceIdeal.Value Cert.Nsa
open Idealize.ShloMosaic Idealize.ShloMosaic.TcCoe Idealize.ShloMosaic.Tactic

variable (V : Valuation τ sig (Elt Ideal))

theorem own_block (t : Fin 4096) : res_main_v62 V (ix2 t 0) = BitVec.ofNat 32 (t.val / 64) := by
  rw [← Word.quot_sign .host (a := t.val) (by omega)]
  pointwise [res_main_v62, res_main_call0_v0, res_main_call0_v2, res_main_v0]
  rfl

theorem overlap (k j : ℕ) (hk : k < 255) (hj : j < 64) :
    IntOp.andi (IntOp.cmpi .slt (IntOp.muli (BitVec.ofNat 32 k) 16#32) (IntOp.addi (IntOp.muli (BitVec.ofNat 32 j) 64#32) 64#32))
      (IntOp.cmpi .sgt (IntOp.addi (IntOp.muli (BitVec.ofNat 32 k) 16#32) 32#32) (IntOp.muli (BitVec.ofNat 32 j) 64#32))
    = BitVec.ofBool (decide (16 * k < 64 * j + 64 ∧ 64 * j < 16 * k + 32)) := by
  rw [show (16#32 : BitVec 32) = BitVec.ofNat 32 16 from rfl, show (32#32 : BitVec 32) = BitVec.ofNat 32 32 from rfl,
    show (64#32 : BitVec 32) = BitVec.ofNat 32 64 from rfl]
  simp (disch := omega) only [Word.mul, Word.add, Word.slt, Word.sgt, Word.and]
  congr 2
  exact propext (by omega)

theorem of_bit (p : Prop) [Decidable p] :
    (FloatOps.uitofp (F := Ideal) .f32 (BitVec.ofBool (decide p)) : EReal) = (((if p then 1 else 0 : ℝ)) : EReal) := by
  by_cases h : p <;> simp [h, FloatOps.uitofp]

theorem imp_eq (R : Row) (P : Fin 4 → Fin 255 → EReal) (hP : ∀ y x, P y x = ((R.wc y x * (∑ z, R.wc y z)⁻¹ : ℝ) : EReal)) (j : Fin 64) :
    (∑ x : Fin 255, (∑ y : Fin 4, P y x) *
      (FloatOps.uitofp (F := Ideal) .f32 (IntOp.andi
        (IntOp.cmpi .slt (IntOp.muli (BitVec.ofNat 32 x.val) 16#32) (IntOp.addi (IntOp.muli (BitVec.ofNat 32 j.val) 64#32) 64#32))
        (IntOp.cmpi .sgt (IntOp.addi (IntOp.muli (BitVec.ofNat 32 x.val) 16#32) 32#32) (IntOp.muli (BitVec.ofNat 32 j.val) 64#32))) : EReal))
    = ((R.imp j.val : ℝ) : EReal) := by
  unfold Row.imp
  rw [coe_sum]
  refine Finset.sum_congr rfl fun x _ => ?_
  rw [overlap _ _ x.isLt j.isLt, of_bit, EReal.coe_mul, coe_sum]
  exact congrArg₂ (· * ·) (Finset.sum_congr rfl fun y _ => hP y x) rfl

theorem ord_eq (hf : (inputs V).Finite) (b : Fin 8) (g : Fin 2) (t : Fin 4096) (j : Fin 64) :
    (res_main_v80 V (ix4 b g t j) : EReal) = (row V b t g).ord j.val := by
  have ht := t.isLt
  have hj := j.isLt
  have hi := imp_eq (row V b t g) (fun y x => (res_main_v34 V (ix5 b g y t x) : EReal)) (fun y x => share_c V hf b g y t x) j
  pointwise [res_main_v80, res_main_v60, res_main_v40, res_main_v44]
  rw [own_block, show (0#32 : BitVec 32) = BitVec.ofNat 32 0 from rfl]
  simp (disch := omega) only [Word.eqw, eq_pred, Word.or, Word.sel, Word.sle]
  unfold Row.ord
  rw [← hi]
  simp only [or_assoc]
  rfl

theorem along_last (b : Fin 8) (g : Fin 2) (t : Fin 4096) (y k : Fin 64) (h3 : 3 < 4) :
    Shape.Idx.along (s := S8x2x4096x64) (ix4 b g t y) ⟨3, h3⟩ k = ix4 b g t k := by
  funext a
  fin_cases a <;> rfl

theorem position_last (b : Fin 8) (g : Fin 2) (t : Fin 4096) (y k : Fin 64) (h3 : 3 < 4) :
    iotaInDim S8x2x4096x64 32 ⟨3, h3⟩ (Shape.Idx.along (s := S8x2x4096x64) (ix4 b g t y) ⟨3, h3⟩ k) = BitVec.ofNat 32 k.val := by
  rw [along_last]
  rfl
theorem sorted_congr {n : ℕ} {B B' : Fin n → Fin n → Bool} (h : ∀ k k', B k k' = B' k k') {i i' : Fin n} (hi : i = i') :
    sortedFrom B i = sortedFrom B' i' := by
  rw [hi, show B = B' from funext fun k => funext fun k' => h k k']

/-- The `x`-th of the sixteen blocks taken. -/
theorem taken (X : FVec Ideal S8x2x4096x64 .f32) (b : Fin 8) (g : Fin 2) (t : Fin 4096) (x : Fin 16) :
    (Host.topK S8x2x4096x16 3 (FloatOps.cmpfTotal .gt) X sliceFits_S8x2x4096x64_S8x2x4096x16).2 (ix4 b g t x)
      = BitVec.ofNat 32 (sortedFrom (fun k k' : Fin 64 => FloatOps.cmpfTotal (F := Ideal) (φ := .f32) .gt (X (ix4 b g t k)) (X (ix4 b g t k')) == 1#1)
          (x.castLE (by norm_num))).val := by
  have e : (fun a : Fin 4 => (⟨0 + (ix4 b g t x (Fin.cast rfl a) : ℕ), by
      have := (ix4 b g t x a).isLt
      fin_cases a <;> simp at this ⊢ <;> omega⟩ : Fin (S8x2x4096x64.size a)))
      = ix4 b g t (x.castLE (by norm_num)) := by
    funext a
    fin_cases a <;> exact Fin.ext (Nat.zero_add _)
  have e' := congrArg (Host.sort2 S8x2x4096x64 3 (fun l r => FloatOps.cmpfTotal (F := Ideal) (φ := .f32) .gt l.1 r.1) X
    (fun i => if hd : 3 < S8x2x4096x64.rank then iotaInDim S8x2x4096x64 32 ⟨3, hd⟩ i else 0#32)).2 e
  refine Eq.trans e' ?_
  unfold Host.sort2
  rw [dif_pos (show 3 < S8x2x4096x64.rank by decide)]
  dsimp only
  rw [dif_pos (show 3 < S8x2x4096x64.rank by decide)]
  refine (position_last b g t _ _ _).trans (congrArg (fun v : Fin 64 => BitVec.ofNat 32 v.val) (sorted_congr (fun k k' => ?_) rfl))
  exact congrArg₂ (fun u v => FloatOps.cmpfTotal (F := Ideal) (φ := .f32) .gt (X u) (X v) == 1#1) (along_last b g t _ k _) (along_last b g t _ k' _)

theorem fold_or {n : ℕ} (p : Fin n → Prop) [DecidablePred p] :
    Finset.univ.fold IntOp.ori (0#1) (fun x : Fin n => BitVec.ofBool (decide (p x))) = BitVec.ofBool (decide (∃ x, p x)) := by
  have : ∀ S : Finset (Fin n), S.fold IntOp.ori (0#1) (fun x : Fin n => BitVec.ofBool (decide (p x))) = BitVec.ofBool (decide (∃ x ∈ S, p x)) := by
    intro S
    induction S using Finset.induction_on with
    | empty => simp
    | insert a S ha ih =>
      rw [Finset.fold_insert ha, ih, Word.or]
      congr 2
      simp
  rw [this]
  simp

theorem gt_bit (x y : EReal) : (FloatOps.cmpfTotal (F := Ideal) (φ := .f32) .gt x y == 1#1) = true ↔ y < x := by
  simp only [FloatOps.cmpfTotal, Ideal.cmpTotal, Ideal.cmp, CmpDirection.ordered]
  by_cases h : y < x <;> simp [h]

open Classical in
/-- A block is one of the sixteen taken when fewer than sixteen come before it. -/
theorem any_taken (X : FVec Ideal S8x2x4096x64 .f32) (b : Fin 8) (g : Fin 2) (t : Fin 4096) (key : Fin 64 → EReal)
    (hX : ∀ j : Fin 64, (X (ix4 b g t j) : EReal) = key j) (j : Fin 64) :
    Finset.univ.fold IntOp.ori (0#1) (fun x : Fin 16 => IntOp.cmpi .eq
      ((Host.topK S8x2x4096x16 3 (FloatOps.cmpfTotal .gt) X sliceFits_S8x2x4096x64_S8x2x4096x16).2 (ix4 b g t x)) (BitVec.ofNat 32 j.val))
      = BitVec.ofBool (decide ((Finset.univ.filter fun a => ahead key a j).card < 16)) := by
  have e : ∀ x : Fin 16, IntOp.cmpi .eq ((Host.topK S8x2x4096x16 3 (FloatOps.cmpfTotal .gt) X sliceFits_S8x2x4096x64_S8x2x4096x16).2 (ix4 b g t x))
      (BitVec.ofNat 32 j.val) = BitVec.ofBool (decide (sortedFrom (fun a c : Fin 64 => FloatOps.cmpfTotal (F := Ideal) (φ := .f32) .gt (key a) (key c) == 1#1)
          (x.castLE (show 16 ≤ 64 by norm_num)) = j)) := by
    intro x
    rw [taken]
    simp only [hX]
    generalize sortedFrom _ _ = y
    exact (Word.eqw (by omega) (by omega)).trans (congrArg BitVec.ofBool (decide_eq_decide.mpr Fin.ext_iff.symm))
  rw [Finset.fold_congr fun x _ => e x, fold_or]
  exact congrArg BitVec.ofBool (decide_eq_decide.mpr (in_first (fun a c => gt_bit (key a) (key c)) (by norm_num) j))

open Classical in
theorem kept_iff_ahead (R : Row) (j : Fin 64) :
    R.kept j.val ↔ (Finset.univ.filter fun a : Fin 64 => ahead (fun c : Fin 64 => R.ord c.val) a j).card < 16 := by
  unfold Row.kept
  have : ((Finset.range 64).filter fun j' => R.before j' j.val)
      = (Finset.univ.filter fun a : Fin 64 => ahead (fun c : Fin 64 => R.ord c.val) a j).map Fin.valEmbedding := by
    ext i
    simp only [Finset.mem_filter, Finset.mem_range, Finset.mem_map, Finset.mem_univ, true_and, Fin.valEmbedding_apply]
    constructor
    · rintro ⟨hi, h⟩
      exact ⟨⟨i, hi⟩, h, rfl⟩
    · rintro ⟨a, h, rfl⟩
      exact ⟨a.isLt, h⟩
  rw [this, Finset.card_map]

open Classical in
theorem mask_s (hf : (inputs V).Finite) (b : Fin 8) (g : Fin 2) (h : Fin 4) (t : Fin 4096) (k : Fin 4096) :
    res_main_v104 V (ix5 b g h t k) = BitVec.ofBool (decide ((row V b t g).kept (k.val / 64) ∧ k.val ≤ t.val)) := by
  have hk := k.isLt
  have e := any_taken (res_main_v80 V) b g t (fun j => (row V b t g).ord j.val) (fun j => ord_eq V hf b g t j) ⟨k.val / 64, by omega⟩
  rw [← Word.and, ← Word.sle (a := k.val) (b := t.val) (by omega) (by omega)]
  pointwise [res_main_v104, res_main_v0]
  refine congrArg₂ IntOp.andi (e.trans ?_) rfl
  exact congrArg BitVec.ofBool (decide_eq_decide.mpr (kept_iff_ahead (row V b t g) ⟨k.val / 64, by omega⟩).symm)

end Cert.ReferenceIdeal.Nsa
end
end
-- ==== Proof.RefResult.lean ====
/- The reference's result: the gated sum of the three branches. -/
module

public import proofs.«01_k».proof.Proof.RefBlocks
public import proofs.«01_k».proof.Proof.Result
public import proofs.«01_k».proof.Proof.Rank
public import proofs.«01_k».proof.Proof.Quot
public import proofs.«01_k».proof.Proof.Place
public import Idealize.ShloMosaic.Lib.Pointwise

@[expose] public section

set_option maxRecDepth 16384

noncomputable section

namespace Cert.ReferenceIdeal.Nsa

open Cert.ReferenceIdeal Cert.ReferenceIdeal.Gen Cert.ReferenceIdeal.Value Cert.Nsa
open Idealize.ShloMosaic Idealize.ShloMosaic.TcCoe Idealize.ShloMosaic.Tactic Idealize.ShloMosaic.StableHlo Idealize.SL.Sem

/-- The gated sum of the three branches. -/
def combine (G : FVec Ideal S8x4096x2x4x3 .f32) (P : FVec Ideal S8x2x4x4096x255 .f32) (Q W : FVec Ideal S8x2x4x4096x4096 .f32)
    (vc : FVec Ideal S8x255x2x64 .f32) (vs vw : FVec Ideal S8x4096x2x64 .f32) : FVec Ideal S8x4096x512 .bf16 :=
  truncf .bf16 (shapeCast _ (addf (addf (mulf (broadcastInDim S8x4096x2x4x64 ![0, 1, 2, 3, 4] bcast_S8x4096x2x4x1_S8x4096x2x4x64_0_1_2_3_4 (extractStridedSlice S8x4096x2x4x1 ![0, 0, 0, 0, 0] G slices_S8x4096x2x4x3_S8x4096x2x4x1_0_0_0_0_0)) (transpose S8x4096x2x4x64 [0, 4, 1, 3, 2] (Host.dotGeneral dot_S8x255x2x64_S8x2x4x4096x255_S8x2x64x4x4096_1_4_3_23_02_01 none vc P) transposes_S8x2x64x4x4096_S8x4096x2x4x64_0_4_1_3_2)) (mulf (broadcastInDim S8x4096x2x4x64 ![0, 1, 2, 3, 4] bcast_S8x4096x2x4x1_S8x4096x2x4x64_0_1_2_3_4 (extractStridedSlice S8x4096x2x4x1 ![0, 0, 0, 0, 1] G slices_S8x4096x2x4x3_S8x4096x2x4x1_0_0_0_0_1)) (transpose S8x4096x2x4x64 [0, 4, 1, 3, 2] (Host.dotGeneral dot_S8x4096x2x64_S8x2x4x4096x4096_S8x2x64x4x4096_1_4_3_23_02_01 none vs Q) transposes_S8x2x64x4x4096_S8x4096x2x4x64_0_4_1_3_2))) (mulf (broadcastInDim S8x4096x2x4x64 ![0, 1, 2, 3, 4] bcast_S8x4096x2x4x1_S8x4096x2x4x64_0_1_2_3_4 (extractStridedSlice S8x4096x2x4x1 ![0, 0, 0, 0, 2] G slices_S8x4096x2x4x3_S8x4096x2x4x1_0_0_0_0_2)) (transpose S8x4096x2x4x64 [0, 4, 1, 3, 2] (Host.dotGeneral dot_S8x4096x2x64_S8x2x4x4096x4096_S8x2x64x4x4096_1_4_3_23_02_01 none vw W) transposes_S8x2x64x4x4096_S8x4096x2x4x64_0_4_1_3_2))) shapeCasts_S8x4096x2x4x64_S8x4096x512) bitsLt_bf16_f32

theorem combine_at (G : FVec Ideal S8x4096x2x4x3 .f32) (P : FVec Ideal S8x2x4x4096x255 .f32) (Q W : FVec Ideal S8x2x4x4096x4096 .f32)
    (vc : FVec Ideal S8x255x2x64 .f32) (vs vw : FVec Ideal S8x4096x2x64 .f32) (b : Fin 8) (t : Fin 4096) (n : Fin 512) :
    (combine G P Q W vc vs vw (ix3 b t n) : EReal)
      = G (ix5 b t ⟨n.val / 256, by omega⟩ ⟨n.val / 64 % 4, by omega⟩ 0)
          * (∑ x, (vc (ix4 b x ⟨n.val / 256, by omega⟩ ⟨n.val % 64, by omega⟩) : EReal) * P (ix5 b ⟨n.val / 256, by omega⟩ ⟨n.val / 64 % 4, by omega⟩ t x))
        + G (ix5 b t ⟨n.val / 256, by omega⟩ ⟨n.val / 64 % 4, by omega⟩ 1)
          * (∑ x, (vs (ix4 b x ⟨n.val / 256, by omega⟩ ⟨n.val % 64, by omega⟩) : EReal) * Q (ix5 b ⟨n.val / 256, by omega⟩ ⟨n.val / 64 % 4, by omega⟩ t x))
        + G (ix5 b t ⟨n.val / 256, by omega⟩ ⟨n.val / 64 % 4, by omega⟩ 2)
          * (∑ x, (vw (ix4 b x ⟨n.val / 256, by omega⟩ ⟨n.val % 64, by omega⟩) : EReal) * W (ix5 b ⟨n.val / 256, by omega⟩ ⟨n.val / 64 % 4, by omega⟩ t x)) := by
  pointwise [combine]

variable (V : Valuation τ sig (Elt Ideal))

theorem gate_at (b : Fin 8) (t : Fin 4096) (g : Fin 2) (h : Fin 4) (e : Fin 3) :
    (res_main_v2 V (ix5 b t g h e) : EReal) = (row V b t g).gate h e := by
  pointwise [res_main_v2]
  show (V (Proc.devRef .tc main_arg7) : FVec Ideal S8x4096x8x3 .f32) _ = (V (Proc.devRef .tc main_arg7) : FVec Ideal S8x4096x8x3 .f32) _
  congr 2
  exact Fin.ext (by simp only [Inputs.headOf]; omega)

open Classical in
/-- The reference's result. -/
theorem combine_eq (hf : (inputs V).Finite) (b : Fin 8) (t : Fin 4096) (n : Fin 512) :
    (combine (res_main_v2 V) (res_main_v34 V) (share (res_main_v104 V) (res_main_v113 V)) (share (res_main_v136 V) (res_main_v145 V))
      (V (Proc.devRef .tc main_arg2)) (V (Proc.devRef .tc main_arg4)) (V (Proc.devRef .tc main_arg6)) (ix3 b t n) : EReal)
      = (inputs V).result b t n := by
  rw [combine_at]
  simp only [gate_at, share_c V hf, share_w V hf, share_s V hf (mask_s V hf)]
  unfold Inputs.result Row.out
  exact congrArg₂ (· + ·) (congrArg₂ (· + ·) (congrArg₂ (· * ·) rfl (sum_norm _ (fun k => wt_nonneg _ _) _))
    (congrArg₂ (· * ·) rfl (sum_norm _ (fun k => wt_nonneg _ _) _))) (congrArg₂ (· * ·) rfl (sum_norm _ (fun k => wt_nonneg _ _) _))

variable (m : (ℓ : Loc nD τ sig) → Buf (Elt Ideal) ℓ) (ρ : Dev nD → PrngReg)

/-- The arguments as they lie in memory. -/
def inputsOf (c : Dev nD) : Inputs := inputs (launchContents m c)

def resultArray (c : Dev nD) : FVec Ideal S8x4096x512 .bf16 := fun y => (inputsOf m c).result (y 0) (y 1) (y 2)

theorem combine_array (c : Dev nD) (hf : (inputsOf m c).Finite) :
    combine (res_main_v2 (launchContents m c)) (res_main_v34 (launchContents m c))
      (share (res_main_v104 (launchContents m c)) (res_main_v113 (launchContents m c)))
      (share (res_main_v136 (launchContents m c)) (res_main_v145 (launchContents m c)))
      (launchContents m c (Proc.devRef .tc main_arg2)) (launchContents m c (Proc.devRef .tc main_arg4))
      (launchContents m c (Proc.devRef .tc main_arg6)) = resultArray m c := by
  funext y
  have e : y = ix3 (y 0) (y 1) (y 2) := by
    funext a
    fin_cases a <;> rfl
  rw [e]
  exact combine_eq (launchContents m c) hf (y 0) (y 1) (y 2)

/-- From any memory with finite queries and keys the reference ends with the attention in its result array and its
    arguments as they were. -/
theorem reference_run (hf : ∀ c, (inputsOf m c).Finite) :
    θ_run defs (onTc (τ := τ) (main (F := Ideal))) ⟨m, fun _ => 0, ρ⟩ fun r => ∀ c : Dev nD,
      r.2.mem ((c : Thread nD τ).loc main_v166) = resultArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (combine_array m c (hf c)), (h c).2⟩) (run (F := Ideal) m ρ)

end Cert.ReferenceIdeal.Nsa
end
end
-- ==== Proof.SwitchIdeal.lean ====
/- The conditional of the kernel, read as one function: what the four branches leave is `Cert.Nsa.blockMask`. -/
module

public import proofs.«01_k».proof.Proof.Gen.KernelIdeal.Skeleton
public import proofs.«01_k».proof.Proof.BlockMask
public import Idealize.ShloMosaic.Lib.Tactic

@[expose] public section

set_option maxRecDepth 65536

noncomputable section

namespace Cert.KernelIdeal.Nsa

open Cert.KernelIdeal Cert.KernelIdeal.Gen Cert.Nsa Idealize.ShloMosaic Idealize.SL.Sem

variable {F : FTy → Type} [FloatOps F] [Named F]

/-- The stand-in for minus infinity. -/
abbrev neg : F .f32 := Named.named κ "neg" 0xF149F2CA#32

section
variable (i : grid0.Coords) (arg2 : Memref sig .tc .vmem S1x256x512 .f32) (harg2 : arg2.IsWhole) (arg3 : Memref sig .tc .vmem S1x256x128 .f32) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x4096x128 .bf16) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S1x256x512 .bf16) (harg15 : arg15.IsWhole)
  (v0 : BitVec 32) (v51 : FVec F S1024x128 .bf16) (v100 : FVec F S64x256 .f32) (v128 : FVec F S1024x128 .bf16)
  (v183 : FVec F S64x256 .f32) (c3_i32 v220 : BitVec 32)

set_option maxHeartbeats 1000000 in
/-- THE CONDITIONAL: whichever branch runs, it leaves the block masks of the two groups of heads. -/
theorem switch_eq : k0_part160 i arg2 harg2 arg3 harg3 arg4 harg4 arg5 harg5 arg6 harg6 arg7 harg7 arg8 harg8 arg9 harg9 arg10 harg10 arg11 harg11 arg12 harg12 arg13 harg13 arg14 harg14 arg15 harg15 v0 v51 v100 v128 v183 c3_i32 v220
    = pure ⟨k0_pay1519 v51 (maskBy (Scalar.minsi v220 c3_i32) neg v0 v100),
        k0_pay1520 v128 (maskBy (Scalar.minsi v220 c3_i32) neg v0 v183), tileCount v0,
        k0_pay1521 (F := F), k0_pay1522 (F := F), Scalar.subi (tileCount v0) 0#32, 2#32,
        Scalar.divsi (Scalar.subi (tileCount v0) 0#32) 2#32,
        Scalar.subi (Scalar.extui (Scalar.cmpi .sgt (Scalar.subi (tileCount v0) 0#32) 0#32))
          (Scalar.extui (Scalar.cmpi .slt (Scalar.subi (tileCount v0) 0#32) 0#32)),
        Scalar.extui (Scalar.cmpi .sgt 2#32 0#32)⟩ := by
  rw [k0_part160_eq_skeleton]
  unfold k0_part160_skel
  dsimp only
  split_ifs with h1 h2 h3
  · rw [show maskBy (Scalar.minsi v220 c3_i32) neg v0 v100 = mask64 neg v0 v100 from (if_pos h1).trans ((if_pos h2).trans (if_pos h3)),
      show maskBy (Scalar.minsi v220 c3_i32) neg v0 v183 = mask64 neg v0 v183 from (if_pos h1).trans ((if_pos h2).trans (if_pos h3))]
    sl_kernel_rfl
  · rw [show maskBy (Scalar.minsi v220 c3_i32) neg v0 v100 = mask48 neg v0 v100 from (if_pos h1).trans ((if_pos h2).trans (if_neg h3)),
      show maskBy (Scalar.minsi v220 c3_i32) neg v0 v183 = mask48 neg v0 v183 from (if_pos h1).trans ((if_pos h2).trans (if_neg h3))]
    sl_kernel_rfl
  · rw [show maskBy (Scalar.minsi v220 c3_i32) neg v0 v100 = mask32 neg v0 v100 from (if_pos h1).trans (if_neg h2),
      show maskBy (Scalar.minsi v220 c3_i32) neg v0 v183 = mask32 neg v0 v183 from (if_pos h1).trans (if_neg h2)]
    sl_kernel_rfl
  · rw [show maskBy (Scalar.minsi v220 c3_i32) neg v0 v100 = mask16 neg from if_neg h1,
      show maskBy (Scalar.minsi v220 c3_i32) neg v0 v183 = mask16 neg from if_neg h1]
    sl_kernel_rfl

end

end Cert.KernelIdeal.Nsa

end
-- ==== Proof.RunIdeal.lean ====
/- The whole body of the kernel run once, at any grid point and on any whole staging buffers. -/
module

public import proofs.«01_k».proof.Proof.SwitchIdeal
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring

@[expose] public section

set_option maxRecDepth 16384

noncomputable section

namespace Cert.KernelIdeal.Nsa

open Cert.KernelIdeal Cert.KernelIdeal.Gen Cert.Nsa
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A whole buffer whose cells are `x` written out is a buffer that holds `x`. -/
theorem held {c : Dev nD} {s : Shape} {e : EltTy} {a : Memref sig .tc .vmem s e} (h : a.IsWhole) {x : Vec F s e} :
    (a.view.loc (c : Thread nD τ) ↦[a.view.set]{fullShare} h.unread x : sProp 𝕄) ⊢
      iprop(∃ f, ⌜a.view.read (Elt F) f = x⌝ ∗ (a.view.loc (c : Thread nD τ) ↦[a.view.set]{fullShare} f)) := by
  iintro H
  iexists _
  isplitr
  · ipureintro; exact h.read_unread _
  · iexact H

set_option maxHeartbeats 1000000 in
/-- THE BODY: from input buffers that hold `x0`, …, `x12` and an output buffer that holds anything, the body gives the
    inputs back unchanged and the output with a list of pieces written into it; the list comes with the proof. -/
noncomputable def bodyRun (c : Dev nD) (i : grid0.Coords) (arg2 : Memref sig .tc .vmem S1x256x512 .f32) (harg2 : arg2.IsWhole) (arg3 : Memref sig .tc .vmem S1x256x128 .f32) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x4096x128 .bf16) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S1x256x512 .bf16) (harg15 : arg15.IsWhole)
    (x0 : Vec F S1x256x512 .f32) (x1 : Vec F S1x256x128 .f32) (x2 : Vec F S1x256x128 .bf16) (x3 : Vec F S1x256x128 .bf16) (x4 : Vec F S1x256x128 .bf16) (x5 : Vec F S1x4096x128 .bf16) (x6 : Vec F S1x4096x128 .bf16) (x7 : Vec F S1x4096x128 .bf16) (x8 : Vec F S1x4096x128 .bf16) (x9 : Vec F S1x4096x128 .bf16) (x10 : Vec F S1x4096x128 .bf16) (x11 : Vec F S256x128 .bf16) (x12 : Vec F S4096x128 .bf16) :
    { L : List (View.Piece (Elt F) S1x256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L)) -∗ K ⟨⟩))
          ⊢ wp frame (wpE (defs₀ (F := F)) Variants.none c none) E (cc0_nsa_bounded i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_nsa_bounded_eq_skeleton]; unfold cc0_nsa_bounded_skel
    simp only [switch_eq]
    simp only [k0_part155_eq_skeleton, k0_part156_eq_skeleton, k0_part157_eq_skeleton, k0_part158_eq_skeleton, k0_part159_eq_skeleton, k0_part161_eq_skeleton, k0_part162_eq_skeleton, k0_part163_eq_skeleton, k0_part164_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, Hk⟩
    obtain rfl := harg2.eq_unread e0
    obtain rfl := harg3.eq_unread e1
    obtain rfl := harg4.eq_unread e2
    obtain rfl := harg5.eq_unread e3
    obtain rfl := harg6.eq_unread e4
    obtain rfl := harg7.eq_unread e5
    obtain rfl := harg8.eq_unread e6
    obtain rfl := harg9.eq_unread e7
    obtain rfl := harg10.eq_unread e8
    obtain rfl := harg11.eq_unread e9
    obtain rfl := harg12.eq_unread e10
    obtain rfl := harg13.eq_unread e11
    obtain rfl := harg14.eq_unread e12
    sl_exec
    sl_step
    iapply Hk
    isplitl [H0]; · iapply held harg2; iexact H0
    isplitl [H1]; · iapply held harg3; iexact H1
    isplitl [H2]; · iapply held harg4; iexact H2
    isplitl [H3]; · iapply held harg5; iexact H3
    isplitl [H4]; · iapply held harg6; iexact H4
    isplitl [H5]; · iapply held harg7; iexact H5
    isplitl [H6]; · iapply held harg8; iexact H6
    isplitl [H7]; · iapply held harg9; iexact H7
    isplitl [H8]; · iapply held harg10; iexact H8
    isplitl [H9]; · iapply held harg11; iexact H9
    isplitl [H10]; · iapply held harg12; iexact H10
    isplitl [H11]; · iapply held harg13; iexact H11
    isplitl [H12]; · iapply held harg14; iexact H12
    iexists _; iexact H13

end Cert.KernelIdeal.Nsa

end
-- ==== Proof.FrameIdeal.lean ====
/- The launch: what the output's buffer holds after a grid point, the pipeline's data, and the frame of the program. -/
module

public import proofs.«01_k».proof.Proof.RunIdeal
public import Idealize.ShloMosaic.Lib.Claim

@[expose] public section

set_option maxRecDepth 16384

noncomputable section

namespace Cert.KernelIdeal.Nsa

open Cert.KernelIdeal Cert.KernelIdeal.Gen Cert.Nsa
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The block one grid point computes -/

section
variable (c : Dev nD) (i : grid0.Coords) (arg2 : Memref sig .tc .vmem S1x256x512 .f32) (harg2 : arg2.IsWhole) (arg3 : Memref sig .tc .vmem S1x256x128 .f32) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x4096x128 .bf16) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S1x256x512 .bf16) (harg15 : arg15.IsWhole)
    (x0 : Vec F S1x256x512 .f32) (x1 : Vec F S1x256x128 .f32) (x2 : Vec F S1x256x128 .bf16) (x3 : Vec F S1x256x128 .bf16) (x4 : Vec F S1x256x128 .bf16) (x5 : Vec F S1x4096x128 .bf16) (x6 : Vec F S1x4096x128 .bf16) (x7 : Vec F S1x4096x128 .bf16) (x8 : Vec F S1x4096x128 .bf16) (x9 : Vec F S1x4096x128 .bf16) (x10 : Vec F S1x4096x128 .bf16) (x11 : Vec F S256x128 .bf16) (x12 : Vec F S4096x128 .bf16)

/-- Every cell of the output's block lies in one of the four pieces that the body stores, one for each head. -/
theorem pieces_cover (y : S1x256x512.Idx) : ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12).1 S1x256x128.size (by sl_kernel_rfl) y

/-- A whole view of the output's block, to read the pieces through. -/
abbrev outView : View sig .tc .vmem S1x256x512 .bf16 := (Memref.whole cc0_stg13_0 : Memref sig .tc .vmem S1x256x512 .bf16).view

/-- The block that the four pieces make up. -/
def bodyOut : Vec F S1x256x512 .bf16 := outView.read (Elt F) (outView.writes (Elt F) outView.junk (bodyRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12).1)
end

variable (m : (ℓ : Loc nD τ sig) → Buf (Elt F) ℓ) (ρ : Dev nD → PrngReg)

/-! ## The buffers a grid point works on -/

abbrev buf0 (t : Fin cfg0.N) : Memref sig .tc .vmem S1x256x512 .f32 := win0_0.stage (cfg0.slots t 0)
theorem whole0 (t : Fin cfg0.N) : (buf0 t).IsWhole := hstage0_0 ((cfg0.slots t 0).cast nbuf0_0)
abbrev buf1 (t : Fin cfg0.N) : Memref sig .tc .vmem S1x256x128 .f32 := win0_1.stage (cfg0.slots t 1)
theorem whole1 (t : Fin cfg0.N) : (buf1 t).IsWhole := hstage0_1 ((cfg0.slots t 1).cast nbuf0_1)
abbrev buf2 (t : Fin cfg0.N) : Memref sig .tc .vmem S1x256x128 .bf16 := win0_2.stage (cfg0.slots t 2)
theorem whole2 (t : Fin cfg0.N) : (buf2 t).IsWhole := hstage0_2 ((cfg0.slots t 2).cast nbuf0_2)
abbrev buf3 (t : Fin cfg0.N) : Memref sig .tc .vmem S1x256x128 .bf16 := win0_3.stage (cfg0.slots t 3)
theorem whole3 (t : Fin cfg0.N) : (buf3 t).IsWhole := hstage0_3 ((cfg0.slots t 3).cast nbuf0_3)
abbrev buf4 (t : Fin cfg0.N) : Memref sig .tc .vmem S1x256x128 .bf16 := win0_4.stage (cfg0.slots t 4)
theorem whole4 (t : Fin cfg0.N) : (buf4 t).IsWhole := hstage0_4 ((cfg0.slots t 4).cast nbuf0_4)
abbrev buf5 (t : Fin cfg0.N) : Memref sig .tc .vmem S1x4096x128 .bf16 := win0_5.stage (cfg0.slots t 5)
theorem whole5 (t : Fin cfg0.N) : (buf5 t).IsWhole := hstage0_5 ((cfg0.slots t 5).cast nbuf0_5)
abbrev buf6 (t : Fin cfg0.N) : Memref sig .tc .vmem S1x4096x128 .bf16 := win0_6.stage (cfg0.slots t 6)
theorem whole6 (t : Fin cfg0.N) : (buf6 t).IsWhole := hstage0_6 ((cfg0.slots t 6).cast nbuf0_6)
abbrev buf7 (t : Fin cfg0.N) : Memref sig .tc .vmem S1x4096x128 .bf16 := win0_7.stage (cfg0.slots t 7)
theorem whole7 (t : Fin cfg0.N) : (buf7 t).IsWhole := hstage0_7 ((cfg0.slots t 7).cast nbuf0_7)
abbrev buf8 (t : Fin cfg0.N) : Memref sig .tc .vmem S1x4096x128 .bf16 := win0_8.stage (cfg0.slots t 8)
theorem whole8 (t : Fin cfg0.N) : (buf8 t).IsWhole := hstage0_8 ((cfg0.slots t 8).cast nbuf0_8)
abbrev buf9 (t : Fin cfg0.N) : Memref sig .tc .vmem S1x4096x128 .bf16 := win0_9.stage (cfg0.slots t 9)
theorem whole9 (t : Fin cfg0.N) : (buf9 t).IsWhole := hstage0_9 ((cfg0.slots t 9).cast nbuf0_9)
abbrev buf10 (t : Fin cfg0.N) : Memref sig .tc .vmem S1x4096x128 .bf16 := win0_10.stage (cfg0.slots t 10)
theorem whole10 (t : Fin cfg0.N) : (buf10 t).IsWhole := hstage0_10 ((cfg0.slots t 10).cast nbuf0_10)
abbrev buf11 (t : Fin cfg0.N) : Memref sig .tc .vmem S256x128 .bf16 := win0_11.stage (cfg0.slots t 11)
theorem whole11 (t : Fin cfg0.N) : (buf11 t).IsWhole := hstage0_11 ((cfg0.slots t 11).cast nbuf0_11)
abbrev buf12 (t : Fin cfg0.N) : Memref sig .tc .vmem S4096x128 .bf16 := win0_12.stage (cfg0.slots t 12)
theorem whole12 (t : Fin cfg0.N) : (buf12 t).IsWhole := hstage0_12 ((cfg0.slots t 12).cast nbuf0_12)
abbrev buf13 (t : Fin cfg0.N) : Memref sig .tc .vmem S1x256x512 .bf16 := win0_13.stage (cfg0.slots t 13)
theorem whole13 (t : Fin cfg0.N) : (buf13 t).IsWhole := hstage0_13 ((cfg0.slots t 13).cast nbuf0_13)

/-- What the output's buffer holds after grid point `t`. -/
def outAt (c : Dev nD) (t : Fin cfg0.N) : Vec F S1x256x512 .bf16 :=
  bodyOut c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-! ## The pipeline's data: inputs stay, the output takes the block of each point -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ _ := Pipeline.ΦA spec0 c
  q _ := fullShare
  owed _ := 0

theorem starts (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = iblk m c 9 t := by dsimp only [dats]
theorem left10 (c : Dev nD) (t : Fin cfg0.N) : (dats m 0 c).after 10 t = iblk m c 10 t := by dsimp only [dats]
theorem left11 (c : Dev nD) (t : Fin cfg0.N) : (dats m 0 c).after 11 t = iblk m c 11 t := by dsimp only [dats]
theorem left12 (c : Dev nD) (t : Fin cfg0.N) : (dats m 0 c).after 12 t = iblk m c 12 t := by dsimp only [dats]
theorem left13 (c : Dev nD) (t : Fin cfg0.N) : (dats m 0 c).after 13 t = outAt m c t := by dsimp only [dats]

theorem found0 (c : Dev nD) (t : Fin cfg0.N) (d) : (dats m 0 c).before 0 t d = iblk m c 0 t :=
  before0_0_of m (dats m 0 c) (starts m c 0) (left0 m c) t d
theorem found1 (c : Dev nD) (t : Fin cfg0.N) (d) : (dats m 0 c).before 1 t d = iblk m c 1 t :=
  before0_1_of m (dats m 0 c) (starts m c 1) (left1 m c) t d
theorem found2 (c : Dev nD) (t : Fin cfg0.N) (d) : (dats m 0 c).before 2 t d = iblk m c 2 t :=
  before0_2_of m (dats m 0 c) (starts m c 2) (left2 m c) t d
theorem found3 (c : Dev nD) (t : Fin cfg0.N) (d) : (dats m 0 c).before 3 t d = iblk m c 3 t :=
  before0_3_of m (dats m 0 c) (starts m c 3) (left3 m c) t d
theorem found4 (c : Dev nD) (t : Fin cfg0.N) (d) : (dats m 0 c).before 4 t d = iblk m c 4 t :=
  before0_4_of m (dats m 0 c) (starts m c 4) (left4 m c) t d
theorem found5 (c : Dev nD) (t : Fin cfg0.N) (d) : (dats m 0 c).before 5 t d = iblk m c 5 t :=
  before0_5_of m (dats m 0 c) (starts m c 5) (left5 m c) t d
theorem found6 (c : Dev nD) (t : Fin cfg0.N) (d) : (dats m 0 c).before 6 t d = iblk m c 6 t :=
  before0_6_of m (dats m 0 c) (starts m c 6) (left6 m c) t d
theorem found7 (c : Dev nD) (t : Fin cfg0.N) (d) : (dats m 0 c).before 7 t d = iblk m c 7 t :=
  before0_7_of m (dats m 0 c) (starts m c 7) (left7 m c) t d
theorem found8 (c : Dev nD) (t : Fin cfg0.N) (d) : (dats m 0 c).before 8 t d = iblk m c 8 t :=
  before0_8_of m (dats m 0 c) (starts m c 8) (left8 m c) t d
theorem found9 (c : Dev nD) (t : Fin cfg0.N) (d) : (dats m 0 c).before 9 t d = iblk m c 9 t :=
  before0_9_of m (dats m 0 c) (starts m c 9) (left9 m c) t d
theorem found10 (c : Dev nD) (t : Fin cfg0.N) (d) : (dats m 0 c).before 10 t d = iblk m c 10 t :=
  before0_10_of m (dats m 0 c) (starts m c 10) (left10 m c) t d
theorem found11 (c : Dev nD) (t : Fin cfg0.N) (d) : (dats m 0 c).before 11 t d = iblk m c 11 t :=
  before0_11_of m (dats m 0 c) (starts m c 11) (left11 m c) t d
theorem found12 (c : Dev nD) (t : Fin cfg0.N) (d) : (dats m 0 c).before 12 t d = iblk m c 12 t :=
  before0_12_of m (dats m 0 c) (starts m c 12) (left12 m c) t d

/-! ## One grid point, as the pipeline asks for it -/

def pointPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d)))

def pointPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t)
    ∗ owns (c : Thread nD τ) (buf12 t) fullShare ((dats m 0 c).after 12 t)
    ∗ owns (c : Thread nD τ) (buf13 t) fullShare ((dats m 0 c).after 13 t))

set_option maxHeartbeats 1200000 in
/-- The body takes every grid point from what the pipeline hands it to what the pipeline wants back. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4, found5, found6, found7, found8, found9, found10, found11, found12]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10, left11, left12, left13]
  unfold outAt bodyOut
  iintro ⟨HI, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((bodyRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, ⟨%e, H13⟩⟩
  isplitl [HI]; · iexact HI
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns
  iexists _
  isplitr
  swap
  · iexact H13
  ipureintro
  exact View.read_writes_of_cover _ _ _ _ _ (pieces_cover c _ _ _ _ _ _ _ _ _ _ _ _ _ _ _ _ _ _ _ _ _ _ _ _ _ _ _ _ _ _ _ _ _ _ _ _ _ _ _ _ _ _)

theorem point_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, point_row]
  exact triple_restated (point_runs m c t) rfl .rfl fun _ => .rfl

/-! ## The run and the frame -/

set_option backward.isDefEq.respectTransparency.types false in
/-- The program runs to its end with every semaphore at zero, the arrays of the pipeline at what its data say and all
    other arrays as the launch found them. -/
theorem runs : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := starts m) (hΦ := fun _ _ => rfl)

/-- THE FRAME: the arguments end as they began and the semaphores end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (starts m) ((θ_run defs _ _).mono (fun _ h => h.1) (runs m ρ)))
    ((θ_run defs _ _).mono (fun _ h => h.2) (runs m ρ))

end Cert.KernelIdeal.Nsa

end
-- ==== Proof.HostIdeal.lean ====
/- The arrays that the program lays out before the kernel runs, each as a function of the program's arguments, element by
   element: the queries and gates of a position in one row, keys of both groups side by side, values with ones in the
   lanes of the other group, which compressed key overlaps which block, and which block a key lies in. -/
module

public import proofs.«01_k».proof.Proof.FrameIdeal
public import proofs.«01_k».proof.Proof.Quot
public import Idealize.ShloMosaic.Lib.Pointwise
public import Idealize.ShloMosaic.Lib.StableHlo.Run

@[expose] public section

set_option maxRecDepth 16384

noncomputable section

namespace Cert.KernelIdeal.Nsa
open Cert.KernelIdeal Cert.KernelIdeal.Gen Cert.Nsa
open Idealize.ShloMosaic Idealize.ShloMosaic.TcCoe Idealize.ShloMosaic.Tactic

/-- The gates of a position in one row of 24, and zeros up to 128 lanes. -/
def gatesOf (a : FVec Ideal S8x4096x8x3 .f32) : FVec Ideal S8x4096x128 .f32 :=
  pad S8x4096x128 ![0, 0, 0] ![0, 0, 104] ![0, 0, 0] (shapeCast S8x4096x24 a shapeCasts_S8x4096x8x3_S8x4096x24)
    (sitofp .f32 (constantI S_ 32 0#32)) pads_S8x4096x24_S8x4096x128_000_000_01040 h_S_

/-- The queries of a position in one row of 512. -/
def queriesOf (a : FVec Ideal S8x4096x8x64 .f32) : FVec Ideal S8x4096x512 .f32 :=
  shapeCast S8x4096x512 a shapeCasts_S8x4096x8x64_S8x4096x512

/-- The compressed rows of both groups side by side, and a row of zeros. -/
def rowsOf (a : FVec Ideal S8x255x2x64 .f32) : FVec Ideal S8x256x128 .f32 :=
  pad S8x256x128 ![0, 0, 0] ![0, 1, 0] ![0, 0, 0] (shapeCast S8x255x128 a shapeCasts_S8x255x2x64_S8x255x128)
    (sitofp .f32 (constantI S_ 32 0#32)) pads_S8x255x128_S8x256x128_000_010_000 h_S_

def keysOf (a : FVec Ideal S8x4096x2x64 .f32) : FVec Ideal S8x4096x128 .f32 :=
  shapeCast S8x4096x128 a shapeCasts_S8x4096x2x64_S8x4096x128

def firstC : IVec S8x256x128 1 :=
  cmpi .slt (iotaInDim S8x256x128 32 2) (broadcastInDim S8x256x128 ![] bcast_S_S8x256x128 (constantI S_ 32 64#32))
def firstS : IVec S8x4096x128 1 :=
  cmpi .slt (iotaInDim S8x4096x128 32 2) (broadcastInDim S8x4096x128 ![] bcast_S_S8x4096x128 (constantI S_ 32 64#32))
def oneC : FVec Ideal S8x256x128 .f32 :=
  broadcastInDim S8x256x128 ![] bcast_S_S8x256x128 (constant S_ .f32 0x3F800000#32 : FVec Ideal S_ .f32)
def oneS : FVec Ideal S8x4096x128 .f32 :=
  broadcastInDim S8x4096x128 ![] bcast_S_S8x4096x128 (constant S_ .f32 0x3F800000#32 : FVec Ideal S_ .f32)

/-- Which compressed key overlaps which block: one in every lane past the blocks. -/
def overlaps : FVec Ideal S256x128 .f32 :=
  let k := muli (iotaInDim S256x128 32 0) (broadcastInDim S256x128 ![] bcast_S_S256x128 (constantI S_ 32 16#32))
  let j := muli (iotaInDim S256x128 32 1) (broadcastInDim S256x128 ![] bcast_S_S256x128 (constantI S_ 32 64#32))
  select (ori (cmpi .sge (iotaInDim S256x128 32 1) (broadcastInDim S256x128 ![] bcast_S_S256x128 (constantI S_ 32 64#32)))
    (andi (andi (cmpi .slt k (addi j (broadcastInDim S256x128 ![] bcast_S_S256x128 (constantI S_ 32 64#32))))
      (cmpi .sgt (addi k (broadcastInDim S256x128 ![] bcast_S_S256x128 (constantI S_ 32 32#32))) j))
      (cmpi .slt k (broadcastInDim S256x128 ![] bcast_S_S256x128 (constantI S_ 32 4080#32)))))
    (broadcastInDim S256x128 ![] bcast_S_S256x128 (constant S_ .f32 0x3F800000#32 : FVec Ideal S_ .f32))
    (broadcastInDim S256x128 ![] bcast_S_S256x128 (constant S_ .f32 0x00000000#32 : FVec Ideal S_ .f32))

/-- Which block a key lies in. -/
def blockOf : IVec S4096x128 32 :=
  let k := iotaInDim S4096x128 32 0
  let n := broadcastInDim S4096x128 ![] bcast_S_S4096x128 (constantI S_ 32 64#32)
  let e := Host.divsi k n
  select (andi (cmpi .ne (signi k) (broadcastInDim S4096x128 ![] bcast_S_S4096x128 (signi (constantI S_ 32 64#32))))
    (cmpi .ne (Host.remsi k n) (broadcastInDim S4096x128 ![] bcast_S_S4096x128 (constantI S_ 32 0#32))))
    (subi e (broadcastInDim S4096x128 ![] bcast_S_S4096x128 (constantI S_ 32 1#32))) e

def inBlock : FVec Ideal S4096x128 .f32 :=
  select (cmpi .eq (iotaInDim S4096x128 32 1) blockOf)
    (broadcastInDim S4096x128 ![] bcast_S_S4096x128 (constant S_ .f32 0x3F800000#32 : FVec Ideal S_ .f32))
    (broadcastInDim S4096x128 ![] bcast_S_S4096x128 (constant S_ .f32 0x00000000#32 : FVec Ideal S_ .f32))

section
variable (m : (ℓ : Loc nD τ sig) → Buf (Elt Ideal) ℓ) (c : Dev nD)

theorem V_queries : V m c main_v35 = queriesOf (m ((c : Thread nD τ).loc main_arg0)) := by
  dsimp only [V, List.flatten_cons, List.flatten_nil, List.append_nil, List.cons_append, List.nil_append]
  after_results_simp
  rfl

theorem V_gates : V m c main_v1 = gatesOf (m ((c : Thread nD τ).loc main_arg7)) := by
  dsimp only [V, List.flatten_cons, List.flatten_nil, List.append_nil, List.cons_append, List.nil_append]
  after_results_simp
  rfl

theorem V_kc : V m c main_v36 = truncf .bf16 (rowsOf (m ((c : Thread nD τ).loc main_arg1))) bitsLt_bf16_f32 := by
  dsimp only [V, List.flatten_cons, List.flatten_nil, List.append_nil, List.cons_append, List.nil_append]
  after_results_simp
  rfl

theorem V_vc0 : V m c main_v41 = truncf .bf16 (select firstC (rowsOf (m ((c : Thread nD τ).loc main_arg2))) oneC) bitsLt_bf16_f32 := by
  dsimp only [V, List.flatten_cons, List.flatten_nil, List.append_nil, List.cons_append, List.nil_append]
  after_results_simp
  rfl

theorem V_vc1 : V m c main_v46 = truncf .bf16 (select firstC oneC (rowsOf (m ((c : Thread nD τ).loc main_arg2)))) bitsLt_bf16_f32 := by
  dsimp only [V, List.flatten_cons, List.flatten_nil, List.append_nil, List.cons_append, List.nil_append]
  after_results_simp
  rfl

theorem V_ks : V m c main_v48 = truncf .bf16 (keysOf (m ((c : Thread nD τ).loc main_arg3))) bitsLt_bf16_f32 := by
  dsimp only [V, List.flatten_cons, List.flatten_nil, List.append_nil, List.cons_append, List.nil_append]
  after_results_simp
  rfl

theorem V_vs0 : V m c main_v53 = truncf .bf16 (select firstS (keysOf (m ((c : Thread nD τ).loc main_arg4))) oneS) bitsLt_bf16_f32 := by
  dsimp only [V, List.flatten_cons, List.flatten_nil, List.append_nil, List.cons_append, List.nil_append]
  after_results_simp
  rfl

theorem V_vs1 : V m c main_v58 = truncf .bf16 (select firstS oneS (keysOf (m ((c : Thread nD τ).loc main_arg4)))) bitsLt_bf16_f32 := by
  dsimp only [V, List.flatten_cons, List.flatten_nil, List.append_nil, List.cons_append, List.nil_append]
  after_results_simp
  rfl

theorem V_kw : V m c main_v60 = truncf .bf16 (keysOf (m ((c : Thread nD τ).loc main_arg5))) bitsLt_bf16_f32 := by
  dsimp only [V, List.flatten_cons, List.flatten_nil, List.append_nil, List.cons_append, List.nil_append]
  after_results_simp
  rfl

theorem V_vw0 : V m c main_v65 = truncf .bf16 (select firstS (keysOf (m ((c : Thread nD τ).loc main_arg6))) oneS) bitsLt_bf16_f32 := by
  dsimp only [V, List.flatten_cons, List.flatten_nil, List.append_nil, List.cons_append, List.nil_append]
  after_results_simp
  rfl

theorem V_vw1 : V m c main_v70 = truncf .bf16 (select firstS oneS (keysOf (m ((c : Thread nD τ).loc main_arg6)))) bitsLt_bf16_f32 := by
  dsimp only [V, List.flatten_cons, List.flatten_nil, List.append_nil, List.cons_append, List.nil_append]
  after_results_simp
  rfl

theorem V_ov : V m c main_v33 = truncf .bf16 overlaps bitsLt_bf16_f32 := by
  dsimp only [V, List.flatten_cons, List.flatten_nil, List.append_nil, List.cons_append, List.nil_append]
  after_results_simp
  rfl

theorem V_hot : V m c main_v34 = truncf .bf16 inBlock bitsLt_bf16_f32 := by
  dsimp only [V, List.flatten_cons, List.flatten_nil, List.append_nil, List.cons_append, List.nil_append]
  after_results_simp
  rfl
end

theorem at_blockOf (k : Fin 4096) (y : Fin 128) : blockOf (ix2 k y) = BitVec.ofNat 32 (k.val / 64) := by
  rw [← Word.quot_sign .host (a := k.val) (by omega)]
  pointwise [blockOf]

theorem at_inBlock (k : Fin 4096) (y : Fin 128) :
    (inBlock (ix2 k y) : EReal) = if y.val = k.val / 64 then 1 else 0 := by
  pointwise [inBlock]
  rw [at_blockOf, Word.eqw (by omega) (by omega), Word.sel]

theorem at_queries (a : FVec Ideal S8x4096x8x64 .f32) (b : Fin 8) (t : Fin 4096) (n : Fin 512) :
    queriesOf a (ix3 b t n) = a (ix4 b t ⟨n / 64, by omega⟩ ⟨n % 64, by omega⟩) := by
  pointwise [queriesOf]

theorem at_gates (a : FVec Ideal S8x4096x8x3 .f32) (b : Fin 8) (t : Fin 4096) (n : Fin 128) (hn : n.val < 24) :
    gatesOf a (ix3 b t n) = a (ix4 b t ⟨n / 3, by omega⟩ ⟨n % 3, by omega⟩) := by
  pointwise [gatesOf]
  exact dif_pos hn

theorem at_rows (a : FVec Ideal S8x255x2x64 .f32) (b : Fin 8) (k : Fin 256) (n : Fin 128) (hk : k.val < 255) :
    rowsOf a (ix3 b k n) = a (ix4 b ⟨k, hk⟩ ⟨n / 64, by omega⟩ ⟨n % 64, by omega⟩) := by
  pointwise [rowsOf]
  exact dif_pos hk

theorem at_pad (a : FVec Ideal S8x255x2x64 .f32) (b : Fin 8) (k : Fin 256) (n : Fin 128) (hk : ¬ k.val < 255) :
    rowsOf a (ix3 b k n) = (0 : EReal) := by
  pointwise [rowsOf]
  rw [dif_neg hk]
  show (((0#32 : BitVec 32).toInt : ℝ) : EReal) = 0
  simp

theorem at_keys (a : FVec Ideal S8x4096x2x64 .f32) (b : Fin 8) (k : Fin 4096) (n : Fin 128) :
    keysOf a (ix3 b k n) = a (ix4 b k ⟨n / 64, by omega⟩ ⟨n % 64, by omega⟩) := by
  pointwise [keysOf]

theorem at_overlaps (k : Fin 256) (n : Fin 128) (hk : k.val < 255) (hn : n.val < 64) :
    (overlaps (ix2 k n) : EReal) = if 16 * k.val < 64 * n.val + 64 ∧ 64 * n.val < 16 * k.val + 32 then 1 else 0 := by
  pointwise [overlaps]
  rw [show (64#32 : BitVec 32) = BitVec.ofNat 32 64 from rfl, show (16#32 : BitVec 32) = BitVec.ofNat 32 16 from rfl,
    show (32#32 : BitVec 32) = BitVec.ofNat 32 32 from rfl, show (4080#32 : BitVec 32) = BitVec.ofNat 32 4080 from rfl]
  simp only [Word.mul, Word.add]
  rw [Word.sge (by omega) (by omega), Word.slt (by omega) (by omega), Word.sgt (by omega) (by omega),
    Word.slt (by omega) (by omega), Word.and, Word.and, Word.or, Word.sel]
  exact if_congr (by omega) rfl rfl

theorem at_first {α : Type} (n : Fin 128) (x y : α) :
    Scalar.select (IntOp.cmpi CmpIPredicate.slt (BitVec.ofNat 32 n.val) 64#32) x y = if n.val < 64 then x else y := by
  rw [show (64#32 : BitVec 32) = BitVec.ofNat 32 64 from rfl, Word.slt (by omega) (by omega), Word.sel]

theorem at_v0S (X : FVec Ideal S8x4096x128 .f32) (b : Fin 8) (k : Fin 4096) (n : Fin 128) :
    (truncf .bf16 (select firstS X oneS) bitsLt_bf16_f32 (ix3 b k n) : EReal) = if n.val < 64 then X (ix3 b k n) else 1 := by
  pointwise [firstS, oneS]
  exact at_first n _ _

theorem at_v1S (X : FVec Ideal S8x4096x128 .f32) (b : Fin 8) (k : Fin 4096) (n : Fin 128) :
    (truncf .bf16 (select firstS oneS X) bitsLt_bf16_f32 (ix3 b k n) : EReal) = if n.val < 64 then 1 else X (ix3 b k n) := by
  pointwise [firstS, oneS]
  exact at_first n _ _

theorem at_v0C (X : FVec Ideal S8x256x128 .f32) (b : Fin 8) (k : Fin 256) (n : Fin 128) :
    (truncf .bf16 (select firstC X oneC) bitsLt_bf16_f32 (ix3 b k n) : EReal) = if n.val < 64 then X (ix3 b k n) else 1 := by
  pointwise [firstC, oneC]
  exact at_first n _ _

theorem at_v1C (X : FVec Ideal S8x256x128 .f32) (b : Fin 8) (k : Fin 256) (n : Fin 128) :
    (truncf .bf16 (select firstC oneC X) bitsLt_bf16_f32 (ix3 b k n) : EReal) = if n.val < 64 then 1 else X (ix3 b k n) := by
  pointwise [firstC, oneC]
  exact at_first n _ _

end Cert.KernelIdeal.Nsa
end
end
-- ==== Proof.StageIdeal.lean ====
/- The stages of the kernel's body, read at an index: queries, compressed branch, window branch, output. -/
module

public import proofs.«01_k».proof.Proof.RunIdeal
public import proofs.«01_k».proof.Proof.Spec
public import proofs.«01_k».proof.Proof.Words
public import Idealize.ShloMosaic.Lib.Pointwise

@[expose] public section

set_option maxRecDepth 16384

noncomputable section

namespace Cert.KernelIdeal.Nsa

open Cert.KernelIdeal Cert.KernelIdeal.Gen Cert.Nsa
open Idealize.ShloMosaic

theorem scale_eq : (Named.named (F := Ideal) (φ := .f32) κ "scale" 0x3E38AA3B#32 : EReal) = ((8⁻¹ * (Real.log 2)⁻¹ : ℝ) : EReal) := rfl
theorem neg_eq : (Named.named (F := Ideal) (φ := .f32) κ "neg" 0xF149F2CA#32 : EReal) = ⊥ := rfl
theorem exp2_eq (x : EReal) : (FloatOps.exp2 (F := Ideal) (φ := .f32) x : EReal) = Ideal.exp2 x := rfl

/-- Row `r` of head `hl` among the 1024 rows the four heads of a group share. -/
def rowIx (hl : Fin 4) (r : Fin 256) : Fin 1024 := ⟨256 * hl.val + r.val, by omega⟩

/-- The position of row `r` of grid point `i`. -/
def posOf (i : grid0.Coords) (r : Fin 256) : ℕ := 256 * (i 1).val + r.val

/-- The lane of dimension `d` of group `g`. -/
def laneOf (g : Fin 2) (d : Fin 64) : Fin 128 := ⟨64 * g.val + d.val, by omega⟩

/-- The lane half of the lanes away. -/
def across (l : Fin 128) : Fin 128 := ⟨(l.val + 128 - 64) % 128, by omega⟩

/-- A sum over the 128 lanes is the sum over both groups. -/
theorem sum_lanes (f : Fin 128 → EReal) : ∑ l, f l = ∑ d, f (laneOf 0 d) + ∑ d, f (laneOf 1 d) := by
  rw [Fin.sum_univ_add (a := 64) (b := 64) f]
  congr 1 <;> refine Finset.sum_congr rfl fun d _ => congrArg f (Fin.ext ?_) <;> simp [laneOf]

/-- The rows of a group's scaled queries, nothing in the other group's lanes. -/
structure IsQ (g : Fin 2) (v : FVec Ideal S1024x128 .bf16) (q : Fin 4 → Fin 256 → Fin 64 → EReal) : Prop where
  own : ∀ hl r d, (v (ix2 (rowIx hl r) (laneOf g d)) : EReal) = q hl r d * ((8⁻¹ * (Real.log 2)⁻¹ : ℝ) : EReal)
  other : ∀ hl r d, (v (ix2 (rowIx hl r) (laneOf (1 - g) d)) : EReal) = 0

theorem IsQ.dot {g : Fin 2} {v : FVec Ideal S1024x128 .bf16} {q : Fin 4 → Fin 256 → Fin 64 → EReal} (h : IsQ g v q)
    (hq : ∀ hl r d, IsReal (q hl r d)) (K : Fin 128 → EReal) (hK : ∀ l, IsReal (K l)) (hl : Fin 4) (r : Fin 256) :
    ∑ l, (v (ix2 (rowIx hl r) l) : EReal) * K l
      = ((score (q hl r) (fun d => K (laneOf g d)) * (Real.log 2)⁻¹ : ℝ) : EReal) := by
  rw [← dot_scaled (hq hl r) (fun d => hK (laneOf g d)), sum_lanes]
  have e1 : ∀ d, (v (ix2 (rowIx hl r) (laneOf g d)) : EReal) * K (laneOf g d)
      = q hl r d * ((8⁻¹ * (Real.log 2)⁻¹ : ℝ) : EReal) * K (laneOf g d) := fun d => by rw [h.own]
  have e2 : ∀ d, (v (ix2 (rowIx hl r) (laneOf (1 - g) d)) : EReal) * K (laneOf (1 - g) d) = 0 := fun d => by
    rw [h.other, zero_mul]
  match g, h, e1, e2 with
  | 0, _, e1, e2 =>
    have e2' : ∀ d, (v (ix2 (rowIx hl r) (laneOf 1 d)) : EReal) * K (laneOf 1 d) = 0 := e2
    simp only [e1, e2', Finset.sum_const_zero, add_zero]
  | 1, _, e1, e2 =>
    have e2' : ∀ d, (v (ix2 (rowIx hl r) (laneOf 0 d)) : EReal) * K (laneOf 0 d) = 0 := e2
    simp only [e1, e2', Finset.sum_const_zero, zero_add]

/-- The weight of a key from its scaled score and the mask's stand-in for what is left out. -/
theorem exp2_wt (c : Prop) [Decidable c] (s : ℝ) :
    Ideal.exp2 (((s * (Real.log 2)⁻¹ : ℝ) : EReal) + (if c then 0 else ⊥)) = ((wt c s : ℝ) : EReal) := by
  by_cases hc : c
  · rw [if_pos hc, add_zero, exp2_at, wt, if_pos hc]
  · rw [if_neg hc, EReal.add_bot, wt, if_neg hc]; rfl

/-- A weighted sum divided by the sum of the weights that a lane of ones holds. -/
theorem norm_at {n : ℕ} (w : Fin n → ℝ) (hw : ∀ k, 0 ≤ w k) (v v' : Fin n → EReal) (h1 : ∀ k, v' k = 1) :
    (∑ k, (w k : EReal) * v k) * (if (0 : EReal) < ∑ k, (w k : EReal) * v' k
      then Ideal.div 1 (∑ k, (w k : EReal) * v' k) else 0) = soft w v := by
  simp only [h1, mul_one]
  rw [← coe_sum, soft]
  congr 1
  have h0 : 0 ≤ ∑ k, w k := Finset.sum_nonneg fun k _ => hw k
  rcases h0.eq_or_lt with h | h
  · rw [← h]; simp
  · have : (1 : EReal) = ((1 : ℝ) : EReal) := rfl
    rw [if_pos (by exact_mod_cast h), this, div_coe _ h, one_mul]

/-! ## The queries -/

theorem third (n : ℕ) : 512 + n - 256 - 256 = n := by omega
theorem fourth (n : ℕ) : 768 + n - 256 - 256 - 256 = n := by omega

/-- A scaled entry of the queries, at equal lanes. -/
theorem lane_mul (x0 : Vec Ideal S1x256x512 .f32) (r : Fin 256) {a b : Fin 512} (h : a.val = b.val) :
    (x0 (ix3 0 r a) * Named.named (F := Ideal) (φ := .f32) κ "scale" 0x3E38AA3B#32 : EReal)
      = x0 (ix3 0 r b) * ((8⁻¹ * (Real.log 2)⁻¹ : ℝ) : EReal) := by
  rw [scale_eq, Fin.ext h]

theorem q0_is (x0 : Vec Ideal S1x256x512 .f32) :
    IsQ 0 (k0_pay1494 (F := Ideal) (k0_pay1486 x0) k0_pay1490 (k0_pay1491 x0) (k0_pay1492 x0) (k0_pay1493 x0))
      fun hl r d => x0 (ix3 0 r ⟨64 * (4 * 0 + hl.val) + d.val, by omega⟩) := by
  constructor
  · intro hl r d
    have hd := d.isLt
    have hr := r.isLt
    fin_cases hl <;> simp only [rowIx, laneOf] <;>
    pointwise [k0_pay1494, k0_pay1486, k0_pay1490, k0_pay1491, k0_pay1492, k0_pay1493] <;>
    simp (disch := omega) only [dif_neg, dif_pos, third, fourth, Word.sge, Word.slt, Word.and, Word.sel, if_pos] <;>
    exact lane_mul x0 r (by dsimp only <;> omega)
  · intro hl r d
    have hd := d.isLt
    have hr := r.isLt
    fin_cases hl <;> simp only [rowIx, laneOf] <;>
    pointwise [k0_pay1494, k0_pay1486, k0_pay1490, k0_pay1491, k0_pay1492, k0_pay1493] <;>
    simp (disch := omega) only [dif_neg, dif_pos, third, fourth, Word.sge, Word.slt, Word.and, Word.sel, if_neg]

theorem q1_is (x0 : Vec Ideal S1x256x512 .f32) :
    IsQ 1 (k0_pay1505 (F := Ideal) (k0_pay1486 x0) (iota .tc S256x128 32 [1] iota_S256x128_d1_w32))
      fun hl r d => x0 (ix3 0 r ⟨64 * (4 * 1 + hl.val) + d.val, by omega⟩) := by
  constructor
  · intro hl r d
    have hd := d.isLt
    have hr := r.isLt
    fin_cases hl <;> simp only [rowIx, laneOf] <;>
    pointwise [k0_pay1505, k0_pay1486] <;>
    simp (disch := omega) only [dif_neg, dif_pos, third, fourth, Word.sge, Word.slt, Word.and, Word.sel, if_pos] <;>
    exact lane_mul x0 r (by dsimp only <;> omega)
  · intro hl r d
    have hd := d.isLt
    have hr := r.isLt
    fin_cases hl <;> simp only [rowIx, laneOf] <;>
    pointwise [k0_pay1505, k0_pay1486] <;>
    simp (disch := omega) only [dif_neg, dif_pos, third, fourth, Word.sge, Word.slt, Word.and, Word.sel, if_neg]

/-! ## The compressed branch -/

theorem done_at (i : grid0.Coords) (hl : Fin 4) (r x : Fin 256) :
    (k0_pay1489 (F := Ideal) i (ix2 (rowIx hl r) x) : EReal) = if 16 * x.val + 31 ≤ posOf i r then 0 else ⊥ := by
  have hi : (i 1).val < 16 := (i 1).isLt
  have hr := r.isLt
  have hx := x.isLt
  fin_cases hl <;> simp only [rowIx] <;> pointwise [k0_pay1489, k0_pay1488] <;>
  simp (disch := omega) only [dif_neg, dif_pos, third, fourth, Word.add, Word.mul, Word.smul, Word.sle, Word.sel] <;>
  exact if_congr (by unfold posOf; omega) rfl neg_eq

theorem comp0_at (v5 : FVec Ideal S256x512 .bf16) (v28 : IVec S256x128 1) (v33 v39 v40 : FVec Ideal S256x128 .bf16)
    (v23 : FVec Ideal S1024x256 .f32)
    (x2 x3 : Vec Ideal S1x256x128 .bf16) (x11 : Vec Ideal S256x128 .bf16) (hl : Fin 4) (r : Fin 256) (l : Fin 128) :
    (k0_pay1495 (F := Ideal) v5 v23 v28 v33 v39 v40 x2 x3 x11 (ix2 (rowIx hl r) ⟨l.val, by omega⟩) : EReal)
     = ∑ x : Fin 256, FloatOps.exp2 (F := Ideal) (φ := .f32) (∑ x_1 : Fin 128, (k0_pay1494 v5 v28 v33 v39 v40 (ix2 (rowIx hl r) x_1) : EReal) * x2 (ix3 0 x x_1)
         + (v23 (ix2 (rowIx hl r) x) : EReal)) * x3 (ix3 0 x l) := by
  fin_cases hl <;> simp only [rowIx] <;>
  pointwise [k0_pay1495] <;> rfl

theorem comp0_imp_at (v5 : FVec Ideal S256x512 .bf16) (v28 : IVec S256x128 1) (v33 v39 v40 : FVec Ideal S256x128 .bf16)
    (v23 : FVec Ideal S1024x256 .f32)
    (x2 x3 : Vec Ideal S1x256x128 .bf16) (x11 : Vec Ideal S256x128 .bf16) (hl : Fin 4) (r : Fin 256) (l : Fin 128) :
    (k0_pay1495 (F := Ideal) v5 v23 v28 v33 v39 v40 x2 x3 x11 (ix2 (rowIx hl r) ⟨128 + l.val, by omega⟩) : EReal)
     = ∑ x : Fin 256, FloatOps.exp2 (F := Ideal) (φ := .f32) (∑ x_1 : Fin 128, (k0_pay1494 v5 v28 v33 v39 v40 (ix2 (rowIx hl r) x_1) : EReal) * x2 (ix3 0 x x_1)
         + (v23 (ix2 (rowIx hl r) x) : EReal)) * x11 (ix2 x l) := by
  fin_cases hl <;> simp only [rowIx] <;>
  pointwise [k0_pay1495] <;> rfl

end Cert.KernelIdeal.Nsa
end
-- ==== Proof.OutIdeal.lean ====
/- The stages of the kernel's body, read at an index: what is done with the weighted sums. -/
module

public import proofs.«01_k».proof.Proof.StageIdeal

@[expose] public section

set_option maxRecDepth 16384

noncomputable section

namespace Cert.KernelIdeal.Nsa

open Cert.KernelIdeal Cert.KernelIdeal.Gen Cert.Nsa
open Idealize.ShloMosaic

/-- The inverse of a sum of weights, zero for no weight. -/
def inv (x : EReal) : EReal := if 0 < x then Ideal.div 1 x else 0

/-- The column of branch `b` of a head's gates. -/
def gateIx (g : Fin 2) (hl : Fin 4) (b : Fin 3) : Fin 128 := ⟨12 * g.val + 3 * hl.val + b.val, by omega⟩

/-- A lane among the 256 that hold the weighted values and the importance side by side. -/
def left (l : Fin 128) : Fin 256 := ⟨l.val, by omega⟩
def right (l : Fin 128) : Fin 256 := ⟨128 + l.val, by omega⟩

section
variable (x1 : Vec Ideal S1x256x128 .f32)
variable (v5 : FVec Ideal S256x512 .bf16) (v28 : IVec S256x128 1) (v33 v39 v40 : FVec Ideal S256x128 .bf16)
    (v23 : FVec Ideal S1024x256 .f32)
    (x2 x3 : Vec Ideal S1x256x128 .bf16) (x11 : Vec Ideal S256x128 .bf16) (hl : Fin 4) (r : Fin 256) (l : Fin 128)

set_option maxHeartbeats 1600000 in
theorem gated_comp0_at :
    (k0_pay1503 (F := Ideal) (k0_pay1487 x1) (k0_pay1498 v5 v23 v28 v33 v39 v40 x2 x3 x11)
      (k0_pay1499 v5 (k0_pay1487 x1) v23 v28 v33 v39 v40 x2 x3 x11) (k0_pay1500 v5 (k0_pay1487 x1) v23 v28 v33 v39 v40 x2 x3 x11)
      (k0_pay1501 v5 v23 v28 v33 v39 v40 x2 x3 x11) (k0_pay1502 (k0_pay1487 x1)) (ix2 (rowIx hl r) l) : EReal)
    = x1 (ix3 0 r (gateIx 0 hl 0)) * ((k0_pay1495 v5 v23 v28 v33 v39 v40 x2 x3 x11 (ix2 (rowIx hl r) (left l)) : EReal)
        * inv (k0_pay1495 v5 v23 v28 v33 v39 v40 x2 x3 x11 (ix2 (rowIx hl r) (left (across l))))) := by
  have hr := r.isLt
  fin_cases hl <;> simp only [rowIx] <;>
  pointwise [k0_pay1503, k0_pay1502, k0_pay1501, k0_pay1500, k0_pay1499, k0_pay1498, k0_pay1497, k0_pay1496, k0_pay1487] <;>
  (try simp (disch := omega) only [dif_neg, dif_pos, third, fourth]) <;> rfl

set_option maxHeartbeats 1600000 in
theorem imp0_at (j : Fin 64) :
    (k0_pay1504 (F := Ideal) (k0_pay1495 v5 v23 v28 v33 v39 v40 x2 x3 x11) (k0_pay1497 v5 v23 v28 v33 v39 v40 x2 x3 x11) (ix2 j r) : EReal)
    = ∑ hl : Fin 4, (k0_pay1495 v5 v23 v28 v33 v39 v40 x2 x3 x11 (ix2 (rowIx hl r) (right (laneOf 0 j))) : EReal)
        * inv (k0_pay1495 v5 v23 v28 v33 v39 v40 x2 x3 x11 (ix2 (rowIx hl r) (left (across (laneOf 0 j))))) := by
  have hr := r.isLt
  have hj := j.isLt
  rw [Fin.sum_univ_four]
  simp only [rowIx, laneOf, left, right, across]
  pointwise [k0_pay1504, k0_pay1497, k0_pay1496]
  simp only [inv]
end

section
variable (x1 : Vec Ideal S1x256x128 .f32) (v23 v131 : FVec Ideal S1024x256 .f32)
    (x4 : Vec Ideal S1x256x128 .bf16) (x11 : Vec Ideal S256x128 .bf16) (hl : Fin 4) (r : Fin 256) (l : Fin 128)

theorem comp1_at : (k0_pay1507 (F := Ideal) v23 v131 x4 x11 (ix2 (rowIx hl r) (left l)) : EReal)
    = ∑ x : Fin 256, FloatOps.exp2 (F := Ideal) (φ := .f32) ((v131 (ix2 (rowIx hl r) x) : EReal) + (v23 (ix2 (rowIx hl r) x) : EReal))
        * x4 (ix3 0 x l) := by
  fin_cases hl <;> simp only [rowIx, left] <;> pointwise [k0_pay1507] <;> rfl

theorem comp1_imp_at : (k0_pay1507 (F := Ideal) v23 v131 x4 x11 (ix2 (rowIx hl r) (right l)) : EReal)
    = ∑ x : Fin 256, FloatOps.exp2 (F := Ideal) (φ := .f32) ((v131 (ix2 (rowIx hl r) x) : EReal) + (v23 (ix2 (rowIx hl r) x) : EReal))
        * x11 (ix2 x l) := by
  fin_cases hl <;> simp only [rowIx, right] <;> pointwise [k0_pay1507] <;> rfl

theorem comp1_score (v5 : FVec Ideal S256x512 .bf16) (v8 : IVec S256x128 32) (x2 : Vec Ideal S1x256x128 .bf16) (k : Fin 256) :
    (k0_pay1506 (F := Ideal) v5 v8 x2 (ix2 (rowIx hl r) k) : EReal)
      = ∑ l, (k0_pay1505 v5 v8 (ix2 (rowIx hl r) l) : EReal) * x2 (ix3 0 k l) := by
  fin_cases hl <;> simp only [rowIx] <;> pointwise [k0_pay1506] <;> rfl

set_option maxHeartbeats 1600000 in
theorem gated_comp1_at : (k0_pay1509 (F := Ideal) (k0_pay1487 x1) v23 v131 x4 x11 (ix2 (rowIx hl r) l) : EReal)
    = x1 (ix3 0 r (gateIx 1 hl 0)) * ((k0_pay1507 v23 v131 x4 x11 (ix2 (rowIx hl r) (left l)) : EReal)
        * inv (k0_pay1507 v23 v131 x4 x11 (ix2 (rowIx hl r) (left (across l))))) := by
  have hr := r.isLt
  fin_cases hl <;> simp only [rowIx] <;>
  pointwise [k0_pay1509, k0_pay1508, k0_pay1487] <;>
  (try simp (disch := omega) only [dif_neg, dif_pos, third, fourth]) <;> rfl

set_option maxHeartbeats 1600000 in
theorem imp1_at (j : Fin 64) :
    (k0_pay1513 (F := Ideal) (k0_pay1510 v23 v131 x4 x11) (k0_pay1511 v23 v131 x4 x11) (k0_pay1512 v23 v131 x4 x11) (ix2 j r) : EReal)
    = ∑ hl : Fin 4, (k0_pay1507 v23 v131 x4 x11 (ix2 (rowIx hl r) (right (laneOf 0 j))) : EReal)
        * inv (k0_pay1507 v23 v131 x4 x11 (ix2 (rowIx hl r) (left (laneOf 0 j)))) := by
  have hr := r.isLt
  have hj := j.isLt
  rw [Fin.sum_univ_four]
  simp only [rowIx, laneOf, left, right]
  pointwise [k0_pay1513, k0_pay1512, k0_pay1511, k0_pay1510, k0_pay1508]
  simp only [inv]
end

/-! ## The selected branch's gate, and the output -/

section
variable (x1 : Vec Ideal S1x256x128 .f32) (hl : Fin 4) (r : Fin 256) (l : Fin 128)

theorem gated_sel0_at (c a w : FVec Ideal S1024x128 .f32) :
    (k0_pay1542 (F := Ideal) w (k0_pay1541 (k0_pay1487 x1) c a) (ix2 (rowIx hl r) l) : EReal)
    = (c (ix2 (rowIx hl r) l) : EReal) + x1 (ix3 0 r (gateIx 0 hl 1)) * ((a (ix2 (rowIx hl r) l) : EReal) * inv (a (ix2 (rowIx hl r) (across l))))
        + w (ix2 (rowIx hl r) l) := by
  have hr := r.isLt
  fin_cases hl <;> simp only [rowIx] <;>
  pointwise [k0_pay1542, k0_pay1541, k0_pay1487] <;>
  (try simp (disch := omega) only [dif_neg, dif_pos, third, fourth]) <;> rfl

theorem gated_sel1_at (c a w : FVec Ideal S1024x128 .f32) :
    (k0_pay1 (F := Ideal) c w (k0_pay1546 (k0_pay1487 x1) a) (k0_pay1547 (k0_pay1487 x1) a) (k0_pay1548 (k0_pay1487 x1) a)
      (k0_pay1549 a) (k0_pay1550 (k0_pay1487 x1)) (ix2 (rowIx hl r) l) : EReal)
    = (c (ix2 (rowIx hl r) l) : EReal) + x1 (ix3 0 r (gateIx 1 hl 1)) * ((a (ix2 (rowIx hl r) l) : EReal) * inv (a (ix2 (rowIx hl r) (across l))))
        + w (ix2 (rowIx hl r) l) := by
  have hr := r.isLt
  fin_cases hl <;> simp only [rowIx] <;>
  pointwise [k0_pay1, k0_pay1546, k0_pay1547, k0_pay1548, k0_pay1549, k0_pay1550, k0_pay1545, k0_pay1487] <;>
  (try simp (disch := omega) only [dif_neg, dif_pos, third, fourth]) <;> rfl
end

/-! ## The window -/
section
variable (x1 : Vec Ideal S1x256x128 .f32) (hl : Fin 4) (r : Fin 256) (l : Fin 128)
    (q : FVec Ideal S1024x128 .bf16) (band : IVec S256x768 1) (neg : Ideal .f32) (z : FVec Ideal S256x768 .f32)
    (k v : Vec Ideal S1x768x128 .bf16)

/-- The window's weighted sums of the values in `v`. -/
def winSum (l : Fin 128) : EReal := ∑ x : Fin 768, FloatOps.exp2 (F := Ideal) (φ := .f32) (∑ d : Fin 128, (q (ix2 (rowIx hl r) d) : EReal) * k (ix3 0 x d)
  + Scalar.select (band (ix2 r x)) (z (ix2 r x) : EReal) neg) * v (ix3 0 x l)

theorem gated_win0_at :
    (k0_pay1537 (F := Ideal) (k0_pay1487 x1) q band neg z k v (ix2 (rowIx hl r) l) : EReal)
    = x1 (ix3 0 r (gateIx 0 hl 2)) * (winSum hl r q band neg z k v l * inv (winSum hl r q band neg z k v (across l))) := by
  have hr := r.isLt
  fin_cases hl <;> simp only [winSum, rowIx] <;>
  pointwise [k0_pay1537, k0_pay1536, k0_pay1535, k0_pay1487] <;>
  (try simp (disch := omega) only [dif_neg, dif_pos, third, fourth]) <;> rfl

theorem gated_win1_at :
    (k0_pay1540 (F := Ideal) (k0_pay1487 x1) (k0_pay1538 q band neg z k) (k0_pay1539 v) (constant S1024x128 .f32 0x00000000#32) (ix2 (rowIx hl r) l) : EReal)
    = x1 (ix3 0 r (gateIx 1 hl 2)) * (winSum hl r q band neg z k v l * inv (winSum hl r q band neg z k v (across l))) := by
  have hr := r.isLt
  fin_cases hl <;> simp only [winSum, rowIx] <;>
  pointwise [k0_pay1540, k0_pay1539, k0_pay1538, k0_pay1536, k0_pay1535, k0_pay1487] <;>
  (try simp (disch := omega) only [dif_neg, dif_pos, third, fourth]) <;> rfl

end

/-- The first key of the window's 768. -/
theorem start_word : ∀ j : Fin 16, Scalar.maxsi (Scalar.subi (Scalar.addi (BitVec.ofNat 32 (j.val * 256)) 256#32) 768#32) 0#32
    = BitVec.ofNat 32 (256 * j.val - 512) := by decide

theorem band_at (i : grid0.Coords) (r : Fin 256) (x : Fin 768) :
    Scalar.select (k0_pay1533 (Scalar.muli (BitVec.ofNat 32 (i 1).val) 256#32) (k0_pay1488 i) (ix2 r x))
      (k0_pay1534 (F := Ideal) (ix2 r x) : EReal) (Named.named (F := Ideal) (φ := .f32) κ "neg" 0xF149F2CA#32)
    = if (256 * (i 1).val - 512) + x.val ≤ posOf i r ∧ posOf i r < (256 * (i 1).val - 512) + x.val + 512 then 0 else ⊥ := by
  have hi : (i 1).val < 16 := (i 1).isLt
  have hr := r.isLt
  have hx := x.isLt
  pointwise [k0_pay1533, k0_pay1534, k0_pay1488]
  rw [Word.smul, start_word (i 1)]
  have h512 : (512#32 : BitVec 32) = BitVec.ofNat 32 512 := rfl
  simp (disch := omega) only [Word.add, Word.sub_sge, Word.sub_slt, Word.and, Word.sel]
  exact if_congr (by unfold posOf; omega) rfl neg_eq

/-- The four blocks of the output. -/
theorem piece0_at (v342 v401 : FVec Ideal S1024x128 .f32) (r : Fin 256) (l : Fin 128) :
    (k0_pay1543 (F := Ideal) (iota .tc S256x128 32 [1] iota_S256x128_d1_w32) v342 v401 (ix3 0 r l) : EReal)
    = if l.val < 64 then k0_pay1542 v342 v401 (ix2 (rowIx 0 r) l) else k0_pay1542 v342 v401 (ix2 (rowIx 1 r) (across l)) := by
  have hr := r.isLt
  have hl := l.isLt
  simp only [rowIx]
  pointwise [k0_pay1543]
  simp (disch := omega) only [Word.slt, Word.sel]
  rfl
theorem piece1_at (v342 v401 : FVec Ideal S1024x128 .f32) (r : Fin 256) (l : Fin 128) :
    (k0_pay1544 (F := Ideal) (iota .tc S256x128 32 [1] iota_S256x128_d1_w32) v342 v401 (ix3 0 r l) : EReal)
    = if l.val < 64 then k0_pay1542 v342 v401 (ix2 (rowIx 2 r) l) else k0_pay1542 v342 v401 (ix2 (rowIx 3 r) (across l)) := by
  have hr := r.isLt
  have hl := l.isLt
  simp only [rowIx]
  pointwise [k0_pay1544]
  simp (disch := omega) only [Word.slt, Word.sel]
  rfl
theorem piece2_at (c w : FVec Ideal S1024x128 .f32) (a b d e f : FVec Ideal S256x128 .f32) (r : Fin 256) (l : Fin 128) :
    (k0_pay2 (F := Ideal) (iota .tc S256x128 32 [1] iota_S256x128_d1_w32) c w a b d e f (ix3 0 r l) : EReal)
    = if l.val < 64 then k0_pay1 c w a b d e f (ix2 (rowIx 0 r) (across l)) else k0_pay1 c w a b d e f (ix2 (rowIx 1 r) l) := by
  have hr := r.isLt
  have hl := l.isLt
  simp only [rowIx]
  pointwise [k0_pay2]
  simp (disch := omega) only [Word.slt, Word.sel]
  rfl
theorem piece3_at (c w : FVec Ideal S1024x128 .f32) (a b d e f : FVec Ideal S256x128 .f32) (r : Fin 256) (l : Fin 128) :
    (k0_pay3 (F := Ideal) (iota .tc S256x128 32 [1] iota_S256x128_d1_w32) c w a b d e f (ix3 0 r l) : EReal)
    = if l.val < 64 then k0_pay1 c w a b d e f (ix2 (rowIx 2 r) (across l)) else k0_pay1 c w a b d e f (ix2 (rowIx 3 r) l) := by
  have hr := r.isLt
  have hl := l.isLt
  simp only [rowIx]
  pointwise [k0_pay3]
  simp (disch := omega) only [Word.slt, Word.sel]
  rfl

end Cert.KernelIdeal.Nsa
end
-- ==== Proof.SelIdeal.lean ====
module

public import proofs.«01_k».proof.Proof.OutIdeal

@[expose] public section

set_option maxRecDepth 16384

noncomputable section

namespace Cert.KernelIdeal.Nsa

open Cert.KernelIdeal Cert.KernelIdeal.Gen Cert.Nsa
open Idealize.ShloMosaic

variable (𝒱 : Variants) (c : Dev nD) (bd : Option 𝒱.V) (i : grid0.Coords) (arg2 : Memref sig .tc .vmem S1x256x512 .f32) (harg2 : arg2.IsWhole) (arg3 : Memref sig .tc .vmem S1x256x128 .f32) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x4096x128 .bf16) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S1x256x512 .bf16) (harg15 : arg15.IsWhole)
  (v0 : BitVec 32) (v11 : IVec S256x1 32) (v227 : FVec Ideal S1024x256 .bf16) (v231 : FVec Ideal S1024x256 .bf16) (v251 : BitVec 32) (v252 : FVec Ideal S1024x128 .f32) (v253 : FVec Ideal S1024x128 .f32) (v254 : BitVec 32) (c2_i32 : BitVec 32) (v255 : BitVec 32) (v260 : BitVec 32) (v262 : BitVec 32)
  (x5 x6 x7 : Vec Ideal S1x4096x128 .bf16) (x12 : Vec Ideal S4096x128 .bf16)

/-- One key's part of the selected branch: its weight times its value. -/
def term (i : grid0.Coords) (v : FVec Ideal S1024x256 .bf16) (K V : Vec Ideal S1x4096x128 .bf16) (H : Vec Ideal S4096x128 .bf16)
    (hl : Fin 4) (r : Fin 256) (l : Fin 128) (k : Fin 4096) : EReal :=
  FloatOps.exp2 (F := Ideal) (φ := .f32) (∑ d : Fin 128, (v (ix2 (rowIx hl r) (left d)) : EReal) * K (ix3 0 k d)
    + ∑ y : Fin 128, (v (ix2 (rowIx hl r) (right y)) : EReal) * H (ix2 k y)
    + (if k.val ≤ posOf i r then 0 else ⊥)) * V (ix3 0 k l)

/-- A tile of 512 keys. -/
def tile (f : Fin 4096 → EReal) (n : ℕ) : EReal := ∑ x : Fin 512, if h : 512 * n + x.val < 4096 then f ⟨512 * n + x.val, h⟩ else 0

theorem mask_at (i : grid0.Coords) (r : Fin 256) (n : ℕ) (hn : n < 8) (x : Fin 512) :
    (Scalar.select (IntOp.cmpi .sle (IntOp.addi (BitVec.ofNat 32 (512 * n)) (BitVec.ofNat 32 x.val)) (BitVec.ofNat 32 (posOf i r)))
      (0 : EReal) ⊥) = if 512 * n + x.val ≤ posOf i r then 0 else ⊥ := by
  have hi : (i 1).val < 16 := (i 1).isLt
  have hr := r.isLt
  have hx := x.isLt
  unfold posOf
  simp (disch := omega) only [Word.add, Word.sle, Word.sel]

set_option maxHeartbeats 4000000 in
theorem rest0_at (k : Fin (k0_t3_loop i).trips) (acc : FVec Ideal S1024x128 .f32 × FVec Ideal S1024x128 .f32) (n : ℕ) (hn : n < 8)
    (hw : Scalar.muli (Scf.iv (Scalar.addi (0#32) (Scalar.muli (2#32) (Scalar.select (Scalar.andi
      (Scalar.cmpi .ne v260 (Scalar.subi v262 (Scalar.extui (Scalar.cmpi .slt c2_i32 0#32))))
      (Scalar.cmpi .ne (Scalar.remsi v254 c2_i32) 0#32)) (Scalar.subi v255 1#32) v255))) 1#32 k.val) 512#32 = BitVec.ofNat 32 (512 * n))
    (hv : ∀ r : Fin 256, v11 (ix2 r 0) = BitVec.ofNat 32 (posOf i r))
    (h0 : k0_off9 i k 0 = 0) (h1 : k0_off9 i k 1 = 512 * n) (h2 : k0_off9 i k 2 = 0) (g0 : k0_off10 i k 0 = 512 * n) (g1 : k0_off10 i k 1 = 0) (hl : Fin 4) (r : Fin 256) (l : Fin 128) :
    ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v11 v227 v231 v251 v252 v253 v254 c2_i32 v255 v260 v262 (harg7.unread x5) (harg8.unread x6) (harg9.unread x7) (harg14.unread x12) k acc).1 (ix2 (rowIx hl r) l) : EReal)
      = acc.1 (ix2 (rowIx hl r) l) + tile (term i v227 x5 x6 x12 hl r l) n := by
  have hr := r.isLt
  unfold tripR_k0_t3 trip_k0_t3
  dsimp only
  simp only [View.readAt_eq_ld, Memref.IsWhole.read_unread]
  fin_cases hl <;> simp only [rowIx, tile, term, left, right] <;> pointwise [k0_pay1527, k0_pay1526, k0_pay1525] <;>
    (try simp (disch := omega) only [dif_neg, dif_pos, third, fourth]) <;>
    simp only [neg_eq, hw, hv, h0, h1, h2, g0, g1, Nat.zero_add, mask_at i r n hn] <;>
    refine congrArg₂ (· + ·) rfl (Finset.sum_congr rfl fun x _ => ?_) <;>
    first | rfl | (rw [dif_pos (by have := x.isLt; omega)]; rfl)
set_option maxHeartbeats 4000000 in
theorem rest1_at (k : Fin (k0_t3_loop i).trips) (acc : FVec Ideal S1024x128 .f32 × FVec Ideal S1024x128 .f32) (n : ℕ) (hn : n < 8)
    (hw : Scalar.muli (Scf.iv (Scalar.addi (0#32) (Scalar.muli (2#32) (Scalar.select (Scalar.andi
      (Scalar.cmpi .ne v260 (Scalar.subi v262 (Scalar.extui (Scalar.cmpi .slt c2_i32 0#32))))
      (Scalar.cmpi .ne (Scalar.remsi v254 c2_i32) 0#32)) (Scalar.subi v255 1#32) v255))) 1#32 k.val) 512#32 = BitVec.ofNat 32 (512 * n))
    (hv : ∀ r : Fin 256, v11 (ix2 r 0) = BitVec.ofNat 32 (posOf i r))
    (h0 : k0_off9 i k 0 = 0) (h1 : k0_off9 i k 1 = 512 * n) (h2 : k0_off9 i k 2 = 0) (g0 : k0_off10 i k 0 = 512 * n) (g1 : k0_off10 i k 1 = 0) (hl : Fin 4) (r : Fin 256) (l : Fin 128) :
    ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v11 v227 v231 v251 v252 v253 v254 c2_i32 v255 v260 v262 (harg7.unread x5) (harg8.unread x6) (harg9.unread x7) (harg14.unread x12) k acc).2 (ix2 (rowIx hl r) l) : EReal)
      = acc.2 (ix2 (rowIx hl r) l) + tile (term i v231 x5 x7 x12 hl r l) n := by
  have hr := r.isLt
  unfold tripR_k0_t3 trip_k0_t3
  dsimp only
  simp only [View.readAt_eq_ld, Memref.IsWhole.read_unread]
  fin_cases hl <;> simp only [rowIx, tile, term, left, right] <;> pointwise [k0_pay1528, k0_pay1526, k0_pay1525] <;>
    (try simp (disch := omega) only [dif_neg, dif_pos, third, fourth]) <;>
    simp only [neg_eq, hw, hv, h0, h1, h2, g0, g1, Nat.zero_add, mask_at i r n hn] <;>
    refine congrArg₂ (· + ·) rfl (Finset.sum_congr rfl fun x _ => ?_) <;>
    first | rfl | (rw [dif_pos (by have := x.isLt; omega)]; rfl)
set_option maxHeartbeats 4000000 in
theorem pair0_at (k : Fin (k0_t1_loop i).trips) (acc : FVec Ideal S1024x128 .f32 × FVec Ideal S1024x128 .f32) (hk : k.val < 4)
    (hv : ∀ r : Fin 256, v11 (ix2 r 0) = BitVec.ofNat 32 (posOf i r)) (hl : Fin 4) (r : Fin 256) (l : Fin 128) :
    ((tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v11 v227 v231 v251 v252 v253 v254 c2_i32 v255 v260 v262 (harg7.unread x5) (harg8.unread x6) (harg9.unread x7) (harg14.unread x12) k acc).1 (ix2 (rowIx hl r) l) : EReal)
      = acc.1 (ix2 (rowIx hl r) l) + tile (term i v227 x5 x6 x12 hl r l) (2 * k.val) + tile (term i v227 x5 x6 x12 hl r l) (2 * k.val + 1) := by
  have hr := r.isLt
  unfold tripR_k0_t1 trip_k0_t1
  dsimp only
  unfold trip_k0_t1.sl.r_5
  simp only [trip_k0_t1.sl.r, trip_k0_t1.sl.r_1, trip_k0_t1.sl.r_2, trip_k0_t1.sl.r_3, View.readAt_eq_ld, Memref.IsWhole.read_unread]
  have hw0 : Scalar.muli (Scalar.addi (0#32) (Scalar.muli (2#32) (Scf.iv (0#32) (1#32) k.val))) 512#32 = BitVec.ofNat 32 (512 * (2 * k.val)) := by
    rw [Word.iv, show (0#32 : BitVec 32) = BitVec.ofNat 32 0 from rfl, show (2#32 : BitVec 32) = BitVec.ofNat 32 2 from rfl,
      show (512#32 : BitVec 32) = BitVec.ofNat 32 512 from rfl, Word.smul, Word.sadd, Word.smul]
    congr 1; omega
  have hw1 : Scalar.muli (Scalar.addi (Scalar.addi (0#32) (Scalar.muli (2#32) (Scf.iv (0#32) (1#32) k.val))) 1#32) 512#32 = BitVec.ofNat 32 (512 * (2 * k.val + 1)) := by
    rw [Word.iv, show (0#32 : BitVec 32) = BitVec.ofNat 32 0 from rfl, show (2#32 : BitVec 32) = BitVec.ofNat 32 2 from rfl,
      show (1#32 : BitVec 32) = BitVec.ofNat 32 1 from rfl,
      show (512#32 : BitVec 32) = BitVec.ofNat 32 512 from rfl, Word.smul, Word.sadd, Word.sadd, Word.smul]
    congr 1; omega
  have o11 : k0_off1 i k 1 = 512 * (2 * k.val) := by
    show (Scalar.indexCast (Scalar.muli (Scalar.addi (0#32) (Scalar.muli (2#32) (Scf.iv (0#32) (1#32) k.val))) 512#32)).toNat = _
    rw [hw0]; exact Word.toNat_small (by omega)
  have o20 : k0_off2 i k 0 = 512 * (2 * k.val) := o11
  have o31 : k0_off3 i k 1 = 512 * (2 * k.val + 1) := by
    show (Scalar.indexCast (Scalar.muli (Scalar.addi (Scalar.addi (0#32) (Scalar.muli (2#32) (Scf.iv (0#32) (1#32) k.val))) 1#32) 512#32)).toNat = _
    rw [hw1]; exact Word.toNat_small (by omega)
  have o40 : k0_off4 i k 0 = 512 * (2 * k.val + 1) := o31
  have o10 : k0_off1 i k 0 = 0 := rfl
  have o12 : k0_off1 i k 2 = 0 := rfl
  have o30 : k0_off3 i k 0 = 0 := rfl
  have o32 : k0_off3 i k 2 = 0 := rfl
  have o21 : k0_off2 i k 1 = 0 := rfl
  have o41 : k0_off4 i k 1 = 0 := rfl
  have m0 := mask_at i r (2 * k.val) (by omega)
  have m1 := mask_at i r (2 * k.val + 1) (by omega)
  fin_cases hl <;> simp only [rowIx, tile, term, left, right] <;> pointwise [k0_pay1473, k0_pay1466, k0_pay1465, k0_pay1464, k0_pay1468, k0_pay1469, k0_pay1470, k0_pay1471] <;>
    (try simp (disch := omega) only [dif_neg, dif_pos, third, fourth]) <;>
    simp only [neg_eq, hw0, hw1, hv, o10, o11, o12, o20, o21, o30, o31, o32, o40, o41, Nat.zero_add, m0, m1] <;>
    refine congrArg₂ (· + ·) (congrArg₂ (· + ·) rfl (Finset.sum_congr rfl fun x _ => ?_)) (Finset.sum_congr rfl fun x _ => ?_) <;>
    first | rfl | (rw [dif_pos (by have := x.isLt; omega)]; rfl)

set_option maxHeartbeats 4000000 in
theorem pair1_at (k : Fin (k0_t1_loop i).trips) (acc : FVec Ideal S1024x128 .f32 × FVec Ideal S1024x128 .f32) (hk : k.val < 4)
    (hv : ∀ r : Fin 256, v11 (ix2 r 0) = BitVec.ofNat 32 (posOf i r)) (hl : Fin 4) (r : Fin 256) (l : Fin 128) :
    ((tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v11 v227 v231 v251 v252 v253 v254 c2_i32 v255 v260 v262 (harg7.unread x5) (harg8.unread x6) (harg9.unread x7) (harg14.unread x12) k acc).2 (ix2 (rowIx hl r) l) : EReal)
      = acc.2 (ix2 (rowIx hl r) l) + tile (term i v231 x5 x7 x12 hl r l) (2 * k.val) + tile (term i v231 x5 x7 x12 hl r l) (2 * k.val + 1) := by
  have hr := r.isLt
  unfold tripR_k0_t1 trip_k0_t1
  dsimp only
  unfold trip_k0_t1.sl.r_4 trip_k0_t1.sl.r_6
  simp only [trip_k0_t1.sl.r, trip_k0_t1.sl.r_1, trip_k0_t1.sl.r_2, trip_k0_t1.sl.r_3, View.readAt_eq_ld, Memref.IsWhole.read_unread]
  have hw0 : Scalar.muli (Scalar.addi (0#32) (Scalar.muli (2#32) (Scf.iv (0#32) (1#32) k.val))) 512#32 = BitVec.ofNat 32 (512 * (2 * k.val)) := by
    rw [Word.iv, show (0#32 : BitVec 32) = BitVec.ofNat 32 0 from rfl, show (2#32 : BitVec 32) = BitVec.ofNat 32 2 from rfl,
      show (512#32 : BitVec 32) = BitVec.ofNat 32 512 from rfl, Word.smul, Word.sadd, Word.smul]
    congr 1; omega
  have hw1 : Scalar.muli (Scalar.addi (Scalar.addi (0#32) (Scalar.muli (2#32) (Scf.iv (0#32) (1#32) k.val))) 1#32) 512#32 = BitVec.ofNat 32 (512 * (2 * k.val + 1)) := by
    rw [Word.iv, show (0#32 : BitVec 32) = BitVec.ofNat 32 0 from rfl, show (2#32 : BitVec 32) = BitVec.ofNat 32 2 from rfl,
      show (1#32 : BitVec 32) = BitVec.ofNat 32 1 from rfl,
      show (512#32 : BitVec 32) = BitVec.ofNat 32 512 from rfl, Word.smul, Word.sadd, Word.sadd, Word.smul]
    congr 1; omega
  have o11 : k0_off1 i k 1 = 512 * (2 * k.val) := by
    show (Scalar.indexCast (Scalar.muli (Scalar.addi (0#32) (Scalar.muli (2#32) (Scf.iv (0#32) (1#32) k.val))) 512#32)).toNat = _
    rw [hw0]; exact Word.toNat_small (by omega)
  have o20 : k0_off2 i k 0 = 512 * (2 * k.val) := o11
  have o31 : k0_off3 i k 1 = 512 * (2 * k.val + 1) := by
    show (Scalar.indexCast (Scalar.muli (Scalar.addi (Scalar.addi (0#32) (Scalar.muli (2#32) (Scf.iv (0#32) (1#32) k.val))) 1#32) 512#32)).toNat = _
    rw [hw1]; exact Word.toNat_small (by omega)
  have o40 : k0_off4 i k 0 = 512 * (2 * k.val + 1) := o31
  have o10 : k0_off1 i k 0 = 0 := rfl
  have o12 : k0_off1 i k 2 = 0 := rfl
  have o30 : k0_off3 i k 0 = 0 := rfl
  have o32 : k0_off3 i k 2 = 0 := rfl
  have o21 : k0_off2 i k 1 = 0 := rfl
  have o41 : k0_off4 i k 1 = 0 := rfl
  have m0 := mask_at i r (2 * k.val) (by omega)
  have m1 := mask_at i r (2 * k.val + 1) (by omega)
  fin_cases hl <;> simp only [rowIx, tile, term, left, right] <;> pointwise [k0_pay1523, k0_pay1472, k0_pay1474, k0_pay1467, k0_pay1465, k0_pay1464, k0_pay1468, k0_pay1469, k0_pay1470, k0_pay1471] <;>
    (try simp (disch := omega) only [dif_neg, dif_pos, third, fourth]) <;>
    simp only [neg_eq, hw0, hw1, hv, o10, o11, o12, o20, o21, o30, o31, o32, o40, o41, Nat.zero_add, m0, m1] <;>
    refine congrArg₂ (· + ·) (congrArg₂ (· + ·) rfl (Finset.sum_congr rfl fun x _ => ?_)) (Finset.sum_congr rfl fun x _ => ?_) <;>
    first | rfl | (rw [dif_pos (by have := x.isLt; omega)]; rfl)

end Cert.KernelIdeal.Nsa
end
-- ==== Proof.LoopIdeal.lean ====
/- The four loops over the tiles of keys add up every key's part of the selected branch: pairs of tiles, then the tile
   that is left, up to the query's own tile; the later keys have no part. -/
module

public import proofs.«01_k».proof.Proof.SelIdeal

@[expose] public section

set_option maxRecDepth 16384

noncomputable section

namespace Cert.KernelIdeal.Nsa

open Cert.KernelIdeal Cert.KernelIdeal.Gen Cert.Nsa
open Idealize.ShloMosaic

theorem trips1 (i : grid0.Coords) : (k0_t1_loop i).trips = ((i 1).val / 2 + 1) / 2 := by
  have h : ∃ j : Fin 16, i 1 = j := ⟨i 1, rfl⟩
  obtain ⟨j, h⟩ := h
  unfold k0_t1_loop; simp only [h]; fin_cases j <;> rfl
theorem trips2 (i : grid0.Coords) : (k0_t2_loop i).trips = 0 := by
  have h : ∃ j : Fin 16, i 1 = j := ⟨i 1, rfl⟩
  obtain ⟨j, h⟩ := h
  unfold k0_t2_loop; simp only [h]; fin_cases j <;> rfl
theorem trips3 (i : grid0.Coords) : (k0_t3_loop i).trips = ((i 1).val / 2 + 1) % 2 := by
  have h : ∃ j : Fin 16, i 1 = j := ⟨i 1, rfl⟩
  obtain ⟨j, h⟩ := h
  unfold k0_t3_loop; simp only [h]; fin_cases j <;> rfl
theorem trips4 (i : grid0.Coords) : (k0_t4_loop i).trips = 0 := by
  have h : ∃ j : Fin 16, i 1 = j := ⟨i 1, rfl⟩
  obtain ⟨j, h⟩ := h
  unfold k0_t4_loop; simp only [h]; fin_cases j <;> rfl

theorem pos_word (i : grid0.Coords) (r : Fin 256) : k0_pay1488 i (ix2 r 0) = BitVec.ofNat 32 (posOf i r) := by
  have hi : (i 1).val < 16 := (i 1).isLt
  have h256 : (256#32 : BitVec 32) = BitVec.ofNat 32 256 := rfl
  pointwise [k0_pay1488]
  rw [h256, Word.smul, Word.add]
  congr 1; unfold posOf; omega

/-- The tile that is left after the pairs. -/
theorem last_tile (i : grid0.Coords) (k : ℕ) (hk : k < ((i 1).val / 2 + 1) % 2) :
    Scalar.muli (Scf.iv (Scalar.addi (0#32) (Scalar.muli (2#32) (Scalar.select (Scalar.andi
      (Scalar.cmpi .ne (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32)))
        (Scalar.subi (Scalar.extui (Scalar.cmpi .sgt (2#32) 0#32)) (Scalar.extui (Scalar.cmpi .slt (2#32) 0#32))))
      (Scalar.cmpi .ne (Scalar.remsi (Scalar.subi (tileCount (Scalar.muli (BitVec.ofNat 32 (i 1).val) 256#32)) 0#32) (2#32)) 0#32)) (Scalar.subi (Scalar.divsi (Scalar.subi (tileCount (Scalar.muli (BitVec.ofNat 32 (i 1).val) 256#32)) 0#32) 2#32) 1#32) (Scalar.divsi (Scalar.subi (tileCount (Scalar.muli (BitVec.ofNat 32 (i 1).val) 256#32)) 0#32) 2#32)))) 1#32 k) 512#32
      = BitVec.ofNat 32 (512 * ((i 1).val / 2)) := by
  have h : ∃ j : Fin 16, i 1 = j := ⟨i 1, rfl⟩
  obtain ⟨j, h⟩ := h
  obtain rfl : k = 0 := by omega
  unfold tileCount floorQuot
  simp only [h]; revert hk; simp only [h]; fin_cases j <;> intro hk <;> first | rfl | exact absurd hk (by decide)

theorem off9 (i : grid0.Coords) (k : Fin (k0_t3_loop i).trips) : k0_off9 i k 1 = 512 * ((i 1).val / 2) := by
  have hk : k.val < ((i 1).val / 2 + 1) % 2 := trips3 i ▸ k.isLt
  have e := last_tile i k.val hk
  show (Scalar.indexCast (Scalar.muli (Scf.iv (Scalar.addi (0#32) (Scalar.muli (2#32) (Scalar.select (Scalar.andi
      (Scalar.cmpi .ne (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32)))
        (Scalar.subi (Scalar.extui (Scalar.cmpi .sgt (2#32) 0#32)) (Scalar.extui (Scalar.cmpi .slt (2#32) 0#32))))
      (Scalar.cmpi .ne (Scalar.remsi (Scalar.subi (tileCount (Scalar.muli (BitVec.ofNat 32 (i 1).val) 256#32)) 0#32) (2#32)) 0#32)) (Scalar.subi (Scalar.divsi (Scalar.subi (tileCount (Scalar.muli (BitVec.ofNat 32 (i 1).val) 256#32)) 0#32) 2#32) 1#32) (Scalar.divsi (Scalar.subi (tileCount (Scalar.muli (BitVec.ofNat 32 (i 1).val) 256#32)) 0#32) 2#32)))) 1#32 k.val) 512#32)).toNat = _
  rw [e]
  have hi : (i 1).val < 16 := (i 1).isLt
  exact Word.toNat_small (by omega)

theorem ranged (f : Fin 4096 → EReal) (T : ℕ) (hT : T ≤ 8) (h0 : ∀ k : Fin 4096, 512 * T ≤ k.val → f k = 0) :
    ∑ n ∈ Finset.range T, tile f n = ∑ k, f k := by
  let g : ℕ → EReal := fun k => if h : k < 4096 then f ⟨k, h⟩ else 0
  have e1 : ∑ k, f k = ∑ k ∈ Finset.range 4096, g k := by
    rw [Finset.sum_range]
    exact Finset.sum_congr rfl fun k _ => by simp only [g]; rw [dif_pos k.isLt]
  have e2 : ∀ n, ∑ m ∈ Finset.range n, tile f m = ∑ k ∈ Finset.range (512 * n), g k := by
    intro n
    induction n with
    | zero => simp
    | succ n ih =>
      rw [Finset.sum_range_succ, ih, Nat.mul_succ, Finset.sum_range_add]
      exact congrArg₂ (· + ·) rfl ((show tile f n = ∑ x : Fin 512, g (512 * n + x.val) from rfl).trans (Finset.sum_range (fun x => g (512 * n + x))).symm)
  rw [e1, e2]
  refine Finset.sum_subset (fun x hx => ?_) fun x hx hx' => ?_
  · simp only [Finset.mem_range] at hx ⊢; omega
  · simp only [Finset.mem_range] at hx hx'
    simp only [g]
    rw [dif_pos hx]
    exact h0 _ (by simpa using hx')

/-- A later key has no part. -/
theorem term_late (i : grid0.Coords) (v K V H) (hl : Fin 4) (r : Fin 256) (l : Fin 128) (k : Fin 4096) (h : posOf i r < k.val) :
    term i v K V H hl r l k = 0 := by
  unfold term
  rw [if_neg (by omega), EReal.add_bot]
  show Ideal.exp2 ⊥ * _ = 0
  rw [show Ideal.exp2 ⊥ = 0 from rfl, zero_mul]

variable (𝒱 : Variants) (c : Dev nD) (bd : Option 𝒱.V) (i : grid0.Coords) (arg2 : Memref sig .tc .vmem S1x256x512 .f32) (harg2 : arg2.IsWhole) (arg3 : Memref sig .tc .vmem S1x256x128 .f32) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x4096x128 .bf16) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S1x256x512 .bf16) (harg15 : arg15.IsWhole)
  (v227 : FVec Ideal S1024x256 .bf16) (v231 : FVec Ideal S1024x256 .bf16)
  (w : BitVec 32) (x5 x6 x7 : Vec Ideal S1x4096x128 .bf16) (x12 : Vec Ideal S4096x128 .bf16)

/-- What the four loops leave. -/
def selRun : FVec Ideal S1024x128 .f32 × FVec Ideal S1024x128 .f32 :=
  (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) w (harg7.unread x5) (harg8.unread x6) (harg9.unread x7) (harg14.unread x12) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (k0_pay1521, k0_pay1522) (k0_t1_loop i).trips) (k0_t2_loop i).trips) (k0_t3_loop i).trips) (k0_t4_loop i).trips)

theorem sel0_at (hl : Fin 4) (r : Fin 256) (l : Fin 128) :
    ((selRun 𝒱 c bd i arg2 harg2 arg3 harg3 arg4 harg4 arg5 harg5 arg6 harg6 arg7 harg7 arg8 harg8 arg9 harg9 arg10 harg10 arg11 harg11 arg12 harg12 arg13 harg13 arg14 harg14 arg15 harg15 v227 v231 w x5 x6 x7 x12).1 (ix2 (rowIx hl r) l) : EReal) = ∑ k, term i v227 x5 x6 x12 hl r l k := by
  have hi : (i 1).val < 16 := (i 1).isLt
  have hr := r.isLt
  have a : ∀ n, n ≤ (k0_t1_loop i).trips → ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (k0_pay1521, k0_pay1522) n).1 (ix2 (rowIx hl r) l) : EReal)
      = ∑ m ∈ Finset.range (2 * n), tile (term i v227 x5 x6 x12 hl r l) m := by
    intro n
    induction n with
    | zero =>
      intro _
      rw [st_k0_t1_zero]
      exact Ideal.ofBits_zero .f32
    | succ n ih =>
      intro hn
      have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (k0_pay1521, k0_pay1522) ⟨n, hn⟩
      rw [e, pair0_at, Nat.mul_succ, Finset.sum_range_succ, Finset.sum_range_succ, ih (by omega)]
      · rw [trips1] at hn; show n < 4; omega
      · exact pos_word i
  have b := a _ le_rfl
  rw [trips1] at b
  unfold selRun
  have z2 := trips2 i
  have z4 := trips4 i
  simp only [z2, z4, st_k0_t2_zero, st_k0_t4_zero, trips1]
  generalize (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (k0_pay1521, k0_pay1522) (((i 1).val / 2 + 1) / 2)) = p at b
  have fin : ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) p (k0_t3_loop i).trips).1 (ix2 (rowIx hl r) l) : EReal)
      = ∑ m ∈ Finset.range ((i 1).val / 2 + 1), tile (term i v227 x5 x6 x12 hl r l) m := by
    rcases Nat.mod_two_eq_zero_or_one ((i 1).val / 2 + 1) with h | h
    · rw [trips3, h, st_k0_t3_zero, b]
      congr 2; omega
    · have h3 : (k0_t3_loop i).trips = 0 + 1 := by rw [trips3, h]
      have e := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) p ⟨0, by omega⟩
      rw [h3, e, rest0_at (n := (i 1).val / 2) (hn := by omega), st_k0_t3_zero, b, Finset.sum_range_succ]
      · congr 3; omega
      · exact last_tile i 0 (by omega)
      · exact pos_word i
      · rfl
      · exact off9 i _
      · rfl
      · exact off9 i _
      · rfl
  rw [fin]
  refine ranged _ _ (by omega) fun k hk => term_late i _ _ _ _ hl r l k ?_
  unfold posOf; omega

theorem sel1_at (hl : Fin 4) (r : Fin 256) (l : Fin 128) :
    ((selRun 𝒱 c bd i arg2 harg2 arg3 harg3 arg4 harg4 arg5 harg5 arg6 harg6 arg7 harg7 arg8 harg8 arg9 harg9 arg10 harg10 arg11 harg11 arg12 harg12 arg13 harg13 arg14 harg14 arg15 harg15 v227 v231 w x5 x6 x7 x12).2 (ix2 (rowIx hl r) l) : EReal) = ∑ k, term i v231 x5 x7 x12 hl r l k := by
  have hi : (i 1).val < 16 := (i 1).isLt
  have hr := r.isLt
  have a : ∀ n, n ≤ (k0_t1_loop i).trips → ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (k0_pay1521, k0_pay1522) n).2 (ix2 (rowIx hl r) l) : EReal)
      = ∑ m ∈ Finset.range (2 * n), tile (term i v231 x5 x7 x12 hl r l) m := by
    intro n
    induction n with
    | zero =>
      intro _
      rw [st_k0_t1_zero]
      exact Ideal.ofBits_zero .f32
    | succ n ih =>
      intro hn
      have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (k0_pay1521, k0_pay1522) ⟨n, hn⟩
      rw [e, pair1_at, Nat.mul_succ, Finset.sum_range_succ, Finset.sum_range_succ, ih (by omega)]
      · rw [trips1] at hn; show n < 4; omega
      · exact pos_word i
  have b := a _ le_rfl
  rw [trips1] at b
  unfold selRun
  have z2 := trips2 i
  have z4 := trips4 i
  simp only [z2, z4, st_k0_t2_zero, st_k0_t4_zero, trips1]
  generalize (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) (k0_pay1521, k0_pay1522) (((i 1).val / 2 + 1) / 2)) = p at b
  have fin : ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) p (k0_t3_loop i).trips).2 (ix2 (rowIx hl r) l) : EReal)
      = ∑ m ∈ Finset.range ((i 1).val / 2 + 1), tile (term i v231 x5 x7 x12 hl r l) m := by
    rcases Nat.mod_two_eq_zero_or_one ((i 1).val / 2 + 1) with h | h
    · rw [trips3, h, st_k0_t3_zero, b]
      congr 2; omega
    · have h3 : (k0_t3_loop i).trips = 0 + 1 := by rw [trips3, h]
      have e := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 256#32) (k0_pay1488 i) v227 v231 (tileCount (Scalar.muli (BitVec.ofNat 32 (i 1).val) 256#32)) k0_pay1521 k0_pay1522 (Scalar.subi (tileCount (Scalar.muli (BitVec.ofNat 32 (i 1).val) 256#32)) 0#32) (2#32) (Scalar.divsi (Scalar.subi (tileCount (Scalar.muli (BitVec.ofNat 32 (i 1).val) 256#32)) 0#32) 2#32) (Scalar.subi (Scalar.extui (Scalar.cmpi .sgt (Scalar.subi (tileCount (Scalar.muli (BitVec.ofNat 32 (i 1).val) 256#32)) 0#32) 0#32)) (Scalar.extui (Scalar.cmpi .slt (Scalar.subi (tileCount (Scalar.muli (BitVec.ofNat 32 (i 1).val) 256#32)) 0#32) 0#32))) (Scalar.extui (Scalar.cmpi .sgt (2#32) 0#32)) (harg7.unread x5) (harg8.unread x6) (harg9.unread x7) (harg14.unread x12) p ⟨0, by omega⟩
      rw [h3, e, rest1_at (n := (i 1).val / 2) (hn := by omega), st_k0_t3_zero, b, Finset.sum_range_succ]
      · congr 3; omega
      · exact last_tile i 0 (by omega)
      · exact pos_word i
      · rfl
      · exact off9 i _
      · rfl
      · exact off9 i _
      · rfl
  rw [fin]
  refine ranged _ _ (by omega) fun k hk => term_late i _ _ _ _ hl r l k ?_
  unfold posOf; omega

end Cert.KernelIdeal.Nsa
end
-- ==== Proof.BranchIdeal.lean ====
/- The three branches of the attention, from what the blocks of a grid point hold. -/
module

public import proofs.«01_k».proof.Proof.OutIdeal
public import proofs.«01_k».proof.Proof.Rank
public import proofs.«01_k».proof.Proof.LoopIdeal

@[expose] public section

set_option maxRecDepth 16384

noncomputable section

namespace Cert.KernelIdeal.Nsa

open Cert.KernelIdeal Cert.KernelIdeal.Gen Cert.Nsa
open Idealize.ShloMosaic

/-- The blocks of grid point `i` hold the queries, keys, values and gates of the rows `R`. -/
structure Reads (i : grid0.Coords) (R : Fin 2 → Fin 256 → Row) (x0 : Vec Ideal S1x256x512 .f32) (x1 : Vec Ideal S1x256x128 .f32)
    (x2 x3 x4 : Vec Ideal S1x256x128 .bf16) (x5 x6 x7 x8 x9 x10 : Vec Ideal S1x4096x128 .bf16) (x11 : Vec Ideal S256x128 .bf16)
    (x12 : Vec Ideal S4096x128 .bf16) : Prop where
  t : ∀ g r, (R g r).t = posOf i r
  q : ∀ (g : Fin 2) r (hl : Fin 4) (d : Fin 64), (x0 (ix3 0 r ⟨64 * (4 * g.val + hl.val) + d.val, by omega⟩) : EReal) = (R g r).q hl d
  gate : ∀ g r hl b, (x1 (ix3 0 r (gateIx g hl b)) : EReal) = (R g r).gate hl b
  kc : ∀ g r (k : Fin 255) d, (x2 (ix3 0 k.castSucc (laneOf g d)) : EReal) = (R g r).kc k d
  pad : ∀ l, (x2 (ix3 0 (Fin.last 255) l) : EReal) = 0
  vc0 : ∀ r (k : Fin 255) d, (x3 (ix3 0 k.castSucc (laneOf 0 d)) : EReal) = (R 0 r).vc k d
  vc1 : ∀ r (k : Fin 255) d, (x4 (ix3 0 k.castSucc (laneOf 1 d)) : EReal) = (R 1 r).vc k d
  one3 : ∀ k d, (x3 (ix3 0 k (laneOf 1 d)) : EReal) = 1
  one4 : ∀ k d, (x4 (ix3 0 k (laneOf 0 d)) : EReal) = 1
  ks : ∀ g r k d, (x5 (ix3 0 k (laneOf g d)) : EReal) = (R g r).ks k d
  vs0 : ∀ r k d, (x6 (ix3 0 k (laneOf 0 d)) : EReal) = (R 0 r).vs k d
  vs1 : ∀ r k d, (x7 (ix3 0 k (laneOf 1 d)) : EReal) = (R 1 r).vs k d
  one6 : ∀ k d, (x6 (ix3 0 k (laneOf 1 d)) : EReal) = 1
  one7 : ∀ k d, (x7 (ix3 0 k (laneOf 0 d)) : EReal) = 1
  kw : ∀ g r k d, (x8 (ix3 0 k (laneOf g d)) : EReal) = (R g r).kw k d
  vw0 : ∀ r k d, (x9 (ix3 0 k (laneOf 0 d)) : EReal) = (R 0 r).vw k d
  vw1 : ∀ r k d, (x10 (ix3 0 k (laneOf 1 d)) : EReal) = (R 1 r).vw k d
  one9 : ∀ k d, (x9 (ix3 0 k (laneOf 1 d)) : EReal) = 1
  one10 : ∀ k d, (x10 (ix3 0 k (laneOf 0 d)) : EReal) = 1
  ov : ∀ (k : Fin 255) (j : Fin 64), (x11 (ix2 k.castSucc (laneOf 0 j)) : EReal)
    = if 16 * k.val < 64 * j.val + 64 ∧ 64 * j.val < 16 * k.val + 32 then 1 else 0
  hot : ∀ (k : Fin 4096) (y : Fin 128), (x12 (ix2 k y) : EReal) = if y.val = k.val / 64 then 1 else 0
  realq : ∀ g r hl d, IsReal ((R g r).q hl d)
  realkc : ∀ g r k d, IsReal ((R g r).kc k d)
  realks : ∀ g r k d, IsReal ((R g r).ks k d)
  realkw : ∀ g r k d, IsReal ((R g r).kw k d)

theorem lane_cases (l : Fin 128) : ∃ g d, l = laneOf g d := by
  have hl := l.isLt
  by_cases h : l.val < 64
  · exact ⟨0, ⟨l.val, h⟩, Fin.ext (by simp [laneOf])⟩
  · exact ⟨1, ⟨l.val - 64, by omega⟩, Fin.ext (by simp [laneOf]; omega)⟩

theorem across0 (d : Fin 64) : across (laneOf 0 d) = laneOf 1 d := Fin.ext (by simp only [across, laneOf]; have := d.isLt; simp; omega)
theorem across1 (d : Fin 64) : across (laneOf 1 d) = laneOf 0 d := Fin.ext (by simp only [across, laneOf]; have := d.isLt; simp; omega)

section
variable {i : grid0.Coords} {R : Fin 2 → Fin 256 → Row} {x0 : Vec Ideal S1x256x512 .f32} {x1 : Vec Ideal S1x256x128 .f32}
    {x2 x3 x4 : Vec Ideal S1x256x128 .bf16} {x5 x6 x7 x8 x9 x10 : Vec Ideal S1x4096x128 .bf16} {x11 : Vec Ideal S256x128 .bf16}
    {x12 : Vec Ideal S4096x128 .bf16} (h : Reads i R x0 x1 x2 x3 x4 x5 x6 x7 x8 x9 x10 x11 x12)
include h

/-- The compressed blocks' part: the last row is padding. -/
theorem Reads.comp_sum (g : Fin 2) (v : FVec Ideal S1024x128 .bf16) (hv : IsQ g v fun hl r d => (R g r).q hl d)
    (hl : Fin 4) (r : Fin 256) (y : Fin 256 → EReal) :
    ∑ x : Fin 256, FloatOps.exp2 (F := Ideal) (φ := .f32) (∑ l : Fin 128, (v (ix2 (rowIx hl r) l) : EReal) * x2 (ix3 0 x l)
        + (k0_pay1489 (F := Ideal) i (ix2 (rowIx hl r) x) : EReal)) * y x
      = ∑ k : Fin 255, (((R g r).wc hl k : ℝ) : EReal) * y k.castSucc := by
  have hi : (i 1).val < 16 := (i 1).isLt
  have hr := r.isLt
  rw [Fin.sum_univ_castSucc (n := 255)]
  have hlast : FloatOps.exp2 (F := Ideal) (φ := .f32) (∑ l : Fin 128, (v (ix2 (rowIx hl r) l) : EReal) * x2 (ix3 0 (Fin.last 255) l)
      + (k0_pay1489 (F := Ideal) i (ix2 (rowIx hl r) (Fin.last 255)) : EReal)) = (0 : EReal) := by
    rw [done_at, if_neg (by simp only [Fin.val_last, posOf]; omega), EReal.add_bot]; rfl
  rw [hlast, zero_mul, add_zero]
  refine Finset.sum_congr rfl fun k _ => ?_
  congr 1
  have hreal : ∀ l, IsReal (x2 (ix3 0 k.castSucc l) : EReal) := fun l => by
    obtain ⟨g', d, rfl⟩ := lane_cases l
    rw [h.kc g' r]; exact h.realkc _ _ _ _
  rw [hv.dot (fun _ _ _ => h.realq _ _ _ _) _ hreal, done_at, exp2_eq, exp2_wt]
  simp only [h.kc g r]
  unfold Row.wc
  rw [h.t]; rfl

/-- The keys of the sliding window: only 768 of them are read. -/
theorem Reads.win_sum (g : Fin 2) (v : FVec Ideal S1024x128 .bf16) (hv : IsQ g v fun hl r d => (R g r).q hl d)
    (hl : Fin 4) (r : Fin 256) (k v' : Vec Ideal S1x768x128 .bf16) (V : Vec Ideal S1x4096x128 .bf16)
    (hk : ∀ (x : Fin 768) l, (k (ix3 0 x l) : EReal) = x8 (ix3 0 ⟨256 * (i 1).val - 512 + x.val, by have : (i 1).val < 16 := (i 1).isLt; omega⟩ l))
    (hv' : ∀ (x : Fin 768) l, (v' (ix3 0 x l) : EReal) = V (ix3 0 ⟨256 * (i 1).val - 512 + x.val, by have : (i 1).val < 16 := (i 1).isLt; omega⟩ l))
    (l : Fin 128) :
    winSum hl r v (k0_pay1533 (Scalar.muli (BitVec.ofNat 32 (i 1).val) 256#32) (k0_pay1488 i)) (Named.named (F := Ideal) (φ := .f32) κ "neg" 0xF149F2CA#32)
        (k0_pay1534 (F := Ideal)) k v' l
      = ∑ k : Fin 4096, (((R g r).ww hl k : ℝ) : EReal) * V (ix3 0 k l) := by
  have hi : (i 1).val < 16 := (i 1).isLt
  have hr := r.isLt
  let f : ℕ → EReal := fun n => if hn : n < 4096 then (((R g r).ww hl ⟨n, hn⟩ : ℝ) : EReal) * V (ix3 0 ⟨n, hn⟩ l) else 0
  have e1 : ∑ k : Fin 4096, (((R g r).ww hl k : ℝ) : EReal) * V (ix3 0 k l) = ∑ n ∈ Finset.range 4096, f n := by
    rw [Finset.sum_range]
    exact Finset.sum_congr rfl fun k _ => by simp only [f]; rw [dif_pos k.isLt]
  have e2 : ∑ n ∈ Finset.range 4096, f n = ∑ n ∈ Finset.Ico (256 * (i 1).val - 512) (256 * (i 1).val - 512 + 768), f n := by
    symm
    refine Finset.sum_subset (fun n hn => ?_) fun n hn hn' => ?_
    · rw [Finset.mem_Ico] at hn; rw [Finset.mem_range]; omega
    · rw [Finset.mem_range] at hn
      rw [Finset.mem_Ico] at hn'
      simp only [f]
      rw [dif_pos hn]
      have : (R g r).ww hl ⟨n, hn⟩ = 0 := by
        unfold Row.ww wt
        rw [if_neg]
        rw [h.t]; unfold posOf; dsimp only; omega
      rw [this]; exact zero_mul _
  rw [e1, e2, Finset.sum_Ico_eq_sum_range, Nat.add_sub_cancel_left, Finset.sum_range]
  unfold winSum
  refine Finset.sum_congr rfl fun x _ => ?_
  have hx := x.isLt
  simp only [f]
  rw [dif_pos (by omega), hv']
  congr 1
  have hreal : ∀ l, IsReal (k (ix3 0 x l) : EReal) := fun l => by
    rw [hk]
    obtain ⟨g', d, rfl⟩ := lane_cases l
    rw [h.kw g' r]; exact h.realkw _ _ _ _
  rw [hv.dot (fun _ _ _ => h.realq _ _ _ _) _ hreal, band_at, exp2_eq, exp2_wt]
  simp only [hk, h.kw g r]
  unfold Row.ww
  rw [h.t]

open Classical in
/-- One key of the selected branch. -/
theorem Reads.term_at (g : Fin 2) (v : FVec Ideal S1024x128 .bf16) (hv : IsQ g v fun hl r d => (R g r).q hl d)
    (v2 : FVec Ideal S1024x256 .bf16) (M : FVec Ideal S128x256 .f32)
    (hleft : ∀ hl r l, (v2 (ix2 (rowIx hl r) (left l)) : EReal) = v (ix2 (rowIx hl r) l))
    (hright : ∀ hl r y, (v2 (ix2 (rowIx hl r) (right y)) : EReal) = M (ix2 y r))
    (hM : ∀ r (j : Fin 128), j.val ≤ posOf i r / 64 → (M (ix2 j r) : EReal) = if (R g r).kept j then 0 else ⊥)
    (V : Vec Ideal S1x4096x128 .bf16) (hl : Fin 4) (r : Fin 256) (l : Fin 128) (k : Fin 4096) :
    term i v2 x5 V x12 hl r l k = (((R g r).ws hl k : ℝ) : EReal) * V (ix3 0 k l) := by
  have hk := k.isLt
  by_cases hlate : posOf i r < k.val
  · rw [term_late i _ _ _ _ hl r l k hlate]
    have : (R g r).ws hl k = 0 := by
      unfold Row.ws wt
      rw [if_neg]
      rw [h.t]; omega
    rw [this]; exact (zero_mul _).symm
  · unfold term
    simp only [hleft, hright]
    congr 1
    have hreal : ∀ l, IsReal (x5 (ix3 0 k l) : EReal) := fun l => by
      obtain ⟨g', d, rfl⟩ := lane_cases l
      rw [h.ks g' r]; exact h.realks _ _ _ _
    have hm : ∑ y : Fin 128, (M (ix2 y r) : EReal) * x12 (ix2 k y) = if (R g r).kept (k.val / 64) then 0 else ⊥ := by
      rw [Finset.sum_eq_single (⟨k.val / 64, by omega⟩ : Fin 128)]
      · rw [h.hot, if_pos rfl, mul_one, hM r _ (by dsimp only; omega)]
      · intro y _ hy
        rw [h.hot, if_neg (fun e => hy (Fin.ext e)), mul_zero]
      · intro hn; exact absurd (Finset.mem_univ _) hn
    rw [hm, hv.dot (fun _ _ _ => h.realq _ _ _ _) _ hreal, if_pos (show k.val ≤ posOf i r by omega), add_zero, exp2_eq, exp2_wt]
    simp only [h.ks g r]
    unfold Row.ws
    congr 1
    unfold wt
    by_cases hkp : (R g r).kept (k.val / 64)
    · rw [if_pos hkp, if_pos ⟨hkp, by rw [h.t]; omega⟩]
    · rw [if_neg hkp, if_neg fun e => hkp e.1]

end

end Cert.KernelIdeal.Nsa
end
-- ==== Proof.BodyIdeal.lean ====
/- The values of the branches at a grid point, from what its blocks hold. -/
module

public import proofs.«01_k».proof.Proof.BranchIdeal

@[expose] public section

set_option maxRecDepth 16384

noncomputable section

namespace Cert.KernelIdeal.Nsa

open Cert.KernelIdeal Cert.KernelIdeal.Gen Cert.Nsa
open Idealize.ShloMosaic

/-- The importance of a block is the sum over the heads of their attention to what overlaps it. -/
theorem imp_soft (R : Row) (j : ℕ) :
    ∑ hl : Fin 4, soft (R.wc hl) (fun k => if 16 * k.val < 64 * j + 64 ∧ 64 * j < 16 * k.val + 32 then 1 else 0) = ((R.imp j : ℝ) : EReal) := by
  have e : ∀ hl, soft (R.wc hl) (fun k => if 16 * k.val < 64 * j + 64 ∧ 64 * j < 16 * k.val + 32 then 1 else 0)
      = (((∑ k, R.wc hl k * (if 16 * k.val < 64 * j + 64 ∧ 64 * j < 16 * k.val + 32 then 1 else 0)) * (∑ x, R.wc hl x)⁻¹ : ℝ) : EReal) := by
    intro hl
    unfold soft
    rw [EReal.coe_mul, coe_sum]
    congr 1
    refine Finset.sum_congr rfl fun k _ => ?_
    rw [EReal.coe_mul]
    congr 1
    by_cases hc : 16 * k.val < 64 * j + 64 ∧ 64 * j < 16 * k.val + 32
    · simp only [if_pos hc]; rfl
    · simp only [if_neg hc]; rfl
  simp only [e]
  rw [← coe_sum]
  congr 1
  unfold Row.imp
  simp only [Finset.sum_mul]
  rw [Finset.sum_comm]
  refine Finset.sum_congr rfl fun k _ => Finset.sum_congr rfl fun hl _ => by ring

theorem rows0_left (v : FVec Ideal S1024x128 .bf16) (M : FVec Ideal S128x256 .f32) (hl : Fin 4) (r : Fin 256) (l : Fin 128) :
    (k0_pay1519 (F := Ideal) v M (ix2 (rowIx hl r) (left l)) : EReal) = v (ix2 (rowIx hl r) l) := by
  have hr := r.isLt
  have hl' := l.isLt
  fin_cases hl <;> simp only [rowIx, left] <;> pointwise [k0_pay1519] <;>
    (try simp (disch := omega) only [dif_neg, dif_pos, third, fourth]) <;> rfl
theorem rows0_right (v : FVec Ideal S1024x128 .bf16) (M : FVec Ideal S128x256 .f32) (hl : Fin 4) (r : Fin 256) (l : Fin 128) :
    (k0_pay1519 (F := Ideal) v M (ix2 (rowIx hl r) (right l)) : EReal) = M (ix2 l r) := by
  have hr := r.isLt
  have hl' := l.isLt
  fin_cases hl <;> simp only [rowIx, right] <;> pointwise [k0_pay1519] <;>
    (try simp (disch := omega) only [dif_neg, dif_pos, third, fourth]) <;> rfl
theorem rows1_left (v : FVec Ideal S1024x128 .bf16) (M : FVec Ideal S128x256 .f32) (hl : Fin 4) (r : Fin 256) (l : Fin 128) :
    (k0_pay1520 (F := Ideal) v M (ix2 (rowIx hl r) (left l)) : EReal) = v (ix2 (rowIx hl r) l) := by
  have hr := r.isLt
  have hl' := l.isLt
  fin_cases hl <;> simp only [rowIx, left] <;> pointwise [k0_pay1520] <;>
    (try simp (disch := omega) only [dif_neg, dif_pos, third, fourth]) <;> rfl
theorem rows1_right (v : FVec Ideal S1024x128 .bf16) (M : FVec Ideal S128x256 .f32) (hl : Fin 4) (r : Fin 256) (l : Fin 128) :
    (k0_pay1520 (F := Ideal) v M (ix2 (rowIx hl r) (right l)) : EReal) = M (ix2 l r) := by
  have hr := r.isLt
  have hl' := l.isLt
  fin_cases hl <;> simp only [rowIx, right] <;> pointwise [k0_pay1520] <;>
    (try simp (disch := omega) only [dif_neg, dif_pos, third, fourth]) <;> rfl

/-- A weighted sum with the inverse of the weights' own sum, which the lane half of the lanes away holds. -/
theorem soft_at {n : ℕ} (w : Fin n → ℝ) (hw : ∀ k, 0 ≤ w k) (v v' v'' : Fin n → EReal) (h1 : ∀ k, v' k = 1) (hv : ∀ k, v k = v'' k) :
    (∑ k, (w k : EReal) * v k) * inv (∑ k, (w k : EReal) * v' k) = soft w v'' := by
  rw [← funext hv]; exact norm_at w hw v v' h1

theorem wc_nonneg (R : Row) (hl k) : 0 ≤ R.wc hl k := wt_nonneg _ _
theorem ws_nonneg (R : Row) (hl k) : 0 ≤ R.ws hl k := by classical exact wt_nonneg _ _
theorem ww_nonneg (R : Row) (hl k) : 0 ≤ R.ww hl k := wt_nonneg _ _

section
variable {i : grid0.Coords} {R : Fin 2 → Fin 256 → Row} {x0 : Vec Ideal S1x256x512 .f32} {x1 : Vec Ideal S1x256x128 .f32}
    {x2 x3 x4 : Vec Ideal S1x256x128 .bf16} {x5 x6 x7 x8 x9 x10 : Vec Ideal S1x4096x128 .bf16} {x11 : Vec Ideal S256x128 .bf16}
    {x12 : Vec Ideal S4096x128 .bf16} (h : Reads i R x0 x1 x2 x3 x4 x5 x6 x7 x8 x9 x10 x11 x12)

/-- The queries of either group. -/
abbrev Q0 (x0 : Vec Ideal S1x256x512 .f32) : FVec Ideal S1024x128 .bf16 :=
  k0_pay1494 (F := Ideal) (k0_pay1486 x0) k0_pay1490 (k0_pay1491 x0) (k0_pay1492 x0) (k0_pay1493 x0)
abbrev Q1 (x0 : Vec Ideal S1x256x512 .f32) : FVec Ideal S1024x128 .bf16 :=
  k0_pay1505 (F := Ideal) (k0_pay1486 x0) (iota .tc S256x128 32 [1] iota_S256x128_d1_w32)

/-- The sums over the compressed blocks: the weighted values, and the importance. -/
abbrev C0 (i : grid0.Coords) (x0 : Vec Ideal S1x256x512 .f32) (x2 x3 : Vec Ideal S1x256x128 .bf16) (x11 : Vec Ideal S256x128 .bf16) :=
  k0_pay1495 (F := Ideal) (k0_pay1486 x0) (k0_pay1489 i) k0_pay1490 (k0_pay1491 x0) (k0_pay1492 x0) (k0_pay1493 x0) x2 x3 x11
abbrev C1 (i : grid0.Coords) (x0 : Vec Ideal S1x256x512 .f32) (x2 x4 : Vec Ideal S1x256x128 .bf16) (x11 : Vec Ideal S256x128 .bf16) :=
  k0_pay1507 (F := Ideal) (k0_pay1489 i) (k0_pay1506 (k0_pay1486 x0) (iota .tc S256x128 32 [1] iota_S256x128_d1_w32) x2) x4 x11

include h

theorem Reads.isq0 : IsQ 0 (Q0 x0) fun hl r d => (R 0 r).q hl d := by
  have e : (fun (hl : Fin 4) (r : Fin 256) (d : Fin 64) => (x0 (ix3 0 r ⟨64 * (4 * 0 + hl.val) + d.val, by omega⟩) : EReal)) = fun hl r d => (R 0 r).q hl d :=
    funext fun hl => funext fun r => funext fun d => h.q 0 r hl d
  rw [← e]; exact q0_is x0
theorem Reads.isq1 : IsQ 1 (Q1 x0) fun hl r d => (R 1 r).q hl d := by
  have e : (fun (hl : Fin 4) (r : Fin 256) (d : Fin 64) => (x0 (ix3 0 r ⟨64 * (4 * 1 + hl.val) + d.val, by omega⟩) : EReal)) = fun hl r d => (R 1 r).q hl d :=
    funext fun hl => funext fun r => funext fun d => h.q 1 r hl d
  rw [← e]; exact q1_is x0

variable (hl : Fin 4) (r : Fin 256)

theorem Reads.c0_left (l : Fin 128) : (C0 i x0 x2 x3 x11 (ix2 (rowIx hl r) (left l)) : EReal)
    = ∑ k : Fin 255, (((R 0 r).wc hl k : ℝ) : EReal) * x3 (ix3 0 k.castSucc l) :=
  (comp0_at _ _ _ _ _ _ _ _ _ hl r l).trans (h.comp_sum 0 _ h.isq0 hl r fun k => x3 (ix3 0 k l))
theorem Reads.c0_right (l : Fin 128) : (C0 i x0 x2 x3 x11 (ix2 (rowIx hl r) (right l)) : EReal)
    = ∑ k : Fin 255, (((R 0 r).wc hl k : ℝ) : EReal) * x11 (ix2 k.castSucc l) :=
  (comp0_imp_at _ _ _ _ _ _ _ _ _ hl r l).trans (h.comp_sum 0 _ h.isq0 hl r fun k => x11 (ix2 k l))
theorem Reads.c1_left (l : Fin 128) : (C1 i x0 x2 x4 x11 (ix2 (rowIx hl r) (left l)) : EReal)
    = ∑ k : Fin 255, (((R 1 r).wc hl k : ℝ) : EReal) * x4 (ix3 0 k.castSucc l) := by
  unfold C1
  rw [comp1_at]
  simp only [comp1_score]
  exact h.comp_sum 1 _ h.isq1 hl r fun k => x4 (ix3 0 k l)
theorem Reads.c1_right (l : Fin 128) : (C1 i x0 x2 x4 x11 (ix2 (rowIx hl r) (right l)) : EReal)
    = ∑ k : Fin 255, (((R 1 r).wc hl k : ℝ) : EReal) * x11 (ix2 k.castSucc l) := by
  unfold C1
  rw [comp1_imp_at]
  simp only [comp1_score]
  exact h.comp_sum 1 _ h.isq1 hl r fun k => x11 (ix2 k l)

/-- The average over the compressed blocks. -/
theorem Reads.comp0 (d : Fin 64) : (C0 i x0 x2 x3 x11 (ix2 (rowIx hl r) (left (laneOf 0 d))) : EReal)
      * inv (C0 i x0 x2 x3 x11 (ix2 (rowIx hl r) (left (across (laneOf 0 d)))))
    = soft ((R 0 r).wc hl) fun k => (R 0 r).vc k d := by
  rw [h.c0_left, h.c0_left, across0]
  exact soft_at _ (wc_nonneg _ _) _ _ _ (fun k => h.one3 _ _) fun k => h.vc0 _ _ _
theorem Reads.comp1 (d : Fin 64) : (C1 i x0 x2 x4 x11 (ix2 (rowIx hl r) (left (laneOf 1 d))) : EReal)
      * inv (C1 i x0 x2 x4 x11 (ix2 (rowIx hl r) (left (across (laneOf 1 d)))))
    = soft ((R 1 r).wc hl) fun k => (R 1 r).vc k d := by
  rw [h.c1_left, h.c1_left, across1]
  exact soft_at _ (wc_nonneg _ _) _ _ _ (fun k => h.one4 _ _) fun k => h.vc1 _ _ _

/-- The importance of a block, in column form. -/
theorem Reads.imp0 (j : Fin 64) : (k0_pay1504 (F := Ideal) (C0 i x0 x2 x3 x11)
      (k0_pay1497 (k0_pay1486 x0) (k0_pay1489 i) k0_pay1490 (k0_pay1491 x0) (k0_pay1492 x0) (k0_pay1493 x0) x2 x3 x11) (ix2 j r) : EReal)
    = (((R 0 r).imp j : ℝ) : EReal) := by
  rw [← imp_soft]
  refine (imp0_at _ _ _ _ _ _ _ _ _ r j).trans (Finset.sum_congr rfl fun hl _ => ?_)
  have e1 := h.c0_right hl r (laneOf 0 j)
  have e2 := h.c0_left hl r (across (laneOf 0 j))
  rw [across0] at e2 ⊢
  refine (congrArg₂ (fun a b => a * inv b) e1 e2).trans ?_
  exact soft_at _ (wc_nonneg _ _) _ _ _ (fun k => h.one3 _ _) fun k => h.ov _ _
theorem Reads.imp1 (j : Fin 64) : (k0_pay1513 (F := Ideal)
      (k0_pay1510 (k0_pay1489 i) (k0_pay1506 (k0_pay1486 x0) (iota .tc S256x128 32 [1] iota_S256x128_d1_w32) x2) x4 x11)
      (k0_pay1511 (k0_pay1489 i) (k0_pay1506 (k0_pay1486 x0) (iota .tc S256x128 32 [1] iota_S256x128_d1_w32) x2) x4 x11)
      (k0_pay1512 (k0_pay1489 i) (k0_pay1506 (k0_pay1486 x0) (iota .tc S256x128 32 [1] iota_S256x128_d1_w32) x2) x4 x11) (ix2 j r) : EReal)
    = (((R 1 r).imp j : ℝ) : EReal) := by
  rw [← imp_soft]
  refine (imp1_at _ _ _ _ r j).trans (Finset.sum_congr rfl fun hl _ => ?_)
  have e1 := h.c1_right hl r (laneOf 0 j)
  have e2 := h.c1_left hl r (laneOf 0 j)
  refine (congrArg₂ (fun a b => a * inv b) e1 e2).trans ?_
  exact soft_at _ (wc_nonneg _ _) _ _ _ (fun k => h.one4 _ _) fun k => h.ov _ _

open Classical in
/-- The mask of the blocks that are not kept, from the importance in column form. -/
theorem Reads.mask (g : Fin 2) (imp : FVec Ideal S64x256 .f32) (hi : ∀ (j : Fin 64) r, (imp (ix2 j r) : EReal) = (((R g r).imp j : ℝ) : EReal))
    (r : Fin 256) (j : Fin 128) (hj : j.val ≤ posOf i r / 64) :
    (maskBy (whichMask (Scalar.muli (BitVec.ofNat 32 (i 1).val) 256#32)) (Named.named (F := Ideal) (φ := .f32) κ "neg" 0xF149F2CA#32)
      (Scalar.muli (BitVec.ofNat 32 (i 1).val) 256#32) imp (ix2 j r) : EReal) = if (R g r).kept j then 0 else ⊥ := by
  have hw : Scalar.muli (BitVec.ofNat 32 (i 1).val) 256#32 = BitVec.ofNat 32 ((i 1).val * 256) := Word.smul _ 256
  rw [hw]
  have ht : (R g r).t = (i 1).val * 256 + r.val := by rw [h.t]; unfold posOf; omega
  exact maskBy_at (R g r) (i 1) r ht imp (fun j => hi j r) _ j (by rw [h.t]; exact hj)

end
end Cert.KernelIdeal.Nsa
end
-- ==== Proof.OutputIdeal.lean ====
/- What the body of a grid point writes. -/
module

public import proofs.«01_k».proof.Proof.BodyIdeal
public import proofs.«01_k».proof.Proof.FrameIdeal
public import Idealize.ShloMosaic.Lib.VecWindow

@[expose] public section

set_option maxRecDepth 16384

noncomputable section

namespace Cert.KernelIdeal.Nsa

open Cert.KernelIdeal Cert.KernelIdeal.Gen Cert.Nsa
open Idealize.ShloMosaic

section
variable {e : EltTy}
theorem read_block (m : Memref sig .tc .vmem S1x256x128 e) (hm : m.IsWhole) (x : Vec Ideal S1x256x128 e) (inb) :
    View.readAt (Elt Ideal) m.view (Rect.unit ![0, 0, 0] ![1, 256, 128] inb).toLoadRect (hm.unread x) = x :=
  (View.readAt_full m.view (hm.unread x) inb).trans (hm.read_unread x)
theorem read_row (m : Memref sig .tc .vmem S1x256x512 e) (hm : m.IsWhole) (x : Vec Ideal S1x256x512 e) (inb) :
    View.readAt (Elt Ideal) m.view (Rect.unit ![0, 0, 0] ![1, 256, 512] inb).toLoadRect (hm.unread x) = x :=
  (View.readAt_full m.view (hm.unread x) inb).trans (hm.read_unread x)
theorem read_table (m : Memref sig .tc .vmem S256x128 e) (hm : m.IsWhole) (x : Vec Ideal S256x128 e) (inb) :
    View.readAt (Elt Ideal) m.view (Rect.unit ![0, 0] ![256, 128] inb).toLoadRect (hm.unread x) = x :=
  (View.readAt_full m.view (hm.unread x) inb).trans (hm.read_unread x)
end

/-- The window's 768 keys. -/
def window (i : grid0.Coords) (m : Memref sig .tc .vmem S1x4096x128 .bf16) (hm : m.IsWhole) (x : Vec Ideal S1x4096x128 .bf16) :
    Vec Ideal S1x768x128 .bf16 := by
  exact View.readAt (Elt Ideal) m.view (Rect.unit (s := S1x4096x128) (k0_off13 i) S1x768x128.size (k0_off13_inb i)).toLoadRect (hm.unread x)

theorem window_at (i : grid0.Coords) (m : Memref sig .tc .vmem S1x4096x128 .bf16) (hm : m.IsWhole) (x : Vec Ideal S1x4096x128 .bf16)
    (y : Fin 768) (l : Fin 128) : (window i m hm x (ix3 0 y l) : EReal)
      = x (ix3 0 ⟨256 * (i 1).val - 512 + y.val, by have : (i 1).val < 16 := (i 1).isLt; omega⟩ l) := by
  have hi : (i 1).val < 16 := (i 1).isLt
  have h0 : k0_off13 i 0 = 0 := rfl
  have h2 : k0_off13 i 2 = 0 := rfl
  have h1 : k0_off13 i 1 = 256 * (i 1).val - 512 := by
    show (Scalar.indexCast (Scalar.maxsi (Scalar.subi (Scalar.addi (Scalar.muli (BitVec.ofNat 32 (i 1).val) 256#32) 256#32) 768#32) 0#32)).toNat = _
    rw [show Scalar.muli (BitVec.ofNat 32 (i 1).val) 256#32 = BitVec.ofNat 32 ((i 1).val * 256) from Word.smul _ 256, start_word (i 1)]
    exact Word.toNat_small (by omega)
  unfold window
  simp only [View.readAt_eq_ld, Memref.IsWhole.read_unread]
  pointwise [View.ld]
  simp only [h0, h1, h2, Nat.zero_add]
  rfl

variable (c : Dev nD) (i : grid0.Coords) (arg2 : Memref sig .tc .vmem S1x256x512 .f32) (harg2 : arg2.IsWhole) (arg3 : Memref sig .tc .vmem S1x256x128 .f32) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x4096x128 .bf16) (harg12 : arg12.IsWhole) (arg13 : Memref sig .tc .vmem S256x128 .bf16) (harg13 : arg13.IsWhole) (arg14 : Memref sig .tc .vmem S4096x128 .bf16) (harg14 : arg14.IsWhole) (arg15 : Memref sig .tc .vmem S1x256x512 .bf16) (harg15 : arg15.IsWhole)
    (x0 : Vec Ideal S1x256x512 .f32) (x1 : Vec Ideal S1x256x128 .f32) (x2 : Vec Ideal S1x256x128 .bf16) (x3 : Vec Ideal S1x256x128 .bf16) (x4 : Vec Ideal S1x256x128 .bf16) (x5 : Vec Ideal S1x4096x128 .bf16) (x6 : Vec Ideal S1x4096x128 .bf16) (x7 : Vec Ideal S1x4096x128 .bf16) (x8 : Vec Ideal S1x4096x128 .bf16) (x9 : Vec Ideal S1x4096x128 .bf16) (x10 : Vec Ideal S1x4096x128 .bf16) (x11 : Vec Ideal S256x128 .bf16) (x12 : Vec Ideal S4096x128 .bf16)

theorem r_eq : bodyRun.sl.r (F := Ideal) c arg2 harg2 x0 = k0_pay1486 x0 := by
  unfold bodyRun.sl.r; simp only [read_block, read_row, read_table]

theorem r1_eq : bodyRun.sl.r_1 (F := Ideal) c arg3 harg3 x1 = k0_pay1487 x1 := by
  unfold bodyRun.sl.r_1; simp only [read_block, read_row, read_table]

theorem r2_eq : bodyRun.sl.r_2 (F := Ideal) c arg2 harg2 x0 = k0_pay1491 x0 := by
  unfold bodyRun.sl.r_2; simp only [read_block, read_row, read_table]

theorem r3_eq : bodyRun.sl.r_3 (F := Ideal) c arg2 harg2 x0 = k0_pay1492 x0 := by
  unfold bodyRun.sl.r_3; simp only [read_block, read_row, read_table]

theorem r4_eq : bodyRun.sl.r_4 (F := Ideal) c arg2 harg2 x0 = k0_pay1493 x0 := by
  unfold bodyRun.sl.r_4; simp only [read_block, read_row, read_table]

theorem r5_eq : bodyRun.sl.r_5 (F := Ideal) c arg2 harg2 x0 = Q0 x0 := by
  unfold bodyRun.sl.r_5; simp only [r_eq, r2_eq, r3_eq, r4_eq]

theorem r13_eq : bodyRun.sl.r_13 (F := Ideal) c i arg2 harg2 arg3 harg3 arg4 harg4 arg5 harg5 arg13 harg13 x0 x1 x2 x3 x11 = (k0_pay1503 (F := Ideal) (k0_pay1487 x1) (k0_pay1498 (k0_pay1486 x0) (k0_pay1489 i) k0_pay1490 (k0_pay1491 x0) (k0_pay1492 x0) (k0_pay1493 x0) x2 x3 x11) (k0_pay1499 (k0_pay1486 x0) (k0_pay1487 x1) (k0_pay1489 i) k0_pay1490 (k0_pay1491 x0) (k0_pay1492 x0) (k0_pay1493 x0) x2 x3 x11) (k0_pay1500 (k0_pay1486 x0) (k0_pay1487 x1) (k0_pay1489 i) k0_pay1490 (k0_pay1491 x0) (k0_pay1492 x0) (k0_pay1493 x0) x2 x3 x11) (k0_pay1501 (k0_pay1486 x0) (k0_pay1489 i) k0_pay1490 (k0_pay1491 x0) (k0_pay1492 x0) (k0_pay1493 x0) x2 x3 x11) (k0_pay1502 (k0_pay1487 x1))) := by
  unfold bodyRun.sl.r_13 bodyRun.sl.r_8 bodyRun.sl.r_9 bodyRun.sl.r_10 bodyRun.sl.r_11 bodyRun.sl.r_12; simp only [read_block, read_row, read_table, r_eq, r1_eq, r2_eq, r3_eq, r4_eq, r5_eq]

theorem r14_eq : bodyRun.sl.r_14 (F := Ideal) c i arg2 harg2 arg4 harg4 arg5 harg5 arg13 harg13 x0 x2 x3 x11 = (k0_pay1504 (F := Ideal) (C0 i x0 x2 x3 x11) (k0_pay1497 (k0_pay1486 x0) (k0_pay1489 i) k0_pay1490 (k0_pay1491 x0) (k0_pay1492 x0) (k0_pay1493 x0) x2 x3 x11)) := by
  unfold bodyRun.sl.r_14 bodyRun.sl.r_6 bodyRun.sl.r_7; simp only [read_block, read_row, read_table, r_eq, r1_eq, r2_eq, r3_eq, r4_eq, r5_eq]

theorem r15_eq : bodyRun.sl.r_15 (F := Ideal) c arg2 harg2 x0 = Q1 x0 := by
  unfold bodyRun.sl.r_15; simp only [read_block, read_row, read_table, r_eq, r1_eq, r2_eq, r3_eq, r4_eq, r5_eq]; rfl

theorem r17_eq : bodyRun.sl.r_17 (F := Ideal) c i arg2 harg2 arg3 harg3 arg4 harg4 arg6 harg6 arg13 harg13 x0 x1 x2 x4 x11 = (k0_pay1509 (F := Ideal) (k0_pay1487 x1) (k0_pay1489 i) (k0_pay1506 (k0_pay1486 x0) (iota .tc S256x128 32 [1] iota_S256x128_d1_w32) x2) x4 x11) := by
  unfold bodyRun.sl.r_17 bodyRun.sl.r_16; simp only [read_block, read_row, read_table, r_eq, r1_eq, r2_eq, r3_eq, r4_eq, r5_eq]; rfl

theorem r21_eq : bodyRun.sl.r_21 (F := Ideal) c i arg2 harg2 arg4 harg4 arg6 harg6 arg13 harg13 x0 x2 x4 x11 = (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)) := by
  unfold bodyRun.sl.r_21 bodyRun.sl.r_18 bodyRun.sl.r_19 bodyRun.sl.r_20 bodyRun.sl.r_16; simp only [read_block, read_row, read_table, r_eq, r1_eq, r2_eq, r3_eq, r4_eq, r5_eq]; rfl

set_option maxHeartbeats 1600000 in
theorem r25_eq : bodyRun.sl.r_25 (F := Ideal) c i arg2 harg2 arg3 harg3 arg10 harg10 arg11 harg11 x0 x1 x8 x9 = (k0_pay1537 (F := Ideal) (k0_pay1487 x1) (Q0 x0) (k0_pay1533 (Scalar.muli (BitVec.ofNat 32 (i 1).val) 256#32) (k0_pay1488 i)) (Named.named (F := Ideal) (φ := .f32) κ "neg" 0xF149F2CA#32) k0_pay1534 (window i arg10 harg10 x8) (window i arg11 harg11 x9)) := by
  unfold bodyRun.sl.r_25 bodyRun.sl.r_24; simp only [read_block, read_row, read_table, r_eq, r1_eq, r2_eq, r3_eq, r4_eq, r5_eq]; rfl

theorem r28_eq : bodyRun.sl.r_28 (F := Ideal) c i arg2 harg2 arg3 harg3 arg10 harg10 arg12 harg12 x0 x1 x8 x10 = (k0_pay1540 (F := Ideal) (k0_pay1487 x1) (k0_pay1538 (Q1 x0) (k0_pay1533 (Scalar.muli (BitVec.ofNat 32 (i 1).val) 256#32) (k0_pay1488 i)) (Named.named (F := Ideal) (φ := .f32) κ "neg" 0xF149F2CA#32) k0_pay1534 (window i arg10 harg10 x8)) (k0_pay1539 (window i arg12 harg12 x10)) (constant S1024x128 .f32 0x00000000#32)) := by
  unfold bodyRun.sl.r_28 bodyRun.sl.r_26 bodyRun.sl.r_27 bodyRun.sl.r_24; simp only [read_block, read_row, read_table, r_eq, r1_eq, r2_eq, r3_eq, r4_eq, r5_eq, r15_eq]; rfl

theorem r22_eq : ∃ w, bodyRun.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 x11 x12 = (selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).1 := by
  refine ⟨(bodyRun.sl.v276 (F := Ideal) c i arg2 harg2 arg4 harg4 arg5 harg5 arg6 harg6 arg13 harg13 x0 x2 x3 x4 x11), ?_⟩
  · unfold bodyRun.sl.r_22 selRun
    simp only [r5_eq, r14_eq, r15_eq, r21_eq]
    generalize bodyRun.sl.v276 (F := Ideal) c i arg2 harg2 arg4 harg4 arg5 harg5 arg6 harg6 arg13 harg13 x0 x2 x3 x4 x11 = w
    generalize k0_pay1519 (F := Ideal) _ _ = L0
    generalize k0_pay1520 (F := Ideal) _ _ = L1
    simp only [Prod.mk.eta]
    sl_kernel_rfl

theorem r23_eq : ∃ w, bodyRun.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 x11 x12 = (selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).2 := by
  refine ⟨(bodyRun.sl.v276 (F := Ideal) c i arg2 harg2 arg4 harg4 arg5 harg5 arg6 harg6 arg13 harg13 x0 x2 x3 x4 x11), ?_⟩
  · unfold bodyRun.sl.r_23 selRun
    simp only [r5_eq, r14_eq, r15_eq, r21_eq]
    generalize bodyRun.sl.v276 (F := Ideal) c i arg2 harg2 arg4 harg4 arg5 harg5 arg6 harg6 arg13 harg13 x0 x2 x3 x4 x11 = w
    generalize k0_pay1519 (F := Ideal) _ _ = L0
    generalize k0_pay1520 (F := Ideal) _ _ = L1
    simp only [Prod.mk.eta]
    sl_kernel_rfl
/-! ## The two groups' outputs -/

/-- Group 0's output. -/
theorem out0_at {R : Fin 2 → Fin 256 → Row} (h : Reads i R x0 x1 x2 x3 x4 x5 x6 x7 x8 x9 x10 x11 x12) (w : BitVec 32)
    (hl : Fin 4) (r : Fin 256) (d : Fin 64) :
    (k0_pay1542 (F := Ideal) (k0_pay1537 (F := Ideal) (k0_pay1487 x1) (Q0 x0) (k0_pay1533 (Scalar.muli (BitVec.ofNat 32 (i 1).val) 256#32) (k0_pay1488 i)) (Named.named (F := Ideal) (φ := .f32) κ "neg" 0xF149F2CA#32) k0_pay1534 (window i arg10 harg10 x8) (window i arg11 harg11 x9)) (k0_pay1541 (k0_pay1487 x1) (k0_pay1503 (F := Ideal) (k0_pay1487 x1) (k0_pay1498 (k0_pay1486 x0) (k0_pay1489 i) k0_pay1490 (k0_pay1491 x0) (k0_pay1492 x0) (k0_pay1493 x0) x2 x3 x11) (k0_pay1499 (k0_pay1486 x0) (k0_pay1487 x1) (k0_pay1489 i) k0_pay1490 (k0_pay1491 x0) (k0_pay1492 x0) (k0_pay1493 x0) x2 x3 x11) (k0_pay1500 (k0_pay1486 x0) (k0_pay1487 x1) (k0_pay1489 i) k0_pay1490 (k0_pay1491 x0) (k0_pay1492 x0) (k0_pay1493 x0) x2 x3 x11) (k0_pay1501 (k0_pay1486 x0) (k0_pay1489 i) k0_pay1490 (k0_pay1491 x0) (k0_pay1492 x0) (k0_pay1493 x0) x2 x3 x11) (k0_pay1502 (k0_pay1487 x1))) (selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).1) (ix2 (rowIx hl r) (laneOf 0 d)) : EReal) = (R 0 r).out hl d := by
  have hs : ∀ l, ((selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).1 (ix2 (rowIx hl r) l) : EReal)
      = ∑ k, (((R 0 r).ws hl k : ℝ) : EReal) * x6 (ix3 0 k l) := fun l => by
    rw [sel0_at]
    exact Finset.sum_congr rfl fun k _ => h.term_at 0 (Q0 x0) h.isq0 _ _ (fun hl r l => rows0_left _ _ hl r l)
      (fun hl r y => rows0_right _ _ hl r y) (fun r j hj => h.mask 0 _ (fun j r => h.imp0 r j) r j hj) x6 hl r l k
  have hw : ∀ l, winSum hl r (Q0 x0) (k0_pay1533 (Scalar.muli (BitVec.ofNat 32 (i 1).val) 256#32) (k0_pay1488 i)) (Named.named (F := Ideal) (φ := .f32) κ "neg" 0xF149F2CA#32) k0_pay1534 (window i arg10 harg10 x8) (window i arg11 harg11 x9) l
      = ∑ k, (((R 0 r).ww hl k : ℝ) : EReal) * x9 (ix3 0 k l) := fun l =>
    h.win_sum 0 (Q0 x0) h.isq0 hl r _ _ x9 (fun y l => window_at i arg10 harg10 x8 y l) (fun y l => window_at i arg11 harg11 x9 y l) l
  rw [gated_sel0_at, gated_comp0_at, gated_win0_at, hs, hs, hw, hw, h.gate, h.gate, h.gate, across0]
  rw [soft_at _ (ws_nonneg _ _) _ _ (fun k => (R 0 r).vs k d) (fun k => h.one6 _ _) (fun k => h.vs0 _ _ _)]
  rw [soft_at _ (ww_nonneg _ _) _ _ (fun k => (R 0 r).vw k d) (fun k => h.one9 _ _) (fun k => h.vw0 _ _ _)]
  have hc := h.comp0 hl r d
  rw [across0] at hc
  rw [hc]
  rfl

/-- Group 1's output. -/
theorem out1_at {R : Fin 2 → Fin 256 → Row} (h : Reads i R x0 x1 x2 x3 x4 x5 x6 x7 x8 x9 x10 x11 x12) (w : BitVec 32)
    (hl : Fin 4) (r : Fin 256) (d : Fin 64) :
    (k0_pay1 (F := Ideal) (k0_pay1509 (F := Ideal) (k0_pay1487 x1) (k0_pay1489 i) (k0_pay1506 (k0_pay1486 x0) (iota .tc S256x128 32 [1] iota_S256x128_d1_w32) x2) x4 x11) (k0_pay1540 (F := Ideal) (k0_pay1487 x1) (k0_pay1538 (Q1 x0) (k0_pay1533 (Scalar.muli (BitVec.ofNat 32 (i 1).val) 256#32) (k0_pay1488 i)) (Named.named (F := Ideal) (φ := .f32) κ "neg" 0xF149F2CA#32) k0_pay1534 (window i arg10 harg10 x8)) (k0_pay1539 (window i arg12 harg12 x10)) (constant S1024x128 .f32 0x00000000#32)) (k0_pay1546 (k0_pay1487 x1) (selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).2) (k0_pay1547 (k0_pay1487 x1) (selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).2) (k0_pay1548 (k0_pay1487 x1) (selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).2) (k0_pay1549 (selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).2) (k0_pay1550 (k0_pay1487 x1)) (ix2 (rowIx hl r) (laneOf 1 d)) : EReal) = (R 1 r).out hl d := by
  have hs : ∀ l, ((selRun Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay1519 (F := Ideal) (Q0 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1504 (F := Ideal) (C0 i x0 x2 x3 x11) (k0_pay1497 (k0_pay1486 x0) (k0_pay1489 i) k0_pay1490 (k0_pay1491 x0) (k0_pay1492 x0) (k0_pay1493 x0) x2 x3 x11)))) (k0_pay1520 (F := Ideal) (Q1 x0) (maskBy (whichMask (Scalar.muli (BitVec.ofNat 32 (i 1).val) 256#32)) (Named.named (F := Ideal) (φ := .f32) κ "neg" 0xF149F2CA#32) (Scalar.muli (BitVec.ofNat 32 (i 1).val) 256#32) (k0_pay1513 (F := Ideal) (k0_pay1510 (k0_pay1489 i) (k0_pay1506 (k0_pay1486 x0) (iota .tc S256x128 32 [1] iota_S256x128_d1_w32) x2) x4 x11) (k0_pay1511 (k0_pay1489 i) (k0_pay1506 (k0_pay1486 x0) (iota .tc S256x128 32 [1] iota_S256x128_d1_w32) x2) x4 x11) (k0_pay1512 (k0_pay1489 i) (k0_pay1506 (k0_pay1486 x0) (iota .tc S256x128 32 [1] iota_S256x128_d1_w32) x2) x4 x11)))) w x5 x6 x7 x12).2 (ix2 (rowIx hl r) l) : EReal)
      = ∑ k, (((R 1 r).ws hl k : ℝ) : EReal) * x7 (ix3 0 k l) := fun l => by
    rw [sel1_at]
    exact Finset.sum_congr rfl fun k _ => h.term_at 1 (Q1 x0) h.isq1 _ _ (fun hl r l => rows1_left _ _ hl r l)
      (fun hl r y => rows1_right _ _ hl r y) (fun r j hj => h.mask 1 _ (fun j r => h.imp1 r j) r j hj) x7 hl r l k
  have hw : ∀ l, winSum hl r (Q1 x0) (k0_pay1533 (Scalar.muli (BitVec.ofNat 32 (i 1).val) 256#32) (k0_pay1488 i)) (Named.named (F := Ideal) (φ := .f32) κ "neg" 0xF149F2CA#32) k0_pay1534 (window i arg10 harg10 x8) (window i arg12 harg12 x10) l
      = ∑ k, (((R 1 r).ww hl k : ℝ) : EReal) * x10 (ix3 0 k l) := fun l =>
    h.win_sum 1 (Q1 x0) h.isq1 hl r _ _ x10 (fun y l => window_at i arg10 harg10 x8 y l) (fun y l => window_at i arg12 harg12 x10 y l) l
  rw [gated_sel1_at, gated_comp1_at, gated_win1_at, hs, hs, hw, hw, h.gate, h.gate, h.gate, across1]
  rw [soft_at _ (ws_nonneg _ _) _ _ (fun k => (R 1 r).vs k d) (fun k => h.one7 _ _) (fun k => h.vs1 _ _ _)]
  rw [soft_at _ (ww_nonneg _ _) _ _ (fun k => (R 1 r).vw k d) (fun k => h.one10 _ _) (fun k => h.vw1 _ _ _)]
  have hc := h.comp1 hl r d
  rw [across1] at hc
  rw [hc]
  rfl

/-- What the block of the output holds: 64 lanes for each head. -/
def blockOut (R : Fin 2 → Fin 256 → Row) (r : Fin 256) (n : Fin 512) : EReal :=
  (R ⟨n.val / 256, by omega⟩ r).out ⟨n.val / 64 % 4, by omega⟩ ⟨n.val % 64, by omega⟩

theorem blockOut_at (R : Fin 2 → Fin 256 → Row) (r : Fin 256) (n : Fin 512) (g : Fin 2) (hl : Fin 4) (d : Fin 64)
    (h : n.val = 64 * (4 * g.val + hl.val) + d.val) : blockOut R r n = (R g r).out hl d := by
  have hg : (⟨n.val / 256, by omega⟩ : Fin 2) = g := Fin.ext (by dsimp only; omega)
  have hh : (⟨n.val / 64 % 4, by omega⟩ : Fin 4) = hl := Fin.ext (by dsimp only; omega)
  have hd : (⟨n.val % 64, by omega⟩ : Fin 64) = d := Fin.ext (by dsimp only; omega)
  unfold blockOut; rw [hg, hh, hd]

/-- Two heads side by side in the 128 lanes. -/
theorem pair_at (R : Fin 2 → Fin 256 → Row) (g : Fin 2) (f : Fin 4 → Fin 128 → EReal) (r : Fin 256)
    (hf : ∀ hl d, f hl (laneOf g d) = (R g r).out hl d) (a b : Fin 4) (hab : b.val = a.val + 1) (l : Fin 128) (n : Fin 512)
    (hn : n.val = 64 * (4 * g.val + a.val) + l.val) :
    (if l.val < 64 then f a (if g = 0 then l else across l) else f b (if g = 0 then across l else l)) = blockOut R r n := by
  have hl := l.isLt
  have key : ∀ (hd : Fin 4) (l' : Fin 128) (d : Fin 64), l' = laneOf g d → n.val = 64 * (4 * g.val + hd.val) + d.val → f hd l' = blockOut R r n := by
    rintro hd l' d rfl hnd
    rw [hf, blockOut_at R r n g hd d hnd]
  have hg : g = 0 ∨ g = 1 := by have := g.isLt; rcases g with ⟨_ | _ | _, _⟩ <;> first | exact Or.inl rfl | exact Or.inr rfl | omega
  by_cases hlt : l.val < 64
  · rw [if_pos hlt]
    refine key a _ ⟨l.val, hlt⟩ ?_ (by dsimp only; omega)
    rcases hg with rfl | rfl
    · rw [if_pos rfl]; exact Fin.ext (by simp [laneOf])
    · rw [if_neg (by decide)]; exact Fin.ext (by simp [laneOf, across]; omega)
  · rw [if_neg hlt]
    refine key b _ ⟨l.val - 64, by omega⟩ ?_ (by dsimp only; omega)
    rcases hg with rfl | rfl
    · rw [if_pos rfl]; exact Fin.ext (by simp [laneOf, across]; omega)
    · rw [if_neg (by decide)]; exact Fin.ext (by simp [laneOf]; omega)

theorem pair0 (R : Fin 2 → Fin 256 → Row) (V : FVec Ideal S1024x128 .f32)
    (hf : ∀ hl r d, (V (ix2 (rowIx hl r) (laneOf 0 d)) : EReal) = (R 0 r).out hl d) (a b : Fin 4) (hab : b.val = a.val + 1)
    (r : Fin 256) (l : Fin 128) (r' : Fin 256) (n : Fin 512) (hr : r'.val = r.val) (hn : n.val = 64 * a.val + l.val) :
    (if l.val < 64 then (V (ix2 (rowIx a r) l) : EReal) else V (ix2 (rowIx b r) (across l))) = blockOut R r' n := by
  obtain rfl := Fin.ext hr
  exact pair_at R 0 (fun hl l => V (ix2 (rowIx hl r') l)) r' (fun hl d => hf hl r' d) a b hab l n (by rw [hn]; simp)
theorem pair1 (R : Fin 2 → Fin 256 → Row) (V : FVec Ideal S1024x128 .f32)
    (hf : ∀ hl r d, (V (ix2 (rowIx hl r) (laneOf 1 d)) : EReal) = (R 1 r).out hl d) (a b : Fin 4) (hab : b.val = a.val + 1)
    (r : Fin 256) (l : Fin 128) (r' : Fin 256) (n : Fin 512) (hr : r'.val = r.val) (hn : n.val = 256 + 64 * a.val + l.val) :
    (if l.val < 64 then (V (ix2 (rowIx a r) (across l)) : EReal) else V (ix2 (rowIx b r) l)) = blockOut R r' n := by
  obtain rfl := Fin.ext hr
  exact pair_at R 1 (fun hl l => V (ix2 (rowIx hl r') l)) r' (fun hl d => hf hl r' d) a b hab l n (by rw [hn]; simp; omega)

theorem idx_eq (x : S1x256x128.Idx) : x = ix3 0 (x 1) (x 2) := by
  funext a
  fin_cases a
  · exact Subsingleton.elim (α := Fin 1) _ _
  · rfl
  · rfl

/-- What the body leaves in the output's block. -/
theorem bodyOut_at {R : Fin 2 → Fin 256 → Row} (h : Reads i R x0 x1 x2 x3 x4 x5 x6 x7 x8 x9 x10 x11 x12) (y : S1x256x512.Idx) :
    (bodyOut (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 y : EReal) = blockOut R (y 1) (y 2) := by
  unfold bodyOut
  rw [View.read_writes_junk_apply_eq_canon]
  refine View.canon_apply_of_pieces (fun y => blockOut R (y 1) (y 2)) _ ?_ y (pieces_cover c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 y)
  intro p hp x
  obtain ⟨w, e22⟩ := r22_eq c i arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 x11 x12
  obtain ⟨w', e23⟩ := r23_eq c i arg2 harg2 arg3 harg3 arg4 harg4 arg5 harg5 arg6 harg6 arg7 harg7 arg8 harg8 arg9 harg9 arg10 harg10 arg11 harg11 arg12 harg12 arg13 harg13 arg14 harg14 arg15 harg15 x0 x2 x3 x4 x5 x6 x7 x11 x12
  have o0 := out0_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 h w
  have o1 := out1_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 h w'
  dsimp only [bodyRun] at hp
  unfold bodyRun.sl.r_29 bodyRun.sl.r_30 bodyRun.sl.r_31 bodyRun.sl.r_32 bodyRun.sl.r_33 bodyRun.sl.r_34 at hp
  simp only [e22, e23, r1_eq, r13_eq, r17_eq, r25_eq, r28_eq, List.mem_cons, List.not_mem_nil, or_false] at hp
  rcases hp with rfl | rfl | rfl | rfl
  · refine (congrArg _ (idx_eq x)).trans ?_
    refine (piece3_at _ _ _ _ _ _ _ (x 1) (x 2)).trans ?_
    exact pair1 R _ o1 2 3 rfl (x 1) (x 2) _ _ (by show 0 + 1 * (x 1).val = (x 1).val; omega) (by show 384 + 1 * (x 2).val = 256 + 64 * 2 + (x 2).val; omega)
  · refine (congrArg _ (idx_eq x)).trans ?_
    refine (piece2_at _ _ _ _ _ _ _ (x 1) (x 2)).trans ?_
    exact pair1 R _ o1 0 1 rfl (x 1) (x 2) _ _ (by show 0 + 1 * (x 1).val = (x 1).val; omega) (by show 256 + 1 * (x 2).val = 256 + 64 * 0 + (x 2).val; omega)
  · refine (congrArg _ (idx_eq x)).trans ?_
    refine (piece1_at _ _ (x 1) (x 2)).trans ?_
    exact pair0 R _ o0 2 3 rfl (x 1) (x 2) _ _ (by show 0 + 1 * (x 1).val = (x 1).val; omega) (by show 128 + 1 * (x 2).val = 64 * 2 + (x 2).val; omega)
  · refine (congrArg _ (idx_eq x)).trans ?_
    refine (piece0_at _ _ (x 1) (x 2)).trans ?_
    exact pair0 R _ o0 0 1 rfl (x 1) (x 2) _ _ (by show 0 + 1 * (x 1).val = (x 1).val; omega) (by show 0 + 1 * (x 2).val = 64 * 0 + (x 2).val; omega)

end Cert.KernelIdeal.Nsa
end
-- ==== Proof.ArraysIdeal.lean ====
/- What the kernel's launch leaves in the result array: block by block the body's output, which reads its blocks of the
   arrays laid out before it. -/
module

public import proofs.«01_k».proof.Proof.HostIdeal
public import proofs.«01_k».proof.Proof.OutputIdeal
public import proofs.«01_k».proof.Proof.Result
public import Idealize.ShloMosaic.Lib.Pipeline.Value

@[expose] public section

set_option maxRecDepth 16384

noncomputable section

namespace Cert.KernelIdeal.Nsa
open Cert.KernelIdeal Cert.KernelIdeal.Gen Cert.Nsa
open Idealize.ShloMosaic Idealize.ShloMosaic.TcCoe Idealize.ShloMosaic.Tactic

variable (m : (ℓ : Loc nD τ sig) → Buf (Elt Ideal) ℓ) (c : Dev nD)

/-- The arguments, read off the launched memory. -/
def inputs : Inputs where
  q b t h d := (m ((c : Thread nD τ).loc main_arg0) : FVec Ideal S8x4096x8x64 .f32) (ix4 b t h d)
  kc b k g d := (m ((c : Thread nD τ).loc main_arg1) : FVec Ideal S8x255x2x64 .f32) (ix4 b k g d)
  vc b k g d := (m ((c : Thread nD τ).loc main_arg2) : FVec Ideal S8x255x2x64 .f32) (ix4 b k g d)
  ks b k g d := (m ((c : Thread nD τ).loc main_arg3) : FVec Ideal S8x4096x2x64 .f32) (ix4 b k g d)
  vs b k g d := (m ((c : Thread nD τ).loc main_arg4) : FVec Ideal S8x4096x2x64 .f32) (ix4 b k g d)
  kw b k g d := (m ((c : Thread nD τ).loc main_arg5) : FVec Ideal S8x4096x2x64 .f32) (ix4 b k g d)
  vw b k g d := (m ((c : Thread nD τ).loc main_arg6) : FVec Ideal S8x4096x2x64 .f32) (ix4 b k g d)
  gate b t h e := (m ((c : Thread nD τ).loc main_arg7) : FVec Ideal S8x4096x8x3 .f32) (ix4 b t h e)

/-- The sequence and the position a grid point's row is of. -/
def seqOf (i : grid0.Coords) : Fin 8 := i 0
def place (i : grid0.Coords) (r : Fin 256) : Fin 4096 := ⟨256 * (i 1).val + r.val, by have := (i 1).isLt; change (i 1).val < 16 at this; omega⟩

theorem index0 : ∀ t : Fin grid0.N, win0_0.index t 0 = (grid0.coords t 0).val ∧ win0_0.index t 1 = (grid0.coords t 1).val ∧ win0_0.index t 2 = 0 := by
  decide +kernel
theorem index2 : ∀ t : Fin grid0.N, win0_2.index t 0 = (grid0.coords t 0).val ∧ win0_2.index t 1 = 0 ∧ win0_2.index t 2 = 0 := by
  decide +kernel
theorem index11 : ∀ t : Fin grid0.N, win0_11.index t 0 = 0 ∧ win0_11.index t 1 = 0 := by
  decide +kernel

theorem blk0 (t : Fin cfg0.N) (r : Fin 256) (n : Fin 512) :
    (iblk m c 0 t : Vec Ideal S1x256x512 .f32) (ix3 0 r n)
      = (V m c main_v35 : FVec Ideal S8x4096x512 .f32) (ix3 (seqOf (grid0.coords t)) (place (grid0.coords t) r) n) := by
  unfold iblk
  rw [View.read_apply]
  show (V m c main_v35 : FVec Ideal S8x4096x512 .f32) _ = _
  congr 1
  obtain ⟨h0, h1, h2⟩ := index0 t
  funext a
  apply Fin.ext
  match a with
  | ⟨0, _⟩ => show win0_0.index t 0 * 1 + 1 * 0 = (grid0.coords t 0).val; omega
  | ⟨1, _⟩ => show win0_0.index t 1 * 256 + 1 * r.val = 256 * (grid0.coords t 1).val + r.val; omega
  | ⟨2, _⟩ => show win0_0.index t 2 * 512 + 1 * n.val = n.val; omega

theorem blk1 (t : Fin cfg0.N) (r : Fin 256) (n : Fin 128) :
    (iblk m c 1 t : Vec Ideal S1x256x128 .f32) (ix3 0 r n)
      = (V m c main_v1 : FVec Ideal S8x4096x128 .f32) (ix3 (seqOf (grid0.coords t)) (place (grid0.coords t) r) n) := by
  unfold iblk
  rw [View.read_apply]
  show (V m c main_v1 : FVec Ideal S8x4096x128 .f32) _ = _
  congr 1
  obtain ⟨h0, h1, h2⟩ := index0 t
  funext a
  apply Fin.ext
  match a with
  | ⟨0, _⟩ => show win0_0.index t 0 * 1 + 1 * 0 = (grid0.coords t 0).val; omega
  | ⟨1, _⟩ => show win0_0.index t 1 * 256 + 1 * r.val = 256 * (grid0.coords t 1).val + r.val; omega
  | ⟨2, _⟩ => show win0_0.index t 2 * 128 + 1 * n.val = n.val; omega

theorem blk11 (t : Fin cfg0.N) (k : Fin 256) (n : Fin 128) :
    (iblk m c 11 t : Vec Ideal S256x128 .bf16) (ix2 k n) = (V m c main_v33 : FVec Ideal S256x128 .bf16) (ix2 k n) := by
  unfold iblk
  rw [View.read_apply]
  show (V m c main_v33 : FVec Ideal S256x128 .bf16) _ = _
  congr 1
  obtain ⟨h0, h1⟩ := index11 t
  funext a
  apply Fin.ext
  match a with
  | ⟨0, _⟩ => show win0_11.index t 0 * 256 + 1 * k.val = k.val; omega
  | ⟨1, _⟩ => show win0_11.index t 1 * 128 + 1 * n.val = n.val; omega

theorem blk12 (t : Fin cfg0.N) (k : Fin 4096) (n : Fin 128) :
    (iblk m c 12 t : Vec Ideal S4096x128 .bf16) (ix2 k n) = (V m c main_v34 : FVec Ideal S4096x128 .bf16) (ix2 k n) := by
  unfold iblk
  rw [View.read_apply]
  show (V m c main_v34 : FVec Ideal S4096x128 .bf16) _ = _
  congr 1
  obtain ⟨h0, h1⟩ := index11 t
  funext a
  apply Fin.ext
  match a with
  | ⟨0, _⟩ => show win0_11.index t 0 * 4096 + 1 * k.val = k.val; omega
  | ⟨1, _⟩ => show win0_11.index t 1 * 128 + 1 * n.val = n.val; omega

/-- Where a block of one sequence's rows lies in an array of all of them. -/
theorem cell_rows (t : Fin cfg0.N) {T : Type} (f : (⟨3, ![8, 256, 128]⟩ : Shape).Idx → T) (j : (⟨3, ![8, 256, 128]⟩ : Shape).Idx)
    (k : Fin 256) (n : Fin 128) (h0 : (j 0).val = win0_2.index t 0 * 1 + 1 * 0) (h1 : (j 1).val = win0_2.index t 1 * 256 + 1 * k.val)
    (h2 : (j 2).val = win0_2.index t 2 * 128 + 1 * n.val) : f j = f (ix3 (seqOf (grid0.coords t)) k n) := by
  congr 1
  obtain ⟨e0, e1, e2⟩ := index2 t
  funext a
  apply Fin.ext
  match a with
  | ⟨0, _⟩ => rw [show (j ⟨0, _⟩).val = _ from h0]; show _ = (grid0.coords t 0).val; omega
  | ⟨1, _⟩ => rw [show (j ⟨1, _⟩).val = _ from h1]; show _ = k.val; omega
  | ⟨2, _⟩ => rw [show (j ⟨2, _⟩).val = _ from h2]; show _ = n.val; omega

theorem cell_keys (t : Fin cfg0.N) {T : Type} (f : (⟨3, ![8, 4096, 128]⟩ : Shape).Idx → T) (j : (⟨3, ![8, 4096, 128]⟩ : Shape).Idx)
    (k : Fin 4096) (n : Fin 128) (h0 : (j 0).val = win0_2.index t 0 * 1 + 1 * 0) (h1 : (j 1).val = win0_2.index t 1 * 4096 + 1 * k.val)
    (h2 : (j 2).val = win0_2.index t 2 * 128 + 1 * n.val) : f j = f (ix3 (seqOf (grid0.coords t)) k n) := by
  congr 1
  obtain ⟨e0, e1, e2⟩ := index2 t
  funext a
  apply Fin.ext
  match a with
  | ⟨0, _⟩ => rw [show (j ⟨0, _⟩).val = _ from h0]; show _ = (grid0.coords t 0).val; omega
  | ⟨1, _⟩ => rw [show (j ⟨1, _⟩).val = _ from h1]; show _ = k.val; omega
  | ⟨2, _⟩ => rw [show (j ⟨2, _⟩).val = _ from h2]; show _ = n.val; omega

theorem blk2 (t : Fin cfg0.N) (k : Fin 256) (n : Fin 128) :
    (iblk m c 2 t : Vec Ideal S1x256x128 .bf16) (ix3 0 k n) = (V m c main_v36 : FVec Ideal S8x256x128 .bf16) (ix3 (seqOf (grid0.coords t)) k n) := by
  unfold iblk; rw [View.read_apply]
  exact cell_rows t (V m c main_v36 : FVec Ideal S8x256x128 .bf16) _ k n rfl rfl rfl
theorem blk3 (t : Fin cfg0.N) (k : Fin 256) (n : Fin 128) :
    (iblk m c 3 t : Vec Ideal S1x256x128 .bf16) (ix3 0 k n) = (V m c main_v41 : FVec Ideal S8x256x128 .bf16) (ix3 (seqOf (grid0.coords t)) k n) := by
  unfold iblk; rw [View.read_apply]
  exact cell_rows t (V m c main_v41 : FVec Ideal S8x256x128 .bf16) _ k n rfl rfl rfl
theorem blk4 (t : Fin cfg0.N) (k : Fin 256) (n : Fin 128) :
    (iblk m c 4 t : Vec Ideal S1x256x128 .bf16) (ix3 0 k n) = (V m c main_v46 : FVec Ideal S8x256x128 .bf16) (ix3 (seqOf (grid0.coords t)) k n) := by
  unfold iblk; rw [View.read_apply]
  exact cell_rows t (V m c main_v46 : FVec Ideal S8x256x128 .bf16) _ k n rfl rfl rfl
theorem blk5 (t : Fin cfg0.N) (k : Fin 4096) (n : Fin 128) :
    (iblk m c 5 t : Vec Ideal S1x4096x128 .bf16) (ix3 0 k n) = (V m c main_v48 : FVec Ideal S8x4096x128 .bf16) (ix3 (seqOf (grid0.coords t)) k n) := by
  unfold iblk; rw [View.read_apply]
  exact cell_keys t (V m c main_v48 : FVec Ideal S8x4096x128 .bf16) _ k n rfl rfl rfl
theorem blk6 (t : Fin cfg0.N) (k : Fin 4096) (n : Fin 128) :
    (iblk m c 6 t : Vec Ideal S1x4096x128 .bf16) (ix3 0 k n) = (V m c main_v53 : FVec Ideal S8x4096x128 .bf16) (ix3 (seqOf (grid0.coords t)) k n) := by
  unfold iblk; rw [View.read_apply]
  exact cell_keys t (V m c main_v53 : FVec Ideal S8x4096x128 .bf16) _ k n rfl rfl rfl
theorem blk7 (t : Fin cfg0.N) (k : Fin 4096) (n : Fin 128) :
    (iblk m c 7 t : Vec Ideal S1x4096x128 .bf16) (ix3 0 k n) = (V m c main_v58 : FVec Ideal S8x4096x128 .bf16) (ix3 (seqOf (grid0.coords t)) k n) := by
  unfold iblk; rw [View.read_apply]
  exact cell_keys t (V m c main_v58 : FVec Ideal S8x4096x128 .bf16) _ k n rfl rfl rfl
theorem blk8 (t : Fin cfg0.N) (k : Fin 4096) (n : Fin 128) :
    (iblk m c 8 t : Vec Ideal S1x4096x128 .bf16) (ix3 0 k n) = (V m c main_v60 : FVec Ideal S8x4096x128 .bf16) (ix3 (seqOf (grid0.coords t)) k n) := by
  unfold iblk; rw [View.read_apply]
  exact cell_keys t (V m c main_v60 : FVec Ideal S8x4096x128 .bf16) _ k n rfl rfl rfl
theorem blk9 (t : Fin cfg0.N) (k : Fin 4096) (n : Fin 128) :
    (iblk m c 9 t : Vec Ideal S1x4096x128 .bf16) (ix3 0 k n) = (V m c main_v65 : FVec Ideal S8x4096x128 .bf16) (ix3 (seqOf (grid0.coords t)) k n) := by
  unfold iblk; rw [View.read_apply]
  exact cell_keys t (V m c main_v65 : FVec Ideal S8x4096x128 .bf16) _ k n rfl rfl rfl
theorem blk10 (t : Fin cfg0.N) (k : Fin 4096) (n : Fin 128) :
    (iblk m c 10 t : Vec Ideal S1x4096x128 .bf16) (ix3 0 k n) = (V m c main_v70 : FVec Ideal S8x4096x128 .bf16) (ix3 (seqOf (grid0.coords t)) k n) := by
  unfold iblk; rw [View.read_apply]
  exact cell_keys t (V m c main_v70 : FVec Ideal S8x4096x128 .bf16) _ k n rfl rfl rfl

end Cert.KernelIdeal.Nsa
end
end
-- ==== Proof.ResultIdeal.lean ====
/- The kernel's result: every row of the result array is the attention of its position. -/
module

public import proofs.«01_k».proof.Proof.ArraysIdeal

@[expose] public section

set_option maxRecDepth 16384

noncomputable section

namespace Cert.KernelIdeal.Nsa
open Cert.KernelIdeal Cert.KernelIdeal.Gen Cert.Nsa
open Idealize.ShloMosaic Idealize.ShloMosaic.TcCoe Idealize.ShloMosaic.Tactic Idealize.SL.Sem

theorem lane_div (g : Fin 2) (d : Fin 64) (h : (laneOf g d).val / 64 < 2) : (⟨(laneOf g d).val / 64, h⟩ : Fin 2) = g :=
  Fin.ext (by simp only [laneOf]; omega)
theorem lane_mod (g : Fin 2) (d : Fin 64) (h : (laneOf g d).val % 64 < 64) : (⟨(laneOf g d).val % 64, h⟩ : Fin 64) = d :=
  Fin.ext (by simp only [laneOf]; omega)
theorem lane_lt (d : Fin 64) : (laneOf 0 d).val < 64 := by simp [laneOf]
theorem lane_ge (d : Fin 64) : ¬ (laneOf 1 d).val < 64 := by simp [laneOf]

theorem keys_lane (a : FVec Ideal S8x4096x2x64 .f32) (b : Fin 8) (k : Fin 4096) (g : Fin 2) (d : Fin 64) :
    keysOf a (ix3 b k (laneOf g d)) = a (ix4 b k g d) := by
  rw [at_keys, lane_div, lane_mod]
theorem rows_lane (a : FVec Ideal S8x255x2x64 .f32) (b : Fin 8) (k : Fin 255) (g : Fin 2) (d : Fin 64) :
    rowsOf a (ix3 b k.castSucc (laneOf g d)) = a (ix4 b k g d) := by
  rw [at_rows _ _ _ _ k.isLt, lane_div, lane_mod]
  rfl

theorem head_div (g : Fin 2) (hl : Fin 4) (d : Fin 64) (h : 64 * (4 * g.val + hl.val) + d.val < 512) (h' : (⟨_, h⟩ : Fin 512).val / 64 < 8) :
    (⟨(⟨_, h⟩ : Fin 512).val / 64, h'⟩ : Fin 8) = Inputs.headOf g hl :=
  Fin.ext (by simp only [Inputs.headOf]; omega)
theorem head_mod (g : Fin 2) (hl : Fin 4) (d : Fin 64) (h : 64 * (4 * g.val + hl.val) + d.val < 512) (h' : (⟨_, h⟩ : Fin 512).val % 64 < 64) :
    (⟨(⟨_, h⟩ : Fin 512).val % 64, h'⟩ : Fin 64) = d :=
  Fin.ext (by dsimp only; omega)

variable (m : (ℓ : Loc nD τ sig) → Buf (Elt Ideal) ℓ) (ρ : Dev nD → PrngReg) (c : Dev nD)

/-- What the rows of a grid point read. -/
def rowsAt (t : Fin cfg0.N) (g : Fin 2) (r : Fin 256) : Row :=
  (inputs m c).row (seqOf (grid0.coords t)) (place (grid0.coords t) r) g

theorem reads (hf : (inputs m c).Finite) (t : Fin cfg0.N) :
    Reads (grid0.coords t) (rowsAt m c t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t) where
  t g r := rfl
  q g r hl d := by
    rw [blk0, V_queries, at_queries]
    rw [head_div, head_mod]
    rfl
  gate g r hl e := by
    rw [blk1, V_gates, at_gates _ _ _ _ (by simp only [gateIx]; omega)]
    rw [show ∀ h, (⟨(gateIx g hl e).val / 3, h⟩ : Fin 8) = Inputs.headOf g hl from
        fun _ => Fin.ext (by simp only [Inputs.headOf, gateIx]; omega),
      show ∀ h, (⟨(gateIx g hl e).val % 3, h⟩ : Fin 3) = e from
        fun _ => Fin.ext (by simp only [gateIx]; omega)]
    rfl
  kc g r k d := by rw [blk2, V_kc]; exact rows_lane _ _ k g d
  pad l := by rw [blk2, V_kc]; exact at_pad _ _ _ l (by simp [Fin.last])
  vc0 r k d := by rw [blk3, V_vc0, at_v0C, if_pos (lane_lt d)]; exact rows_lane _ _ k 0 d
  vc1 r k d := by rw [blk4, V_vc1, at_v1C, if_neg (lane_ge d)]; exact rows_lane _ _ k 1 d
  one3 k d := by rw [blk3, V_vc0, at_v0C, if_neg (lane_ge d)]
  one4 k d := by rw [blk4, V_vc1, at_v1C, if_pos (lane_lt d)]
  ks g r k d := by rw [blk5, V_ks]; exact keys_lane _ _ k g d
  vs0 r k d := by rw [blk6, V_vs0, at_v0S, if_pos (lane_lt d)]; exact keys_lane _ _ k 0 d
  vs1 r k d := by rw [blk7, V_vs1, at_v1S, if_neg (lane_ge d)]; exact keys_lane _ _ k 1 d
  one6 k d := by rw [blk6, V_vs0, at_v0S, if_neg (lane_ge d)]
  one7 k d := by rw [blk7, V_vs1, at_v1S, if_pos (lane_lt d)]
  kw g r k d := by rw [blk8, V_kw]; exact keys_lane _ _ k g d
  vw0 r k d := by rw [blk9, V_vw0, at_v0S, if_pos (lane_lt d)]; exact keys_lane _ _ k 0 d
  vw1 r k d := by rw [blk10, V_vw1, at_v1S, if_neg (lane_ge d)]; exact keys_lane _ _ k 1 d
  one9 k d := by rw [blk9, V_vw0, at_v0S, if_neg (lane_ge d)]
  one10 k d := by rw [blk10, V_vw1, at_v1S, if_pos (lane_lt d)]
  ov k j := by rw [blk11, V_ov]; exact (at_overlaps k.castSucc (laneOf 0 j) k.isLt (lane_lt j)).trans (if_congr (by simp [laneOf]) rfl rfl)
  hot k y := by rw [blk12, V_hot]; exact at_inBlock k y
  realq g r hl d := hf.q _ _ _ _
  realkc g r k d := hf.kc _ _ _ _
  realks g r k d := hf.ks _ _ _ _
  realkw g r k d := hf.kw _ _ _ _

/-- The attention's result as the result array's contents. -/
def resultArray : FVec Ideal S8x4096x512 .bf16 := fun y => (inputs m c).result (y 0) (y 1) (y 2)

theorem index13 : ∀ t : Fin grid0.N, win0_13.index t 0 = (grid0.coords t 0).val ∧ win0_13.index t 1 = (grid0.coords t 1).val ∧ win0_13.index t 2 = 0 := by
  decide +kernel

/-- Where an element of a grid point's block lies in the result array. -/
theorem cell13 (t : Fin cfg0.N) (y : S1x256x512.Idx) :
    (((cfg0.win 13).blk t).view.emb y : S8x4096x512.Idx) = ix3 (seqOf (grid0.coords t)) (place (grid0.coords t) (y 1)) (y 2) := by
  obtain ⟨h0, h1, h2⟩ := index13 t
  have hy : (y 0).val = 0 := by have := (y 0).isLt; change (y 0).val < 1 at this; omega
  funext a
  apply Fin.ext
  match a with
  | ⟨0, _⟩ => show win0_13.index t 0 * 1 + 1 * (y 0).val = (grid0.coords t 0).val; omega
  | ⟨1, _⟩ => show win0_13.index t 1 * 256 + 1 * (y 1).val = 256 * (grid0.coords t 1).val + (y 1).val; omega
  | ⟨2, _⟩ => show win0_13.index t 2 * 512 + 1 * (y 2).val = (y 2).val; omega

theorem flushed_at (hf : (inputs m c).Finite) (t : Fin cfg0.N) :
    (dats m 0 c).flushed 13 t = ((cfg0.win 13).blk t).view.read (Elt Ideal) (resultArray m c) := by
  show (cfg0.win 13).cut (grid0.coords t) ((dats m 0 c).after 13 t) = _
  rw [left13]
  funext y
  rw [View.read_apply]
  show (outAt m c t y : EReal) = resultArray m c (((cfg0.win 13).blk t).view.emb y)
  rw [cell13 t y]
  exact bodyOut_at _ _ _ _ _ _ _ _ _ _ _ _ _ _ _ _ _ _ _ _ _ _ _ _ _ _ _ _ _ _ _ _ _ _ _ _ _ _ _ _ _ _ _ (reads m c hf t) y

theorem coords_at : ∀ (b : Fin 8) (j : Fin 16), (grid0.coords (⟨16 * b.val + j.val, by show _ < 128; omega⟩ : Fin grid0.N) 0).val = b.val
    ∧ (grid0.coords (⟨16 * b.val + j.val, by show _ < 128; omega⟩ : Fin grid0.N) 1).val = j.val := by
  decide +kernel

/-- Every element of the result array is in the block of some grid point. -/
theorem covered (y : S8x4096x512.Idx) : ∃ t : Fin cfg0.N, (cfg0.win 13).flush t = true ∧ y ∈ ((cfg0.win 13).blk t).view.set := by
  have hy0 : (y 0).val < 8 := (y 0).isLt
  have hy1 : (y 1).val < 4096 := (y 1).isLt
  obtain ⟨h0, h1⟩ := coords_at ⟨(y 0).val, hy0⟩ ⟨(y 1).val / 256, by omega⟩
  refine ⟨⟨16 * (y 0).val + (y 1).val / 256, by show _ < 128; omega⟩, flush0_13 _, ?_⟩
  refine Finset.mem_map.mpr ⟨(ix3 0 ⟨(y 1).val % 256, by omega⟩ (y 2) : S1x256x512.Idx), Finset.mem_univ _, ?_⟩
  refine (cell13 _ _).trans ?_
  funext a
  apply Fin.ext
  match a with
  | ⟨0, _⟩ => exact h0
  | ⟨1, _⟩ => show 256 * _ + (y 1).val % 256 = (y 1).val; rw [h1]; dsimp only; omega
  | ⟨2, _⟩ => rfl

theorem array_at (hf : (inputs m c).Finite) : (dats m 0 c).arrAt 13 cfg0.N = resultArray m c :=
  (dats m 0 c).arrAt_eq_of_cover 13 (resultArray m c) (fun t _ => flushed_at m c hf t) covered

/-- From any memory whose queries and keys are finite, the kernel's program ends with the attention in its result. -/
theorem kernel_run (hf : ∀ c, (inputs m c).Finite) :
    θ_run defs (onTc (τ := τ) (main (F := Ideal))) ⟨m, fun _ => 0, ρ⟩ fun r => ∀ c : Dev nD,
      r.2.mem ((c : Thread nD τ).loc main_v71) = resultArray m c :=
  (θ_run defs _ _).mono (fun r h c => ((h.1 c).1 13).trans (array_at m c (hf c))) (runs m ρ)

end Cert.KernelIdeal.Nsa
end
end
-- ==== Proof.Finite.lean ====
/- The certificate's precondition says that queries and keys are finite. -/
module

public import proofs.«01_k».proof.Defs
public import proofs.«01_k».proof.Proof.ResultIdeal
public import Idealize.ShloMosaic.Lib.Pointwise

@[expose] public section

set_option maxRecDepth 16384

noncomputable section

namespace Cert.Nsa

open Idealize.ShloMosaic Idealize.ShloMosaic.Tactic

instance preFacts : Cert.Pre_finite.Facts where
  bcast_S_S8x4096x8x64 := by decide
  bcast_S_S8x255x2x64 := by decide
  bcast_S_S8x4096x2x64 := by decide

theorem pos_inf : Ideal.ofBits .f32 0x7F800000#32 = ⊤ := by
  simp [Ideal.ofBits, Ideal.ieee]

/-- A value whose absolute value is below infinity. -/
theorem isReal_of_lt {s t : Shape} {dims : Fin t.rank → Fin s.rank} (h : t.BroadcastsInDim s dims) (X : FVec Ideal s .f32)
    (hX : cmpf .olt (Host.absf X) (broadcastInDim s dims h (constant t .f32 0x7F800000#32)) = fun _ => 1#1) (i : s.Idx) :
    IsReal (X i : EReal) := by
  have := congrFun hX i
  have e : BitVec.ofBool (decide (max (X i : EReal) (-(X i : EReal)) < Ideal.ofBits .f32 0x7F800000#32)) = 1#1 := this
  rw [pos_inf] at e
  have hlt : max (X i : EReal) (-(X i : EReal)) < ⊤ := by
    by_contra hn
    rw [decide_eq_false hn] at e
    exact absurd e (by decide)
  refine ⟨fun h' => ?_, fun h' => ?_⟩
  · rw [h'] at hlt
    exact absurd hlt (by simp)
  · rw [h'] at hlt
    exact absurd hlt (by simp)

theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : (Cert.KernelIdeal.Nsa.inputs m c).Finite where
  q b t h' d := isReal_of_lt _ _ (h c).1 (ix4 b t h' d)
  kc b k g d := isReal_of_lt _ _ (h c).2.1 (ix4 b k g d)
  ks b k g d := isReal_of_lt _ _ (h c).2.2.1 (ix4 b k g d)
  kw b k g d := isReal_of_lt _ _ (h c).2.2.2 (ix4 b k g d)

end Cert.Nsa
end
end
-- ==== Proof.FfnSpec.lean ====
/- The gated merge and the feed-forward part of the block, over the extended reals: the weights, what one position holds,
   and the result of a position from its own row and the pre-activations of the two positions before it. -/
module

public import proofs.«01_k».proof.Proof.Spec
public import Idealize.ShloMosaic.PureOps.Ideal

@[expose] public section

noncomputable section

namespace Cert.Ffn

open Idealize.ShloMosaic

/-- The weights: of the two merged branches, of the output, the norm's gain, the feed-forward's, its convolution's and bias. -/
structure Weights where
  wa : Fin 512 → Fin 1024 → EReal
  wb : Fin 512 → Fin 1024 → EReal
  wo : Fin 1024 → Fin 1024 → EReal
  gain : Fin 1024 → EReal
  win : Fin 1024 → Fin 5632 → EReal
  cw : Fin 3 → Fin 2816 → EReal
  cb : Fin 2816 → EReal
  wout : Fin 2816 → Fin 1024 → EReal

/-- What a position holds: its residual, the two branches' outputs and the merge's gates. -/
structure Row where
  x : Fin 1024 → EReal
  ya : Fin 512 → EReal
  yb : Fin 512 → EReal
  gm : Fin 2048 → EReal

variable (W : Weights) (R : Row)

/-- The gated merge of the two branches. -/
def mixed (j : Fin 1024) : EReal :=
  R.gm ⟨j.val, by omega⟩ * ∑ k, R.ya k * W.wa k j + R.gm ⟨1024 + j.val, by omega⟩ * ∑ k, R.yb k * W.wb k j

/-- The residual after the merge's projection. -/
def mid (j : Fin 1024) : EReal := R.x j + ∑ k, mixed W R k * W.wo k j

/-- The residual over its root mean square, times the gain. -/
def hid (j : Fin 1024) : EReal :=
  mid W R j * Ideal.rsqrt (Ideal.div (∑ k, mid W R k * mid W R k) (Ideal.ofBits FTy.f32 1149239296#32)
    + Ideal.ofBits FTy.f32 897988541#32) * W.gain j

/-- The feed-forward's input projection. -/
def pre (n : Fin 5632) : EReal := ∑ k, hid W R k * W.win k n

/-- The activation from the three taps of the convolution, its bias, the three positions' values and the other half's. -/
def act (a0 a1 a2 b p2 p1 p0 u : EReal) : EReal :=
  (a0 * p2 + a1 * p1 + a2 * p0 + b) * Ideal.logistic (a0 * p2 + a1 * p1 + a2 * p0 + b) * u

/-- The gate's column and the other half's column of the input projection. -/
def gateCol (n : Fin 2816) : Fin 5632 := ⟨n.val, by omega⟩
def upCol (n : Fin 2816) : Fin 5632 := ⟨2816 + n.val, by omega⟩

/-- What a position's activation holds in one column. -/
def actAt (p2 p1 : Fin 2816 → EReal) (n : Fin 2816) : EReal :=
  act (W.cw 0 n) (W.cw 1 n) (W.cw 2 n) (W.cb n) (p2 n) (p1 n) (pre W R (gateCol n)) (pre W R (upCol n))

/-- The block's output at a position. -/
def out (p2 p1 : Fin 2816 → EReal) (j : Fin 1024) : EReal :=
  mid W R j + ∑ n, actAt W R p2 p1 n * W.wout n j

/-- A sum over the 2816 columns by the four chunks that tile them. -/
theorem sum_chunks (f : Fin 2816 → EReal) :
    ∑ n, f n = (∑ n : Fin 1024, f ⟨n.val, by omega⟩ + ∑ n : Fin 1024, f ⟨1024 + n.val, by omega⟩
      + ∑ n : Fin 512, f ⟨2048 + n.val, by omega⟩) + ∑ n : Fin 256, f ⟨2560 + n.val, by omega⟩ := by
  rw [Fin.sum_univ_add (a := 2560) (b := 256) f, Fin.sum_univ_add (a := 2048) (b := 512) fun n => f (Fin.castAdd 256 n),
    Fin.sum_univ_add (a := 1024) (b := 1024) fun n => f (Fin.castAdd 256 (Fin.castAdd 512 n))]
  rfl

/-- The inputs of the whole part: the weights and every position's row. -/
structure Inputs where
  weights : Weights
  row : Fin 8 → Fin 4096 → Row

/-- The inputs as twelve arrays hold them. -/
def Inputs.of (a0 : (⟨3, ![8, 4096, 1024]⟩ : Shape).Idx → EReal) (a1 a2 : (⟨3, ![8, 4096, 512]⟩ : Shape).Idx → EReal)
    (a3 : (⟨3, ![8, 4096, 2048]⟩ : Shape).Idx → EReal) (a4 a5 : (⟨2, ![512, 1024]⟩ : Shape).Idx → EReal)
    (a6 : (⟨2, ![1024, 1024]⟩ : Shape).Idx → EReal) (a7 : (⟨1, ![1024]⟩ : Shape).Idx → EReal)
    (a8 : (⟨2, ![1024, 5632]⟩ : Shape).Idx → EReal) (a9 : (⟨2, ![3, 2816]⟩ : Shape).Idx → EReal)
    (a10 : (⟨1, ![2816]⟩ : Shape).Idx → EReal) (a11 : (⟨2, ![2816, 1024]⟩ : Shape).Idx → EReal) : Inputs where
  weights :=
    { wa := fun k j => a4 (ix2 k j)
      wb := fun k j => a5 (ix2 k j)
      wo := fun k j => a6 (ix2 k j)
      gain := fun j => a7 (ix1 j)
      win := fun k n => a8 (ix2 k n)
      cw := fun k n => a9 (ix2 k n)
      cb := fun n => a10 (ix1 n)
      wout := fun n j => a11 (ix2 n j) }
  row b t :=
    { x := fun j => a0 (ix3 b t j)
      ya := fun k => a1 (ix3 b t k)
      yb := fun k => a2 (ix3 b t k)
      gm := fun k => a3 (ix3 b t k) }

/-- The sequence and the position of a row of the flattened arrays. -/
def seqOf (P : Fin 32768) : Fin 8 := ⟨P.val / 4096, by omega⟩
def posOf (P : Fin 32768) : Fin 4096 := ⟨P.val % 4096, by omega⟩

/-- The gate's pre-activation `k` positions before `t`, zero before the sequence begins. -/
def Inputs.back (I : Inputs) (b : Fin 8) (t : Fin 4096) (k : ℕ) (n : Fin 2816) : EReal :=
  if k ≤ t.val then pre I.weights (I.row b ⟨t.val - k, by omega⟩) (gateCol n) else 0

/-- The result at a position. -/
def Inputs.result (I : Inputs) (b : Fin 8) (t : Fin 4096) (j : Fin 1024) : EReal :=
  out I.weights (I.row b t) (I.back b t 2) (I.back b t 1) j

end Cert.Ffn

end
-- ==== Proof.FfnPay.lean ====
/- What one grid step of the merge and feed-forward call computes from what it loads, read at an index. -/
module

public import proofs.«01_k».proof.Proof.FfnSpec
public import proofs.«01_k».proof.Proof.Gen.Kernel2Ideal.Skeleton
public import Idealize.ShloMosaic.Lib.Pointwise

@[expose] public section

set_option maxRecDepth 16384

noncomputable section

namespace Cert.Kernel2Ideal.Ffn

open Cert.Kernel2Ideal Cert.Kernel2Ideal.Gen Cert.Ffn
open Idealize.ShloMosaic

theorem pay4_eq (x : Vec Ideal S512x1024 .f32) (r : Fin 512) (j : Fin 1024) :
    (k0_pay4 x (ix2 r j) : EReal) = x (ix2 r j) := by
  pointwise [k0_pay4]

theorem pay5_eq (v13 : Vec Ideal S512x2048 .bf16) (v17 : Vec Ideal S512x512 .bf16) (v19 : Vec Ideal S512x1024 .bf16)
    (v24 : Vec Ideal S512x512 .bf16) (v26 : Vec Ideal S512x1024 .bf16) (r : Fin 512) (j : Fin 1024) :
    (k0_pay5 v13 v17 v19 v24 v26 (ix2 r j) : EReal)
      = v13 (ix2 r ⟨j.val, by omega⟩) * ∑ x, v17 (ix2 r x) * v19 (ix2 x j)
        + v13 (ix2 r ⟨1024 + j.val, by omega⟩) * ∑ x, v24 (ix2 r x) * v26 (ix2 x j) := by
  pointwise [k0_pay5]

theorem pay6_eq (v32 : FVec Ideal S512x1024 .f32) (v33 : FVec Ideal S512x1024 .bf16) (v34 : Vec Ideal S1024x1024 .bf16)
    (r : Fin 512) (j : Fin 1024) :
    (k0_pay6 v32 v33 v34 (ix2 r j) : EReal) = v32 (ix2 r j) + ∑ x, v33 (ix2 r x) * v34 (ix2 x j) := by
  pointwise [k0_pay6]

theorem pay7_eq (v32 : FVec Ideal S512x1024 .f32) (v33 : FVec Ideal S512x1024 .bf16) (v34 : Vec Ideal S1024x1024 .bf16)
    (v48 : Vec Ideal S1x1024 .f32) (r : Fin 512) (j : Fin 1024) :
    (k0_pay7 v32 v33 v34 v48 (ix2 r j) : EReal)
      = k0_pay6 v32 v33 v34 (ix2 r j) * Ideal.rsqrt (Ideal.div (∑ k, k0_pay6 v32 v33 v34 (ix2 r k) * k0_pay6 v32 v33 v34 (ix2 r k))
          (Ideal.ofBits FTy.f32 1149239296#32) + Ideal.ofBits FTy.f32 897988541#32) * v48 (ix2 0 j) := by
  pointwise [k0_pay7]

section
variable (v32 : FVec Ideal S512x1024 .f32) (v33 : FVec Ideal S512x1024 .bf16) (v34 : Vec Ideal S1024x1024 .bf16)
  (v48 : Vec Ideal S1x1024 .f32) (w : Vec Ideal S1024x1024 .bf16) (r : Fin 512) (n : Fin 1024)

theorem pay9_eq : (k0_pay9 v32 v33 v34 v48 w (ix2 r n) : EReal) = ∑ x, k0_pay7 v32 v33 v34 v48 (ix2 r x) * w (ix2 x n) := by
  pointwise [k0_pay9]
theorem pay10_eq : (k0_pay10 v32 v33 v34 v48 w (ix2 r n) : EReal) = ∑ x, k0_pay7 v32 v33 v34 v48 (ix2 r x) * w (ix2 x n) := by
  pointwise [k0_pay10]
theorem pay11_eq : (k0_pay11 v32 v33 v34 v48 w (ix2 r n) : EReal) = ∑ x, k0_pay7 v32 v33 v34 v48 (ix2 r x) * w (ix2 x n) := by
  pointwise [k0_pay11]
theorem pay12_eq : (k0_pay12 v32 v33 v34 v48 w (ix2 r n) : EReal) = ∑ x, k0_pay7 v32 v33 v34 v48 (ix2 r x) * w (ix2 x n) := by
  pointwise [k0_pay12]
theorem pay13_eq : (k0_pay13 v32 v33 v34 v48 w (ix2 r n) : EReal) = ∑ x, k0_pay7 v32 v33 v34 v48 (ix2 r x) * w (ix2 x n) := by
  pointwise [k0_pay13, k0_pay9]
end

theorem pay16_eq (h : FVec Ideal S512x1024 .bf16) (w : Vec Ideal S1024x512 .bf16) (r : Fin 512) (n : Fin 512) :
    (k0_pay16 h w (ix2 r n) : EReal) = ∑ x, h (ix2 r x) * w (ix2 x n) := by
  pointwise [k0_pay16]
theorem pay17_eq (h : FVec Ideal S512x1024 .bf16) (w : Vec Ideal S1024x512 .bf16) (r : Fin 512) (n : Fin 512) :
    (k0_pay17 h w (ix2 r n) : EReal) = ∑ x, h (ix2 r x) * w (ix2 x n) := by
  pointwise [k0_pay17]
theorem pay21_eq (h : FVec Ideal S512x1024 .bf16) (w : Vec Ideal S1024x256 .bf16) (r : Fin 512) (n : Fin 256) :
    (k0_pay21 h w (ix2 r n) : EReal) = ∑ x, h (ix2 r x) * w (ix2 x n) := by
  pointwise [k0_pay21]
theorem pay22_eq (h : FVec Ideal S512x1024 .bf16) (w : Vec Ideal S1024x256 .bf16) (r : Fin 512) (n : Fin 256) :
    (k0_pay22 h w (ix2 r n) : EReal) = ∑ x, h (ix2 r x) * w (ix2 x n) := by
  pointwise [k0_pay22]

theorem pay3_eq (r : Fin 8) (n : Fin 2816) : (k0_pay3 (F := Ideal) (ix2 r n) : EReal) = 0 := by
  pointwise [k0_pay3]
theorem pay14_eq (v : Vec Ideal S8x1024 .f32) (r : Fin 8) (n : Fin 1024) : (k0_pay14 v (ix2 r n) : EReal) = v (ix2 r n) := by
  pointwise [k0_pay14]
theorem pay19_eq (v : Vec Ideal S8x1024 .f32) (r : Fin 8) (n : Fin 1024) : (k0_pay19 v (ix2 r n) : EReal) = v (ix2 r n) := by
  pointwise [k0_pay19]
theorem pay24_eq (v : Vec Ideal S8x512 .f32) (r : Fin 8) (n : Fin 512) : (k0_pay24 v (ix2 r n) : EReal) = v (ix2 r n) := by
  pointwise [k0_pay24]
theorem pay1_eq (v : Vec Ideal S8x256 .f32) (r : Fin 8) (n : Fin 256) : (k0_pay1 v (ix2 r n) : EReal) = v (ix2 r n) := by
  pointwise [k0_pay1]
theorem pay18_eq (v : FVec Ideal S512x1024 .f32) (r : Fin 512) (n : Fin 1024) : (k0_pay18 v (ix2 r n) : EReal) = v (ix2 r n) := by
  pointwise [k0_pay18]
theorem pay23_eq (v : FVec Ideal S512x512 .f32) (r : Fin 512) (n : Fin 512) : (k0_pay23 v (ix2 r n) : EReal) = v (ix2 r n) := by
  pointwise [k0_pay23]
theorem pay26_eq (v : FVec Ideal S512x256 .f32) (r : Fin 512) (n : Fin 256) : (k0_pay26 v (ix2 r n) : EReal) = v (ix2 r n) := by
  pointwise [k0_pay26]

theorem pay15_eq (a : FVec Ideal S512x1024 .f32) (p0 u : FVec Ideal S512x1024 .f32) (cw : Vec Ideal S3x1024 .f32)
    (p2 p1 : Vec Ideal S512x1024 .f32) (cb : Vec Ideal S1x1024 .f32) (w : Vec Ideal S1024x1024 .bf16) (r : Fin 512) (j : Fin 1024) :
    (k0_pay15 a p0 u cw p2 p1 cb w (ix2 r j) : EReal)
      = a (ix2 r j) + ∑ x, act (cw (ix2 0 x)) (cw (ix2 1 x)) (cw (ix2 2 x)) (cb (ix2 0 x)) (p2 (ix2 r x)) (p1 (ix2 r x))
          (p0 (ix2 r x)) (u (ix2 r x)) * w (ix2 x j) := by
  pointwise [k0_pay15]
  rfl

theorem pay20_eq (a : FVec Ideal S512x1024 .f32) (p0 u : FVec Ideal S512x1024 .f32) (cw : Vec Ideal S3x1024 .f32)
    (p2 p1 : Vec Ideal S512x1024 .f32) (cb : Vec Ideal S1x1024 .f32) (w : Vec Ideal S1024x1024 .bf16) (r : Fin 512) (j : Fin 1024) :
    (k0_pay20 p0 u a cw p2 p1 cb w (ix2 r j) : EReal)
      = a (ix2 r j) + ∑ x, act (cw (ix2 0 x)) (cw (ix2 1 x)) (cw (ix2 2 x)) (cb (ix2 0 x)) (p2 (ix2 r x)) (p1 (ix2 r x))
          (p0 (ix2 r x)) (u (ix2 r x)) * w (ix2 x j) := by
  pointwise [k0_pay20]
  rfl

theorem pay25_eq (a : FVec Ideal S512x1024 .f32) (p0 u : FVec Ideal S512x512 .f32) (cw : Vec Ideal S3x512 .f32)
    (p2 p1 : Vec Ideal S512x512 .f32) (cb : Vec Ideal S1x512 .f32) (w : Vec Ideal S512x1024 .bf16) (r : Fin 512) (j : Fin 1024) :
    (k0_pay25 p0 u a cw p2 p1 cb w (ix2 r j) : EReal)
      = a (ix2 r j) + ∑ x, act (cw (ix2 0 x)) (cw (ix2 1 x)) (cw (ix2 2 x)) (cb (ix2 0 x)) (p2 (ix2 r x)) (p1 (ix2 r x))
          (p0 (ix2 r x)) (u (ix2 r x)) * w (ix2 x j) := by
  pointwise [k0_pay25]
  rfl

theorem pay2_eq (d a : FVec Ideal S512x1024 .f32) (p0 u : FVec Ideal S512x256 .f32) (cw : Vec Ideal S3x256 .f32)
    (p2 p1 : Vec Ideal S512x256 .f32) (cb : Vec Ideal S1x256 .f32) (w : Vec Ideal S256x1024 .bf16) (r : Fin 512) (j : Fin 1024) :
    (k0_pay2 d p0 u a cw p2 p1 cb w (ix2 r j) : EReal)
      = d (ix2 r j) + (a (ix2 r j) + ∑ x, act (cw (ix2 0 x)) (cw (ix2 1 x)) (cw (ix2 2 x)) (cb (ix2 0 x)) (p2 (ix2 r x)) (p1 (ix2 r x))
          (p0 (ix2 r x)) (u (ix2 r x)) * w (ix2 x j)) := by
  pointwise [k0_pay2]
  rfl

theorem pay8_eq (r : Fin 512) (j : Fin 1024) : (k0_pay8 (F := Ideal) (ix2 r j) : EReal) = 0 := by
  pointwise [k0_pay8]

end Cert.Kernel2Ideal.Ffn

end
-- ==== Proof.FfnStep.lean ====
/- One grid step of the merge and feed-forward call over abstract loads: the pieces it stores into the carried scratch,
   what its loads of that scratch read, and the stored result, as the specification's output of a position. -/
module

public import proofs.«01_k».proof.Proof.FfnPay
public import Idealize.ShloMosaic.Lib.WritesUnit
public import Idealize.ShloMosaic.Lib.Pipeline.FrameBody
public import Idealize.ShloMosaic.Lib.Pipeline.ValueKit.Tiles

@[expose] public section

set_option maxRecDepth 16384

noncomputable section

namespace Cert.Kernel2Ideal.Ffn

open Cert.Kernel2Ideal Cert.Kernel2Ideal.Gen Cert.Ffn
open Idealize.ShloMosaic

/-- The stores into the scratch. -/
abbrev Pieces := List (View.Piece (Elt Ideal) S520x2816 .f32)

section Scratch

variable (v : View sig .tc .vmem S520x2816 .f32) (f g : v.ty.Contents (Elt Ideal))

/-- The newest store holds the element. -/
theorem hit {h w o0 o1 : ℕ} (inb : ∀ a, (![o0, o1] : Fin 2 → ℕ) a + (![h, w] : Fin 2 → ℕ) a ≤ S520x2816.size a)
    (G : (⟨2, ![h, w]⟩ : Shape).Idx → EReal) (L : Pieces) (y : S520x2816.Idx) (r : Fin h) (n : Fin w)
    (h0 : (y 0).val = o0 + r.val) (h1 : (y 1).val = o1 + n.val) :
    v.read (Elt Ideal) (v.writes (Elt Ideal) f ((⟨Rect.unit (s := S520x2816) ![o0, o1] ![h, w] inb, G⟩ : View.Piece (Elt Ideal) S520x2816 .f32) :: L)) y
      = G (ix2 r n) :=
  View.read_writes_cons_unit_of_mem v f inb G L y (ix2 r n) rfl (Fin.forall_fin_two.mpr ⟨h0, h1⟩)

/-- The newest store holds other rows. -/
theorem missRow {h w o0 o1 : ℕ} (inb : ∀ a, (![o0, o1] : Fin 2 → ℕ) a + (![h, w] : Fin 2 → ℕ) a ≤ S520x2816.size a)
    (G : (⟨2, ![h, w]⟩ : Shape).Idx → EReal) (L : Pieces) (y : S520x2816.Idx)
    (h0 : (y 0).val < o0 ∨ o0 + h ≤ (y 0).val) :
    v.read (Elt Ideal) (v.writes (Elt Ideal) f ((⟨Rect.unit (s := S520x2816) ![o0, o1] ![h, w] inb, G⟩ : View.Piece (Elt Ideal) S520x2816 .f32) :: L)) y
      = v.read (Elt Ideal) (v.writes (Elt Ideal) f L) y :=
  View.read_writes_cons_unit_of_not_mem v f inb G L y rfl (0 : Fin 2) h0

/-- The newest store holds other columns. -/
theorem missCol {h w o0 o1 : ℕ} (inb : ∀ a, (![o0, o1] : Fin 2 → ℕ) a + (![h, w] : Fin 2 → ℕ) a ≤ S520x2816.size a)
    (G : (⟨2, ![h, w]⟩ : Shape).Idx → EReal) (L : Pieces) (y : S520x2816.Idx)
    (h1 : (y 1).val < o1 ∨ o1 + w ≤ (y 1).val) :
    v.read (Elt Ideal) (v.writes (Elt Ideal) f ((⟨Rect.unit (s := S520x2816) ![o0, o1] ![h, w] inb, G⟩ : View.Piece (Elt Ideal) S520x2816 .f32) :: L)) y
      = v.read (Elt Ideal) (v.writes (Elt Ideal) f L) y :=
  View.read_writes_cons_unit_of_not_mem v f inb G L y rfl (1 : Fin 2) h1

/-- The load `k` rows back of a chunk just stored: its own rows, and the scratch's older rows before them. -/
theorem tap {w c0 k : ℕ} (hk : k ≤ 8) (inb : ∀ a, (![8, c0] : Fin 2 → ℕ) a + (![512, w] : Fin 2 → ℕ) a ≤ S520x2816.size a)
    (inb' : ∀ a, (![8 - k, c0] : Fin 2 → ℕ) a + (![512, w] : Fin 2 → ℕ) a ≤ S520x2816.size a)
    (G : (⟨2, ![512, w]⟩ : Shape).Idx → EReal) (L : Pieces) (r : Fin 512) (n : Fin w) (old : EReal)
    (hold : ∀ y : S520x2816.Idx, r.val < k → (y 0).val = 8 - k + r.val → (y 1).val = c0 + n.val →
      v.read (Elt Ideal) (v.writes (Elt Ideal) f L) y = old) :
    v.readAt (Elt Ideal) (Rect.unit (s := S520x2816) ![8 - k, c0] ![512, w] inb').toLoadRect
        (v.writes (Elt Ideal) f ((⟨Rect.unit (s := S520x2816) ![8, c0] ![512, w] inb, G⟩ : View.Piece (Elt Ideal) S520x2816 .f32) :: L)) (ix2 r n)
      = if k ≤ r.val then G (ix2 ⟨r.val - k, by omega⟩ n) else old := by
  rw [View.readAt_apply]
  have e0 : (((Rect.unit (s := S520x2816) ![8 - k, c0] ![512, w] inb').toLoadRect.idx (ix2 r n)) 0).val = 8 - k + r.val :=
    Rect.idx_unit_val (s := S520x2816) ![8 - k, c0] ![512, w] inb' (ix2 r n) 0
  have e1 : (((Rect.unit (s := S520x2816) ![8 - k, c0] ![512, w] inb').toLoadRect.idx (ix2 r n)) 1).val = c0 + n.val :=
    Rect.idx_unit_val (s := S520x2816) ![8 - k, c0] ![512, w] inb' (ix2 r n) 1
  split_ifs with h
  · exact hit v f inb G L _ ⟨r.val - k, by omega⟩ n (by rw [e0]; show _ = 8 + (r.val - k); omega) e1
  · rw [missRow v f inb G L _ (Or.inl (by rw [e0]; omega))]
    exact hold _ (by omega) e0 e1

/-- The load of the last eight rows of a chunk just stored. -/
theorem lastRows {w c0 : ℕ} (inb : ∀ a, (![8, c0] : Fin 2 → ℕ) a + (![512, w] : Fin 2 → ℕ) a ≤ S520x2816.size a)
    (inb' : ∀ a, (![512, c0] : Fin 2 → ℕ) a + (![8, w] : Fin 2 → ℕ) a ≤ S520x2816.size a)
    (G : (⟨2, ![512, w]⟩ : Shape).Idx → EReal) (L : Pieces) (a : Fin 8) (n : Fin w) :
    v.readAt (Elt Ideal) (Rect.unit (s := S520x2816) ![512, c0] ![8, w] inb').toLoadRect
        (v.writes (Elt Ideal) f ((⟨Rect.unit (s := S520x2816) ![8, c0] ![512, w] inb, G⟩ : View.Piece (Elt Ideal) S520x2816 .f32) :: L)) (ix2 a n)
      = G (ix2 ⟨504 + a.val, by omega⟩ n) := by
  rw [View.readAt_apply]
  have e0 : (((Rect.unit (s := S520x2816) ![512, c0] ![8, w] inb').toLoadRect.idx (ix2 a n)) 0).val = 512 + a.val :=
    Rect.idx_unit_val (s := S520x2816) ![512, c0] ![8, w] inb' (ix2 a n) 0
  have e1 : (((Rect.unit (s := S520x2816) ![512, c0] ![8, w] inb').toLoadRect.idx (ix2 a n)) 1).val = c0 + n.val :=
    Rect.idx_unit_val (s := S520x2816) ![512, c0] ![8, w] inb' (ix2 a n) 1
  exact hit v f inb G L _ ⟨504 + a.val, by omega⟩ n (by rw [e0]; show _ = 8 + (504 + a.val); omega) e1

end Scratch

/-- What a step loads besides the scratch: the residual, the merge's value, the output weights and the gain; per chunk the
    two halves of the input weights, the convolution's weights and bias, and the output weights. -/
structure Loads where
  v32 : FVec Ideal S512x1024 .f32
  v33 : FVec Ideal S512x1024 .bf16
  v34 : Vec Ideal S1024x1024 .bf16
  v48 : Vec Ideal S1x1024 .f32
  wg1 : Vec Ideal S1024x1024 .bf16
  wu1 : Vec Ideal S1024x1024 .bf16
  cw1 : Vec Ideal S3x1024 .f32
  cb1 : Vec Ideal S1x1024 .f32
  wd1 : Vec Ideal S1024x1024 .bf16
  wg2 : Vec Ideal S1024x1024 .bf16
  wu2 : Vec Ideal S1024x1024 .bf16
  cw2 : Vec Ideal S3x1024 .f32
  cb2 : Vec Ideal S1x1024 .f32
  wd2 : Vec Ideal S1024x1024 .bf16
  wg3 : Vec Ideal S1024x512 .bf16
  wu3 : Vec Ideal S1024x512 .bf16
  cw3 : Vec Ideal S3x512 .f32
  cb3 : Vec Ideal S1x512 .f32
  wd3 : Vec Ideal S512x1024 .bf16
  wg4 : Vec Ideal S1024x256 .bf16
  wu4 : Vec Ideal S1024x256 .bf16
  cw4 : Vec Ideal S3x256 .f32
  cb4 : Vec Ideal S1x256 .f32
  wd4 : Vec Ideal S256x1024 .bf16

section Step

variable (v : View sig .tc .vmem S520x2816 .f32) (f g : v.ty.Contents (Elt Ideal)) (L0 : Pieces) (D : Loads)

/-- Chunk 1's gate, the stores once it is stored, and the stores once its last rows are kept. -/
def gate1 : FVec Ideal S512x1024 .f32 := k0_pay13 D.v32 D.v33 D.v34 D.v48 D.wg1
def pieces1 : Pieces := ⟨Rect.unit (s := S520x2816) ![8, 0] S512x1024.size inb_S520x2816_S512x1024_8_0, gate1 D⟩ :: L0
def piecesT1 : Pieces := ⟨Rect.unit (s := S520x2816) ![0, 0] S8x1024.size inb_S520x2816_S8x1024_0_0,
  k0_pay14 (F := Ideal) (v.readAt (Elt Ideal) (Rect.unit (s := S520x2816) ![512, 0] S8x1024.size inb_S520x2816_S8x1024_512_0).toLoadRect
    (v.writes (Elt Ideal) g (pieces1 L0 D)))⟩ :: pieces1 L0 D
/-- Its loads two rows and one row back. -/
def two1 : Vec Ideal S512x1024 .f32 :=
  v.readAt (Elt Ideal) (Rect.unit (s := S520x2816) ![6, 0] S512x1024.size inb_S520x2816_S512x1024_6_0).toLoadRect (v.writes (Elt Ideal) f (pieces1 L0 D))
def one1 : Vec Ideal S512x1024 .f32 :=
  v.readAt (Elt Ideal) (Rect.unit (s := S520x2816) ![7, 0] S512x1024.size inb_S520x2816_S512x1024_7_0).toLoadRect (v.writes (Elt Ideal) f (pieces1 L0 D))

/-- Chunk 2's gate, the stores once it is stored, and the stores once its last rows are kept. -/
def gate2 : FVec Ideal S512x1024 .f32 := k0_pay18 (k0_pay11 D.v32 D.v33 D.v34 D.v48 D.wg2)
def pieces2 : Pieces := ⟨Rect.unit (s := S520x2816) ![8, 1024] S512x1024.size inb_S520x2816_S512x1024_8_1024, gate2 D⟩ :: (piecesT1 v g L0 D)
def piecesT2 : Pieces := ⟨Rect.unit (s := S520x2816) ![0, 1024] S8x1024.size inb_S520x2816_S8x1024_0_1024,
  k0_pay19 (F := Ideal) (v.readAt (Elt Ideal) (Rect.unit (s := S520x2816) ![512, 1024] S8x1024.size inb_S520x2816_S8x1024_512_1024).toLoadRect
    (v.writes (Elt Ideal) g (pieces2 v g L0 D)))⟩ :: pieces2 v g L0 D
/-- Its loads two rows and one row back. -/
def two2 : Vec Ideal S512x1024 .f32 :=
  v.readAt (Elt Ideal) (Rect.unit (s := S520x2816) ![6, 1024] S512x1024.size inb_S520x2816_S512x1024_6_1024).toLoadRect (v.writes (Elt Ideal) f (pieces2 v g L0 D))
def one2 : Vec Ideal S512x1024 .f32 :=
  v.readAt (Elt Ideal) (Rect.unit (s := S520x2816) ![7, 1024] S512x1024.size inb_S520x2816_S512x1024_7_1024).toLoadRect (v.writes (Elt Ideal) f (pieces2 v g L0 D))

/-- Chunk 3's gate, the stores once it is stored, and the stores once its last rows are kept. -/
def gate3 : FVec Ideal S512x512 .f32 := k0_pay23 (k0_pay16 (k0_pay7 D.v32 D.v33 D.v34 D.v48) D.wg3)
def pieces3 : Pieces := ⟨Rect.unit (s := S520x2816) ![8, 2048] S512x512.size inb_S520x2816_S512x512_8_2048, gate3 D⟩ :: (piecesT2 v g L0 D)
def piecesT3 : Pieces := ⟨Rect.unit (s := S520x2816) ![0, 2048] S8x512.size inb_S520x2816_S8x512_0_2048,
  k0_pay24 (F := Ideal) (v.readAt (Elt Ideal) (Rect.unit (s := S520x2816) ![512, 2048] S8x512.size inb_S520x2816_S8x512_512_2048).toLoadRect
    (v.writes (Elt Ideal) g (pieces3 v g L0 D)))⟩ :: pieces3 v g L0 D
/-- Its loads two rows and one row back. -/
def two3 : Vec Ideal S512x512 .f32 :=
  v.readAt (Elt Ideal) (Rect.unit (s := S520x2816) ![6, 2048] S512x512.size inb_S520x2816_S512x512_6_2048).toLoadRect (v.writes (Elt Ideal) f (pieces3 v g L0 D))
def one3 : Vec Ideal S512x512 .f32 :=
  v.readAt (Elt Ideal) (Rect.unit (s := S520x2816) ![7, 2048] S512x512.size inb_S520x2816_S512x512_7_2048).toLoadRect (v.writes (Elt Ideal) f (pieces3 v g L0 D))

/-- Chunk 4's gate, the stores once it is stored, and the stores once its last rows are kept. -/
def gate4 : FVec Ideal S512x256 .f32 := k0_pay26 (k0_pay21 (k0_pay7 D.v32 D.v33 D.v34 D.v48) D.wg4)
def pieces4 : Pieces := ⟨Rect.unit (s := S520x2816) ![8, 2560] S512x256.size inb_S520x2816_S512x256_8_2560, gate4 D⟩ :: (piecesT3 v g L0 D)
def piecesT4 : Pieces := ⟨Rect.unit (s := S520x2816) ![0, 2560] S8x256.size inb_S520x2816_S8x256_0_2560,
  k0_pay1 (F := Ideal) (v.readAt (Elt Ideal) (Rect.unit (s := S520x2816) ![512, 2560] S8x256.size inb_S520x2816_S8x256_512_2560).toLoadRect
    (v.writes (Elt Ideal) g (pieces4 v g L0 D)))⟩ :: pieces4 v g L0 D
/-- Its loads two rows and one row back. -/
def two4 : Vec Ideal S512x256 .f32 :=
  v.readAt (Elt Ideal) (Rect.unit (s := S520x2816) ![6, 2560] S512x256.size inb_S520x2816_S512x256_6_2560).toLoadRect (v.writes (Elt Ideal) f (pieces4 v g L0 D))
def one4 : Vec Ideal S512x256 .f32 :=
  v.readAt (Elt Ideal) (Rect.unit (s := S520x2816) ![7, 2560] S512x256.size inb_S520x2816_S512x256_7_2560).toLoadRect (v.writes (Elt Ideal) f (pieces4 v g L0 D))

/-- The running sum after each of the first three chunks, and the stored result. -/
def acc1 : FVec Ideal S512x1024 .f32 :=
  k0_pay15 (k0_pay8 (F := Ideal)) (k0_pay9 D.v32 D.v33 D.v34 D.v48 D.wg1) (k0_pay10 D.v32 D.v33 D.v34 D.v48 D.wu1) D.cw1
    (two1 v f L0 D) (one1 v f L0 D) D.cb1 D.wd1
def acc2 : FVec Ideal S512x1024 .f32 :=
  k0_pay20 (k0_pay11 D.v32 D.v33 D.v34 D.v48 D.wg2) (k0_pay12 D.v32 D.v33 D.v34 D.v48 D.wu2) (acc1 v f L0 D) D.cw2
    (two2 v f g L0 D) (one2 v f g L0 D) D.cb2 D.wd2
def acc3 : FVec Ideal S512x1024 .f32 :=
  k0_pay25 (k0_pay16 (k0_pay7 D.v32 D.v33 D.v34 D.v48) D.wg3) (k0_pay17 (k0_pay7 D.v32 D.v33 D.v34 D.v48) D.wu3) (acc2 v f g L0 D)
    D.cw3 (two3 v f g L0 D) (one3 v f g L0 D) D.cb3 D.wd3
def stored : FVec Ideal S512x1024 .f32 :=
  k0_pay2 (k0_pay6 D.v32 D.v33 D.v34) (k0_pay21 (k0_pay7 D.v32 D.v33 D.v34 D.v48) D.wg4)
    (k0_pay22 (k0_pay7 D.v32 D.v33 D.v34 D.v48) D.wu4) (acc3 v f g L0 D) D.cw4 (two4 v f g L0 D) (one4 v f g L0 D) D.cb4 D.wd4

/-- What the loads are of the specification's weights and rows. -/
structure Loads.Reads (W : Weights) (R : Fin 512 → Row) : Prop where
  x : ∀ r j, (D.v32 (ix2 r j) : EReal) = (R r).x j
  m : ∀ r j, (D.v33 (ix2 r j) : EReal) = mixed W (R r) j
  wo : ∀ k j, (D.v34 (ix2 k j) : EReal) = W.wo k j
  gain : ∀ j, (D.v48 (ix2 0 j) : EReal) = W.gain j
  wg1 : ∀ k (n : Fin 1024), (D.wg1 (ix2 k n) : EReal) = W.win k (gateCol ⟨0 + n.val, by omega⟩)
  wu1 : ∀ k (n : Fin 1024), (D.wu1 (ix2 k n) : EReal) = W.win k (upCol ⟨0 + n.val, by omega⟩)
  cw1 : ∀ k (n : Fin 1024), (D.cw1 (ix2 k n) : EReal) = W.cw k ⟨0 + n.val, by omega⟩
  cb1 : ∀ (n : Fin 1024), (D.cb1 (ix2 0 n) : EReal) = W.cb ⟨0 + n.val, by omega⟩
  wd1 : ∀ (n : Fin 1024) j, (D.wd1 (ix2 n j) : EReal) = W.wout ⟨0 + n.val, by omega⟩ j
  wg2 : ∀ k (n : Fin 1024), (D.wg2 (ix2 k n) : EReal) = W.win k (gateCol ⟨1024 + n.val, by omega⟩)
  wu2 : ∀ k (n : Fin 1024), (D.wu2 (ix2 k n) : EReal) = W.win k (upCol ⟨1024 + n.val, by omega⟩)
  cw2 : ∀ k (n : Fin 1024), (D.cw2 (ix2 k n) : EReal) = W.cw k ⟨1024 + n.val, by omega⟩
  cb2 : ∀ (n : Fin 1024), (D.cb2 (ix2 0 n) : EReal) = W.cb ⟨1024 + n.val, by omega⟩
  wd2 : ∀ (n : Fin 1024) j, (D.wd2 (ix2 n j) : EReal) = W.wout ⟨1024 + n.val, by omega⟩ j
  wg3 : ∀ k (n : Fin 512), (D.wg3 (ix2 k n) : EReal) = W.win k (gateCol ⟨2048 + n.val, by omega⟩)
  wu3 : ∀ k (n : Fin 512), (D.wu3 (ix2 k n) : EReal) = W.win k (upCol ⟨2048 + n.val, by omega⟩)
  cw3 : ∀ k (n : Fin 512), (D.cw3 (ix2 k n) : EReal) = W.cw k ⟨2048 + n.val, by omega⟩
  cb3 : ∀ (n : Fin 512), (D.cb3 (ix2 0 n) : EReal) = W.cb ⟨2048 + n.val, by omega⟩
  wd3 : ∀ (n : Fin 512) j, (D.wd3 (ix2 n j) : EReal) = W.wout ⟨2048 + n.val, by omega⟩ j
  wg4 : ∀ k (n : Fin 256), (D.wg4 (ix2 k n) : EReal) = W.win k (gateCol ⟨2560 + n.val, by omega⟩)
  wu4 : ∀ k (n : Fin 256), (D.wu4 (ix2 k n) : EReal) = W.win k (upCol ⟨2560 + n.val, by omega⟩)
  cw4 : ∀ k (n : Fin 256), (D.cw4 (ix2 k n) : EReal) = W.cw k ⟨2560 + n.val, by omega⟩
  cb4 : ∀ (n : Fin 256), (D.cb4 (ix2 0 n) : EReal) = W.cb ⟨2560 + n.val, by omega⟩
  wd4 : ∀ (n : Fin 256) j, (D.wd4 (ix2 n j) : EReal) = W.wout ⟨2560 + n.val, by omega⟩ j

variable {W : Weights} {R : Fin 512 → Row} {D} (H : D.Reads W R)
include H

theorem pay6_reads (r : Fin 512) (j : Fin 1024) : (k0_pay6 D.v32 D.v33 D.v34 (ix2 r j) : EReal) = mid W (R r) j := by
  rw [pay6_eq, H.x]
  exact congrArg _ (Finset.sum_congr rfl fun k _ => congrArg₂ (· * ·) (H.m r k) (H.wo k j))

theorem pay7_reads (r : Fin 512) (j : Fin 1024) :
    (k0_pay7 D.v32 D.v33 D.v34 D.v48 (ix2 r j) : EReal) = hid W (R r) j := by
  rw [pay7_eq, H.gain]
  simp only [pay6_reads H]
  rfl

theorem cur1_reads (r : Fin 512) (n : Fin 1024) :
    (k0_pay9 D.v32 D.v33 D.v34 D.v48 D.wg1 (ix2 r n) : EReal) = pre W (R r) (gateCol ⟨0 + n.val, by omega⟩) := by
  rw [pay9_eq]
  exact Finset.sum_congr rfl fun k _ => congrArg₂ (· * ·) (pay7_reads H r k) (H.wg1 k n)

theorem up1_reads (r : Fin 512) (n : Fin 1024) :
    (k0_pay10 D.v32 D.v33 D.v34 D.v48 D.wu1 (ix2 r n) : EReal) = pre W (R r) (upCol ⟨0 + n.val, by omega⟩) := by
  rw [pay10_eq]
  exact Finset.sum_congr rfl fun k _ => congrArg₂ (· * ·) (pay7_reads H r k) (H.wu1 k n)

theorem gate1_reads (r : Fin 512) (n : Fin 1024) :
    (gate1 D (ix2 r n) : EReal) = pre W (R r) (gateCol ⟨0 + n.val, by omega⟩) := by
  unfold gate1
  rw [pay13_eq]
  exact Finset.sum_congr rfl fun k _ => congrArg₂ (· * ·) (pay7_reads H r k) (H.wg1 k n)

theorem cur2_reads (r : Fin 512) (n : Fin 1024) :
    (k0_pay11 D.v32 D.v33 D.v34 D.v48 D.wg2 (ix2 r n) : EReal) = pre W (R r) (gateCol ⟨1024 + n.val, by omega⟩) := by
  rw [pay11_eq]
  exact Finset.sum_congr rfl fun k _ => congrArg₂ (· * ·) (pay7_reads H r k) (H.wg2 k n)

theorem up2_reads (r : Fin 512) (n : Fin 1024) :
    (k0_pay12 D.v32 D.v33 D.v34 D.v48 D.wu2 (ix2 r n) : EReal) = pre W (R r) (upCol ⟨1024 + n.val, by omega⟩) := by
  rw [pay12_eq]
  exact Finset.sum_congr rfl fun k _ => congrArg₂ (· * ·) (pay7_reads H r k) (H.wu2 k n)

theorem gate2_reads (r : Fin 512) (n : Fin 1024) :
    (gate2 D (ix2 r n) : EReal) = pre W (R r) (gateCol ⟨1024 + n.val, by omega⟩) := by
  unfold gate2
  rw [pay18_eq]
  exact cur2_reads H r n

theorem cur3_reads (r : Fin 512) (n : Fin 512) :
    (k0_pay16 (k0_pay7 D.v32 D.v33 D.v34 D.v48) D.wg3 (ix2 r n) : EReal) = pre W (R r) (gateCol ⟨2048 + n.val, by omega⟩) := by
  rw [pay16_eq]
  exact Finset.sum_congr rfl fun k _ => congrArg₂ (· * ·) (pay7_reads H r k) (H.wg3 k n)

theorem up3_reads (r : Fin 512) (n : Fin 512) :
    (k0_pay17 (k0_pay7 D.v32 D.v33 D.v34 D.v48) D.wu3 (ix2 r n) : EReal) = pre W (R r) (upCol ⟨2048 + n.val, by omega⟩) := by
  rw [pay17_eq]
  exact Finset.sum_congr rfl fun k _ => congrArg₂ (· * ·) (pay7_reads H r k) (H.wu3 k n)

theorem gate3_reads (r : Fin 512) (n : Fin 512) :
    (gate3 D (ix2 r n) : EReal) = pre W (R r) (gateCol ⟨2048 + n.val, by omega⟩) := by
  unfold gate3
  rw [pay23_eq]
  exact cur3_reads H r n

theorem cur4_reads (r : Fin 512) (n : Fin 256) :
    (k0_pay21 (k0_pay7 D.v32 D.v33 D.v34 D.v48) D.wg4 (ix2 r n) : EReal) = pre W (R r) (gateCol ⟨2560 + n.val, by omega⟩) := by
  rw [pay21_eq]
  exact Finset.sum_congr rfl fun k _ => congrArg₂ (· * ·) (pay7_reads H r k) (H.wg4 k n)

theorem up4_reads (r : Fin 512) (n : Fin 256) :
    (k0_pay22 (k0_pay7 D.v32 D.v33 D.v34 D.v48) D.wu4 (ix2 r n) : EReal) = pre W (R r) (upCol ⟨2560 + n.val, by omega⟩) := by
  rw [pay22_eq]
  exact Finset.sum_congr rfl fun k _ => congrArg₂ (· * ·) (pay7_reads H r k) (H.wu4 k n)

theorem gate4_reads (r : Fin 512) (n : Fin 256) :
    (gate4 D (ix2 r n) : EReal) = pre W (R r) (gateCol ⟨2560 + n.val, by omega⟩) := by
  unfold gate4
  rw [pay26_eq]
  exact cur4_reads H r n

omit H in
/-- Chunk 1's stores leave the other columns. -/
theorem pass1 (y : S520x2816.Idx) (h : (y 1).val < 0 ∨ 1024 ≤ (y 1).val) :
    v.read (Elt Ideal) (v.writes (Elt Ideal) f (piecesT1 v g L0 D)) y = v.read (Elt Ideal) (v.writes (Elt Ideal) f L0) y := by
  unfold piecesT1
  refine (missCol v f (h := 8) (w := 1024) (o0 := 0) (o1 := 0) _ _ _ y h).trans ?_
  unfold pieces1
  exact missCol v f (h := 512) (w := 1024) (o0 := 8) (o1 := 0) _ _ _ y h

omit H in
/-- Chunk 1's kept rows are the last rows of its gate. -/
theorem kept1 (y : S520x2816.Idx) (a : Fin 8) (n : Fin 1024) (h0 : (y 0).val = a.val) (h1 : (y 1).val = 0 + n.val) :
    v.read (Elt Ideal) (v.writes (Elt Ideal) f (piecesT1 v g L0 D)) y = gate1 D (ix2 ⟨504 + a.val, by omega⟩ n) := by
  unfold piecesT1
  refine (hit v f (h := 8) (w := 1024) (o0 := 0) (o1 := 0) _ _ _ y a n (by omega) h1).trans ?_
  rw [pay14_eq]
  unfold pieces1
  exact lastRows v g (w := 1024) (c0 := 0) _ _ _ _ a n

omit H in
/-- Chunk 2's stores leave the other columns. -/
theorem pass2 (y : S520x2816.Idx) (h : (y 1).val < 1024 ∨ 2048 ≤ (y 1).val) :
    v.read (Elt Ideal) (v.writes (Elt Ideal) f (piecesT2 v g L0 D)) y = v.read (Elt Ideal) (v.writes (Elt Ideal) f (piecesT1 v g L0 D)) y := by
  unfold piecesT2
  refine (missCol v f (h := 8) (w := 1024) (o0 := 0) (o1 := 1024) _ _ _ y h).trans ?_
  unfold pieces2
  exact missCol v f (h := 512) (w := 1024) (o0 := 8) (o1 := 1024) _ _ _ y h

omit H in
/-- Chunk 2's kept rows are the last rows of its gate. -/
theorem kept2 (y : S520x2816.Idx) (a : Fin 8) (n : Fin 1024) (h0 : (y 0).val = a.val) (h1 : (y 1).val = 1024 + n.val) :
    v.read (Elt Ideal) (v.writes (Elt Ideal) f (piecesT2 v g L0 D)) y = gate2 D (ix2 ⟨504 + a.val, by omega⟩ n) := by
  unfold piecesT2
  refine (hit v f (h := 8) (w := 1024) (o0 := 0) (o1 := 1024) _ _ _ y a n (by omega) h1).trans ?_
  rw [pay19_eq]
  unfold pieces2
  exact lastRows v g (w := 1024) (c0 := 1024) _ _ _ _ a n

omit H in
/-- Chunk 3's stores leave the other columns. -/
theorem pass3 (y : S520x2816.Idx) (h : (y 1).val < 2048 ∨ 2560 ≤ (y 1).val) :
    v.read (Elt Ideal) (v.writes (Elt Ideal) f (piecesT3 v g L0 D)) y = v.read (Elt Ideal) (v.writes (Elt Ideal) f (piecesT2 v g L0 D)) y := by
  unfold piecesT3
  refine (missCol v f (h := 8) (w := 512) (o0 := 0) (o1 := 2048) _ _ _ y h).trans ?_
  unfold pieces3
  exact missCol v f (h := 512) (w := 512) (o0 := 8) (o1 := 2048) _ _ _ y h

omit H in
/-- Chunk 3's kept rows are the last rows of its gate. -/
theorem kept3 (y : S520x2816.Idx) (a : Fin 8) (n : Fin 512) (h0 : (y 0).val = a.val) (h1 : (y 1).val = 2048 + n.val) :
    v.read (Elt Ideal) (v.writes (Elt Ideal) f (piecesT3 v g L0 D)) y = gate3 D (ix2 ⟨504 + a.val, by omega⟩ n) := by
  unfold piecesT3
  refine (hit v f (h := 8) (w := 512) (o0 := 0) (o1 := 2048) _ _ _ y a n (by omega) h1).trans ?_
  rw [pay24_eq]
  unfold pieces3
  exact lastRows v g (w := 512) (c0 := 2048) _ _ _ _ a n

omit H in
/-- Chunk 4's stores leave the other columns. -/
theorem pass4 (y : S520x2816.Idx) (h : (y 1).val < 2560 ∨ 2816 ≤ (y 1).val) :
    v.read (Elt Ideal) (v.writes (Elt Ideal) f (piecesT4 v g L0 D)) y = v.read (Elt Ideal) (v.writes (Elt Ideal) f (piecesT3 v g L0 D)) y := by
  unfold piecesT4
  refine (missCol v f (h := 8) (w := 256) (o0 := 0) (o1 := 2560) _ _ _ y h).trans ?_
  unfold pieces4
  exact missCol v f (h := 512) (w := 256) (o0 := 8) (o1 := 2560) _ _ _ y h

omit H in
/-- Chunk 4's kept rows are the last rows of its gate. -/
theorem kept4 (y : S520x2816.Idx) (a : Fin 8) (n : Fin 256) (h0 : (y 0).val = a.val) (h1 : (y 1).val = 2560 + n.val) :
    v.read (Elt Ideal) (v.writes (Elt Ideal) f (piecesT4 v g L0 D)) y = gate4 D (ix2 ⟨504 + a.val, by omega⟩ n) := by
  unfold piecesT4
  refine (hit v f (h := 8) (w := 256) (o0 := 0) (o1 := 2560) _ _ _ y a n (by omega) h1).trans ?_
  rw [pay1_eq]
  unfold pieces4
  exact lastRows v g (w := 256) (c0 := 2560) _ _ _ _ a n

/-- The scratch's kept rows after the step. -/
theorem kept (y : S520x2816.Idx) (a : Fin 8) (n : Fin 2816) (h0 : (y 0).val = a.val) (h1 : (y 1).val = n.val) :
    v.read (Elt Ideal) (v.writes (Elt Ideal) f (piecesT4 v g L0 D)) y = pre W (R ⟨504 + a.val, by omega⟩) (gateCol n) := by
  by_cases n4 : 2560 ≤ n.val
  · rw [kept4 v f g L0 y a ⟨n.val - 2560, by omega⟩ h0 (by show _ = 2560 + (n.val - 2560); omega), gate4_reads H]
    congr 2; apply Fin.ext; show 2560 + (n.val - 2560) = n.val; omega
  rw [pass4 v f g L0 y (by omega)]
  by_cases n3 : 2048 ≤ n.val
  · rw [kept3 v f g L0 y a ⟨n.val - 2048, by omega⟩ h0 (by show _ = 2048 + (n.val - 2048); omega), gate3_reads H]
    congr 2; apply Fin.ext; show 2048 + (n.val - 2048) = n.val; omega
  rw [pass3 v f g L0 y (by omega)]
  by_cases n2 : 1024 ≤ n.val
  · rw [kept2 v f g L0 y a ⟨n.val - 1024, by omega⟩ h0 (by show _ = 1024 + (n.val - 1024); omega), gate2_reads H]
    congr 2; apply Fin.ext; show 1024 + (n.val - 1024) = n.val; omega
  rw [pass2 v f g L0 y (by omega), kept1 v f g L0 y a ⟨n.val, by omega⟩ h0 (by show _ = 0 + n.val; omega), gate1_reads H]
  congr 2; apply Fin.ext; show 0 + n.val = n.val; omega

/-- The gate's value `k` rows back of row `r` in one column, by the older rows' values. -/
def backAt (W : Weights) (R : Fin 512 → Row) (old : Fin 8 → Fin 2816 → EReal) (r : Fin 512) (k : ℕ) (hk : 0 < k ∧ k ≤ 8) (n : Fin 2816) : EReal :=
  if h : k ≤ r.val then pre W (R ⟨r.val - k, by omega⟩) (gateCol n) else old ⟨8 - k + r.val, by omega⟩ n

variable (old : Fin 8 → Fin 2816 → EReal)
  (hold : ∀ (y : S520x2816.Idx) (a : Fin 8) (n : Fin 2816), (y 0).val = a.val → (y 1).val = n.val →
    v.read (Elt Ideal) (v.writes (Elt Ideal) f L0) y = old a n)
include hold

theorem two1_reads (r : Fin 512) (n : Fin 1024) :
    (two1 v f L0 D (ix2 r n) : EReal) = backAt W R old r 2 (by omega) ⟨0 + n.val, by omega⟩ := by
  unfold two1 pieces1
  refine (tap v f (w := 1024) (c0 := 0) (k := 2) (by omega) _ _ _ _ r n
    (if h : 2 ≤ r.val then 0 else old ⟨8 - 2 + r.val, by omega⟩ ⟨0 + n.val, by omega⟩) fun y hr h0 h1 => ?_).trans ?_
  · rw [dif_neg (by omega)]
    exact hold y ⟨8 - 2 + r.val, by omega⟩ ⟨0 + n.val, by omega⟩ h0 h1
  · unfold backAt
    split_ifs with h
    · exact gate1_reads H _ n
    · rfl

theorem one1_reads (r : Fin 512) (n : Fin 1024) :
    (one1 v f L0 D (ix2 r n) : EReal) = backAt W R old r 1 (by omega) ⟨0 + n.val, by omega⟩ := by
  unfold one1 pieces1
  refine (tap v f (w := 1024) (c0 := 0) (k := 1) (by omega) _ _ _ _ r n
    (if h : 1 ≤ r.val then 0 else old ⟨8 - 1 + r.val, by omega⟩ ⟨0 + n.val, by omega⟩) fun y hr h0 h1 => ?_).trans ?_
  · rw [dif_neg (by omega)]
    exact hold y ⟨8 - 1 + r.val, by omega⟩ ⟨0 + n.val, by omega⟩ h0 h1
  · unfold backAt
    split_ifs with h
    · exact gate1_reads H _ n
    · rfl

theorem two2_reads (r : Fin 512) (n : Fin 1024) :
    (two2 v f g L0 D (ix2 r n) : EReal) = backAt W R old r 2 (by omega) ⟨1024 + n.val, by omega⟩ := by
  unfold two2 pieces2
  refine (tap v f (w := 1024) (c0 := 1024) (k := 2) (by omega) _ _ _ _ r n
    (if h : 2 ≤ r.val then 0 else old ⟨8 - 2 + r.val, by omega⟩ ⟨1024 + n.val, by omega⟩) fun y hr h0 h1 => ?_).trans ?_
  · rw [dif_neg (by omega)]
    rw [pass1 v f g L0 y (by omega)]
    exact hold y ⟨8 - 2 + r.val, by omega⟩ ⟨1024 + n.val, by omega⟩ h0 h1
  · unfold backAt
    split_ifs with h
    · exact gate2_reads H _ n
    · rfl

theorem one2_reads (r : Fin 512) (n : Fin 1024) :
    (one2 v f g L0 D (ix2 r n) : EReal) = backAt W R old r 1 (by omega) ⟨1024 + n.val, by omega⟩ := by
  unfold one2 pieces2
  refine (tap v f (w := 1024) (c0 := 1024) (k := 1) (by omega) _ _ _ _ r n
    (if h : 1 ≤ r.val then 0 else old ⟨8 - 1 + r.val, by omega⟩ ⟨1024 + n.val, by omega⟩) fun y hr h0 h1 => ?_).trans ?_
  · rw [dif_neg (by omega)]
    rw [pass1 v f g L0 y (by omega)]
    exact hold y ⟨8 - 1 + r.val, by omega⟩ ⟨1024 + n.val, by omega⟩ h0 h1
  · unfold backAt
    split_ifs with h
    · exact gate2_reads H _ n
    · rfl

theorem two3_reads (r : Fin 512) (n : Fin 512) :
    (two3 v f g L0 D (ix2 r n) : EReal) = backAt W R old r 2 (by omega) ⟨2048 + n.val, by omega⟩ := by
  unfold two3 pieces3
  refine (tap v f (w := 512) (c0 := 2048) (k := 2) (by omega) _ _ _ _ r n
    (if h : 2 ≤ r.val then 0 else old ⟨8 - 2 + r.val, by omega⟩ ⟨2048 + n.val, by omega⟩) fun y hr h0 h1 => ?_).trans ?_
  · rw [dif_neg (by omega)]
    rw [pass2 v f g L0 y (by omega)]
    rw [pass1 v f g L0 y (by omega)]
    exact hold y ⟨8 - 2 + r.val, by omega⟩ ⟨2048 + n.val, by omega⟩ h0 h1
  · unfold backAt
    split_ifs with h
    · exact gate3_reads H _ n
    · rfl

theorem one3_reads (r : Fin 512) (n : Fin 512) :
    (one3 v f g L0 D (ix2 r n) : EReal) = backAt W R old r 1 (by omega) ⟨2048 + n.val, by omega⟩ := by
  unfold one3 pieces3
  refine (tap v f (w := 512) (c0 := 2048) (k := 1) (by omega) _ _ _ _ r n
    (if h : 1 ≤ r.val then 0 else old ⟨8 - 1 + r.val, by omega⟩ ⟨2048 + n.val, by omega⟩) fun y hr h0 h1 => ?_).trans ?_
  · rw [dif_neg (by omega)]
    rw [pass2 v f g L0 y (by omega)]
    rw [pass1 v f g L0 y (by omega)]
    exact hold y ⟨8 - 1 + r.val, by omega⟩ ⟨2048 + n.val, by omega⟩ h0 h1
  · unfold backAt
    split_ifs with h
    · exact gate3_reads H _ n
    · rfl

theorem two4_reads (r : Fin 512) (n : Fin 256) :
    (two4 v f g L0 D (ix2 r n) : EReal) = backAt W R old r 2 (by omega) ⟨2560 + n.val, by omega⟩ := by
  unfold two4 pieces4
  refine (tap v f (w := 256) (c0 := 2560) (k := 2) (by omega) _ _ _ _ r n
    (if h : 2 ≤ r.val then 0 else old ⟨8 - 2 + r.val, by omega⟩ ⟨2560 + n.val, by omega⟩) fun y hr h0 h1 => ?_).trans ?_
  · rw [dif_neg (by omega)]
    rw [pass3 v f g L0 y (by omega)]
    rw [pass2 v f g L0 y (by omega)]
    rw [pass1 v f g L0 y (by omega)]
    exact hold y ⟨8 - 2 + r.val, by omega⟩ ⟨2560 + n.val, by omega⟩ h0 h1
  · unfold backAt
    split_ifs with h
    · exact gate4_reads H _ n
    · rfl

theorem one4_reads (r : Fin 512) (n : Fin 256) :
    (one4 v f g L0 D (ix2 r n) : EReal) = backAt W R old r 1 (by omega) ⟨2560 + n.val, by omega⟩ := by
  unfold one4 pieces4
  refine (tap v f (w := 256) (c0 := 2560) (k := 1) (by omega) _ _ _ _ r n
    (if h : 1 ≤ r.val then 0 else old ⟨8 - 1 + r.val, by omega⟩ ⟨2560 + n.val, by omega⟩) fun y hr h0 h1 => ?_).trans ?_
  · rw [dif_neg (by omega)]
    rw [pass3 v f g L0 y (by omega)]
    rw [pass2 v f g L0 y (by omega)]
    rw [pass1 v f g L0 y (by omega)]
    exact hold y ⟨8 - 1 + r.val, by omega⟩ ⟨2560 + n.val, by omega⟩ h0 h1
  · unfold backAt
    split_ifs with h
    · exact gate4_reads H _ n
    · rfl

/-- The stored result is the specification's output. -/
theorem stored_reads (r : Fin 512) (j : Fin 1024) :
    (stored v f g L0 D (ix2 r j) : EReal) = out W (R r) (backAt W R old r 2 (by omega)) (backAt W R old r 1 (by omega)) j := by
  unfold stored acc3 acc2 acc1
  rw [pay2_eq, pay25_eq, pay20_eq, pay15_eq, pay8_eq, pay6_reads H, zero_add]
  unfold out
  rw [sum_chunks]
  refine congrArg _ (congrArg₂ (· + ·) (congrArg₂ (· + ·) (congrArg₂ (· + ·) ?_ ?_) ?_) ?_)
  · refine Finset.sum_congr rfl fun n _ => ?_
    rw [H.cw1, H.cw1, H.cw1, H.cb1, two1_reads v f L0 H old hold, one1_reads v f L0 H old hold, cur1_reads H, up1_reads H, H.wd1]
    simp only [Nat.zero_add]
    rfl
  · refine Finset.sum_congr rfl fun n _ => ?_
    rw [H.cw2, H.cw2, H.cw2, H.cb2, two2_reads v f g L0 H old hold, one2_reads v f g L0 H old hold, cur2_reads H, up2_reads H, H.wd2]
    rfl
  · refine Finset.sum_congr rfl fun n _ => ?_
    rw [H.cw3, H.cw3, H.cw3, H.cb3, two3_reads v f g L0 H old hold, one3_reads v f g L0 H old hold, cur3_reads H, up3_reads H, H.wd3]
    rfl
  · refine Finset.sum_congr rfl fun n _ => ?_
    rw [H.cw4, H.cw4, H.cw4, H.cb4, two4_reads v f g L0 H old hold, one4_reads v f g L0 H old hold, cur4_reads H, up4_reads H, H.wd4]
    rfl

end Step

end Cert.Kernel2Ideal.Ffn

end
-- ==== Proof.FfnBody.lean ====
/- The generated run of one grid step of the merge and feed-forward call is the step over its loads: the stored result and the
   carried scratch's stores, at a sequence's first block of rows (case A) and at its later ones (case B). -/
module

public import proofs.«01_k».proof.Proof.FfnStep
public import proofs.«01_k».proof.Proof.Gen.Kernel2Ideal.Frame

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem

theorem zeroOff : (![0, 0] : Fin 2 → Nat) = fun _ => 0 := funext fun a => by fin_cases a <;> rfl

/-- The store of zeros that opens a sequence. -/
def zeros : Pieces := [⟨Rect.unit (s := S520x2816) ![0, 0] S8x2816.size inb_S520x2816_S8x2816_0_0, k0_pay3 (F := Ideal)⟩]

/-- A step's loads of its windows. -/
def loads (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x2816 .f32) (x10 : Vec Ideal S1x2816 .f32) (x11 : Vec Ideal S2816x1024 .bf16) : Loads where
  v32 := k0_pay4 (View.readAt (Elt Ideal) arg1.view (Rect.unit (s := S512x1024) ![0, 0] S512x1024.size inb_S512x1024_S512x1024_0_0).toLoadRect (harg1.unread x0))
  v33 := k0_pay5 (View.readAt (Elt Ideal) arg4.view (Rect.unit (s := S512x2048) ![0, 0] S512x2048.size inb_S512x2048_S512x2048_0_0).toLoadRect (harg4.unread x3)) (View.readAt (Elt Ideal) arg2.view (Rect.unit (s := S512x512) ![0, 0] S512x512.size inb_S512x512_S512x512_0_0).toLoadRect (harg2.unread x1)) (View.readAt (Elt Ideal) arg5.view (Rect.unit (s := S512x1024) ![0, 0] S512x1024.size inb_S512x1024_S512x1024_0_0).toLoadRect (harg5.unread x4)) (View.readAt (Elt Ideal) arg3.view (Rect.unit (s := S512x512) ![0, 0] S512x512.size inb_S512x512_S512x512_0_0).toLoadRect (harg3.unread x2)) (View.readAt (Elt Ideal) arg6.view (Rect.unit (s := S512x1024) ![0, 0] S512x1024.size inb_S512x1024_S512x1024_0_0).toLoadRect (harg6.unread x5))
  v34 := (View.readAt (Elt Ideal) arg7.view (Rect.unit (s := S1024x1024) ![0, 0] S1024x1024.size inb_S1024x1024_S1024x1024_0_0).toLoadRect (harg7.unread x6))
  v48 := (View.readAt (Elt Ideal) arg8.view (Rect.unit (s := S1x1024) ![0, 0] S1x1024.size inb_S1x1024_S1x1024_0_0).toLoadRect (harg8.unread x7))
  wg1 := (View.readAt (Elt Ideal) arg9.view (Rect.unit (s := S1024x5632) ![0, 0] S1024x1024.size inb_S1024x5632_S1024x1024_0_0).toLoadRect (harg9.unread x8))
  wu1 := (View.readAt (Elt Ideal) arg9.view (Rect.unit (s := S1024x5632) ![0, 2816] S1024x1024.size inb_S1024x5632_S1024x1024_0_2816).toLoadRect (harg9.unread x8))
  cw1 := (View.readAt (Elt Ideal) arg10.view (Rect.unit (s := S3x2816) ![0, 0] S3x1024.size inb_S3x2816_S3x1024_0_0).toLoadRect (harg10.unread x9))
  cb1 := (View.readAt (Elt Ideal) arg11.view (Rect.unit (s := S1x2816) ![0, 0] S1x1024.size inb_S1x2816_S1x1024_0_0).toLoadRect (harg11.unread x10))
  wd1 := (View.readAt (Elt Ideal) arg12.view (Rect.unit (s := S2816x1024) ![0, 0] S1024x1024.size inb_S2816x1024_S1024x1024_0_0).toLoadRect (harg12.unread x11))
  wg2 := (View.readAt (Elt Ideal) arg9.view (Rect.unit (s := S1024x5632) ![0, 1024] S1024x1024.size inb_S1024x5632_S1024x1024_0_1024).toLoadRect (harg9.unread x8))
  wu2 := (View.readAt (Elt Ideal) arg9.view (Rect.unit (s := S1024x5632) ![0, 3840] S1024x1024.size inb_S1024x5632_S1024x1024_0_3840).toLoadRect (harg9.unread x8))
  cw2 := (View.readAt (Elt Ideal) arg10.view (Rect.unit (s := S3x2816) ![0, 1024] S3x1024.size inb_S3x2816_S3x1024_0_1024).toLoadRect (harg10.unread x9))
  cb2 := (View.readAt (Elt Ideal) arg11.view (Rect.unit (s := S1x2816) ![0, 1024] S1x1024.size inb_S1x2816_S1x1024_0_1024).toLoadRect (harg11.unread x10))
  wd2 := (View.readAt (Elt Ideal) arg12.view (Rect.unit (s := S2816x1024) ![1024, 0] S1024x1024.size inb_S2816x1024_S1024x1024_1024_0).toLoadRect (harg12.unread x11))
  wg3 := (View.readAt (Elt Ideal) arg9.view (Rect.unit (s := S1024x5632) ![0, 2048] S1024x512.size inb_S1024x5632_S1024x512_0_2048).toLoadRect (harg9.unread x8))
  wu3 := (View.readAt (Elt Ideal) arg9.view (Rect.unit (s := S1024x5632) ![0, 4864] S1024x512.size inb_S1024x5632_S1024x512_0_4864).toLoadRect (harg9.unread x8))
  cw3 := (View.readAt (Elt Ideal) arg10.view (Rect.unit (s := S3x2816) ![0, 2048] S3x512.size inb_S3x2816_S3x512_0_2048).toLoadRect (harg10.unread x9))
  cb3 := (View.readAt (Elt Ideal) arg11.view (Rect.unit (s := S1x2816) ![0, 2048] S1x512.size inb_S1x2816_S1x512_0_2048).toLoadRect (harg11.unread x10))
  wd3 := (View.readAt (Elt Ideal) arg12.view (Rect.unit (s := S2816x1024) ![2048, 0] S512x1024.size inb_S2816x1024_S512x1024_2048_0).toLoadRect (harg12.unread x11))
  wg4 := (View.readAt (Elt Ideal) arg9.view (Rect.unit (s := S1024x5632) ![0, 2560] S1024x256.size inb_S1024x5632_S1024x256_0_2560).toLoadRect (harg9.unread x8))
  wu4 := (View.readAt (Elt Ideal) arg9.view (Rect.unit (s := S1024x5632) ![0, 5376] S1024x256.size inb_S1024x5632_S1024x256_0_5376).toLoadRect (harg9.unread x8))
  cw4 := (View.readAt (Elt Ideal) arg10.view (Rect.unit (s := S3x2816) ![0, 2560] S3x256.size inb_S3x2816_S3x256_0_2560).toLoadRect (harg10.unread x9))
  cb4 := (View.readAt (Elt Ideal) arg11.view (Rect.unit (s := S1x2816) ![0, 2560] S1x256.size inb_S1x2816_S1x256_0_2560).toLoadRect (harg11.unread x10))
  wd4 := (View.readAt (Elt Ideal) arg12.view (Rect.unit (s := S2816x1024) ![2560, 0] S256x1024.size inb_S2816x1024_S256x1024_2560_0).toLoadRect (harg12.unread x11))

set_option maxHeartbeats 4000000 in
theorem out_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S520x2816 .f32) (harg14 : arg14.IsWhole) (hc0 : cond0_0 i) (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x2816 .f32) (x10 : Vec Ideal S1x2816 .f32) (x11 : Vec Ideal S2816x1024 .bf16) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 = stored arg14.view arg14.view.junk arg14.view.junk zeros (loads arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11)]
  unfold kernelRun0_A
  dsimp only
  sl_unfold_words
  rw [View.canon_unit_zero zeroOff]
  rfl

set_option maxHeartbeats 4000000 in
theorem sout_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S520x2816 .f32) (harg14 : arg14.IsWhole) (hc0 : cond0_0 i) (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x2816 .f32) (x10 : Vec Ideal S1x2816 .f32) (x11 : Vec Ideal S2816x1024 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 = VS0_0.read (Elt Ideal) (VS0_0.writes (Elt Ideal) VS0_0.junk (piecesT4 arg14.view arg14.view.junk zeros (loads arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11))) := by
  unfold sout0_A_0 kernelRun0_A
  dsimp only
  sl_unfold_words
  rfl

set_option maxHeartbeats 4000000 in
theorem out_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S520x2816 .f32) (harg14 : arg14.IsWhole) (hc0 : ¬cond0_0 i) (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x2816 .f32) (x10 : Vec Ideal S1x2816 .f32) (x11 : Vec Ideal S2816x1024 .bf16) (xs0 : Vec Ideal S520x2816 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs0 = stored arg14.view (harg14.unread xs0) arg14.view.junk [] (loads arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs0)]
  unfold kernelRun0_B
  dsimp only
  sl_unfold_words
  rw [View.canon_unit_zero zeroOff]
  rfl

set_option maxHeartbeats 4000000 in
theorem sout_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S520x2816 .f32) (harg14 : arg14.IsWhole) (hc0 : ¬cond0_0 i) (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x2816 .f32) (x10 : Vec Ideal S1x2816 .f32) (x11 : Vec Ideal S2816x1024 .bf16) (xs0 : Vec Ideal S520x2816 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs0 = VS0_0.read (Elt Ideal) (VS0_0.writes (Elt Ideal) VS0_0.junk (piecesT4 arg14.view arg14.view.junk [] (loads arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11))) := by
  unfold sout0_B_0 kernelRun0_B
  dsimp only
  sl_unfold_words
  rfl

end Cert.Kernel2Ideal.Ffn

end
-- ==== Proof.FfnLoads.lean ====
/- What a grid step of the merge and feed-forward call loads, from what its windows' blocks hold. -/
module

public import proofs.«01_k».proof.Proof.FfnBody

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem

/-- A load of a rectangle of a window whose contents are known. -/
theorem readAt_window {s : Shape} {e : EltTy} (arg : Memref sig .tc .vmem s e) (harg : arg.IsWhole) (x : Vec Ideal s e)
    (off size : Fin s.rank → ℕ) (inb) (y : (Rect.unit off size inb).shape.Idx) (i : s.Idx) (hi : ∀ a, (i a : ℕ) = off a + y a) :
    View.readAt (Elt Ideal) arg.view (Rect.unit off size inb).toLoadRect (harg.unread x) y = x i := by
  rw [View.readAt_eq_ld, harg.read_unread]
  exact View.ld_unit_apply_of x off size inb y i hi

/-- What the windows' blocks hold of the specification's weights and rows. -/
structure Blocks (x0 : Vec Ideal S512x1024 .f32) (x1 : Vec Ideal S512x512 .bf16) (x2 : Vec Ideal S512x512 .bf16)
    (x3 : Vec Ideal S512x2048 .bf16) (x4 : Vec Ideal S512x1024 .bf16) (x5 : Vec Ideal S512x1024 .bf16) (x6 : Vec Ideal S1024x1024 .bf16)
    (x7 : Vec Ideal S1x1024 .f32) (x8 : Vec Ideal S1024x5632 .bf16) (x9 : Vec Ideal S3x2816 .f32) (x10 : Vec Ideal S1x2816 .f32)
    (x11 : Vec Ideal S2816x1024 .bf16) (W : Weights) (R : Fin 512 → Row) : Prop where
  x : ∀ r j, (x0 (ix2 r j) : EReal) = (R r).x j
  ya : ∀ r k, (x1 (ix2 r k) : EReal) = (R r).ya k
  yb : ∀ r k, (x2 (ix2 r k) : EReal) = (R r).yb k
  gm : ∀ r k, (x3 (ix2 r k) : EReal) = (R r).gm k
  wa : ∀ k j, (x4 (ix2 k j) : EReal) = W.wa k j
  wb : ∀ k j, (x5 (ix2 k j) : EReal) = W.wb k j
  wo : ∀ k j, (x6 (ix2 k j) : EReal) = W.wo k j
  gain : ∀ j, (x7 (ix2 0 j) : EReal) = W.gain j
  win : ∀ k n, (x8 (ix2 k n) : EReal) = W.win k n
  cw : ∀ k n, (x9 (ix2 k n) : EReal) = W.cw k n
  cb : ∀ n, (x10 (ix2 0 n) : EReal) = W.cb n
  wout : ∀ n j, (x11 (ix2 n j) : EReal) = W.wout n j

set_option maxHeartbeats 4000000 in
theorem loads_reads (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x2816 .f32) (x10 : Vec Ideal S1x2816 .f32) (x11 : Vec Ideal S2816x1024 .bf16) (W : Weights) (R : Fin 512 → Row)
    (H : Blocks x0 x1 x2 x3 x4 x5 x6 x7 x8 x9 x10 x11 W R) : (loads arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11).Reads W R where
  x r j := (pay4_eq _ r j).trans ((readAt_window arg1 harg1 x0 _ _ _ (ix2 r j) (ix2 r j) (Fin.forall_fin_two.mpr ⟨(Nat.zero_add _).symm, (Nat.zero_add _).symm⟩)).trans (H.x r j))
  m r j := by
    refine (pay5_eq _ _ _ _ _ r j).trans ?_
    unfold mixed
    refine congrArg₂ (· + ·) (congrArg₂ (· * ·) ?_ (Finset.sum_congr rfl fun k _ => congrArg₂ (· * ·) ?_ ?_))
      (congrArg₂ (· * ·) ?_ (Finset.sum_congr rfl fun k _ => congrArg₂ (· * ·) ?_ ?_))
    · exact (readAt_window arg4 harg4 x3 _ _ _ _ (ix2 r ⟨j.val, by omega⟩) (Fin.forall_fin_two.mpr ⟨(Nat.zero_add _).symm, (Nat.zero_add _).symm⟩)).trans (H.gm r _)
    · exact (readAt_window arg2 harg2 x1 _ _ _ _ (ix2 r k) (Fin.forall_fin_two.mpr ⟨(Nat.zero_add _).symm, (Nat.zero_add _).symm⟩)).trans (H.ya r k)
    · exact (readAt_window arg5 harg5 x4 _ _ _ _ (ix2 k j) (Fin.forall_fin_two.mpr ⟨(Nat.zero_add _).symm, (Nat.zero_add _).symm⟩)).trans (H.wa k j)
    · exact (readAt_window arg4 harg4 x3 _ _ _ _ (ix2 r ⟨1024 + j.val, by omega⟩) (Fin.forall_fin_two.mpr ⟨(Nat.zero_add _).symm, (Nat.zero_add _).symm⟩)).trans (H.gm r _)
    · exact (readAt_window arg3 harg3 x2 _ _ _ _ (ix2 r k) (Fin.forall_fin_two.mpr ⟨(Nat.zero_add _).symm, (Nat.zero_add _).symm⟩)).trans (H.yb r k)
    · exact (readAt_window arg6 harg6 x5 _ _ _ _ (ix2 k j) (Fin.forall_fin_two.mpr ⟨(Nat.zero_add _).symm, (Nat.zero_add _).symm⟩)).trans (H.wb k j)
  wo k j := (readAt_window arg7 harg7 x6 _ _ _ (ix2 k j) (ix2 k j) (Fin.forall_fin_two.mpr ⟨(Nat.zero_add _).symm, (Nat.zero_add _).symm⟩)).trans (H.wo k j)
  gain j := (readAt_window arg8 harg8 x7 _ _ _ (ix2 0 j) (ix2 0 j) (Fin.forall_fin_two.mpr ⟨rfl, (Nat.zero_add _).symm⟩)).trans (H.gain j)
  wg1 k n := (readAt_window arg9 harg9 x8 _ _ _ (ix2 k n) (ix2 k (gateCol ⟨0 + n.val, by omega⟩)) (Fin.forall_fin_two.mpr ⟨(Nat.zero_add _).symm, rfl⟩)).trans (H.win k _)
  wu1 k n := (readAt_window arg9 harg9 x8 _ _ _ (ix2 k n) (ix2 k (upCol ⟨0 + n.val, by omega⟩)) (Fin.forall_fin_two.mpr ⟨(Nat.zero_add _).symm, by show 2816 + (0 + n.val) = 2816 + n.val; omega⟩)).trans (H.win k _)
  cw1 k n := (readAt_window arg10 harg10 x9 _ _ _ (ix2 k n) (ix2 k ⟨0 + n.val, by omega⟩) (Fin.forall_fin_two.mpr ⟨(Nat.zero_add _).symm, rfl⟩)).trans (H.cw k _)
  cb1 n := (readAt_window arg11 harg11 x10 _ _ _ (ix2 0 n) (ix2 0 ⟨0 + n.val, by omega⟩) (Fin.forall_fin_two.mpr ⟨rfl, rfl⟩)).trans (H.cb _)
  wd1 n j := (readAt_window arg12 harg12 x11 _ _ _ (ix2 n j) (ix2 ⟨0 + n.val, by omega⟩ j) (Fin.forall_fin_two.mpr ⟨rfl, (Nat.zero_add _).symm⟩)).trans (H.wout _ j)
  wg2 k n := (readAt_window arg9 harg9 x8 _ _ _ (ix2 k n) (ix2 k (gateCol ⟨1024 + n.val, by omega⟩)) (Fin.forall_fin_two.mpr ⟨(Nat.zero_add _).symm, rfl⟩)).trans (H.win k _)
  wu2 k n := (readAt_window arg9 harg9 x8 _ _ _ (ix2 k n) (ix2 k (upCol ⟨1024 + n.val, by omega⟩)) (Fin.forall_fin_two.mpr ⟨(Nat.zero_add _).symm, by show 2816 + (1024 + n.val) = 3840 + n.val; omega⟩)).trans (H.win k _)
  cw2 k n := (readAt_window arg10 harg10 x9 _ _ _ (ix2 k n) (ix2 k ⟨1024 + n.val, by omega⟩) (Fin.forall_fin_two.mpr ⟨(Nat.zero_add _).symm, rfl⟩)).trans (H.cw k _)
  cb2 n := (readAt_window arg11 harg11 x10 _ _ _ (ix2 0 n) (ix2 0 ⟨1024 + n.val, by omega⟩) (Fin.forall_fin_two.mpr ⟨rfl, rfl⟩)).trans (H.cb _)
  wd2 n j := (readAt_window arg12 harg12 x11 _ _ _ (ix2 n j) (ix2 ⟨1024 + n.val, by omega⟩ j) (Fin.forall_fin_two.mpr ⟨rfl, (Nat.zero_add _).symm⟩)).trans (H.wout _ j)
  wg3 k n := (readAt_window arg9 harg9 x8 _ _ _ (ix2 k n) (ix2 k (gateCol ⟨2048 + n.val, by omega⟩)) (Fin.forall_fin_two.mpr ⟨(Nat.zero_add _).symm, rfl⟩)).trans (H.win k _)
  wu3 k n := (readAt_window arg9 harg9 x8 _ _ _ (ix2 k n) (ix2 k (upCol ⟨2048 + n.val, by omega⟩)) (Fin.forall_fin_two.mpr ⟨(Nat.zero_add _).symm, by show 2816 + (2048 + n.val) = 4864 + n.val; omega⟩)).trans (H.win k _)
  cw3 k n := (readAt_window arg10 harg10 x9 _ _ _ (ix2 k n) (ix2 k ⟨2048 + n.val, by omega⟩) (Fin.forall_fin_two.mpr ⟨(Nat.zero_add _).symm, rfl⟩)).trans (H.cw k _)
  cb3 n := (readAt_window arg11 harg11 x10 _ _ _ (ix2 0 n) (ix2 0 ⟨2048 + n.val, by omega⟩) (Fin.forall_fin_two.mpr ⟨rfl, rfl⟩)).trans (H.cb _)
  wd3 n j := (readAt_window arg12 harg12 x11 _ _ _ (ix2 n j) (ix2 ⟨2048 + n.val, by omega⟩ j) (Fin.forall_fin_two.mpr ⟨rfl, (Nat.zero_add _).symm⟩)).trans (H.wout _ j)
  wg4 k n := (readAt_window arg9 harg9 x8 _ _ _ (ix2 k n) (ix2 k (gateCol ⟨2560 + n.val, by omega⟩)) (Fin.forall_fin_two.mpr ⟨(Nat.zero_add _).symm, rfl⟩)).trans (H.win k _)
  wu4 k n := (readAt_window arg9 harg9 x8 _ _ _ (ix2 k n) (ix2 k (upCol ⟨2560 + n.val, by omega⟩)) (Fin.forall_fin_two.mpr ⟨(Nat.zero_add _).symm, by show 2816 + (2560 + n.val) = 5376 + n.val; omega⟩)).trans (H.win k _)
  cw4 k n := (readAt_window arg10 harg10 x9 _ _ _ (ix2 k n) (ix2 k ⟨2560 + n.val, by omega⟩) (Fin.forall_fin_two.mpr ⟨(Nat.zero_add _).symm, rfl⟩)).trans (H.cw k _)
  cb4 n := (readAt_window arg11 harg11 x10 _ _ _ (ix2 0 n) (ix2 0 ⟨2560 + n.val, by omega⟩) (Fin.forall_fin_two.mpr ⟨rfl, rfl⟩)).trans (H.cb _)
  wd4 n j := (readAt_window arg12 harg12 x11 _ _ _ (ix2 n j) (ix2 ⟨2560 + n.val, by omega⟩ j) (Fin.forall_fin_two.mpr ⟨rfl, (Nat.zero_add _).symm⟩)).trans (H.wout _ j)

end Cert.Kernel2Ideal.Ffn

end
-- ==== Proof.FfnArrays.lean ====
/- What the merge and feed-forward call's windows hold at a grid point: the arguments' rows of that point, and the weights. -/
module

public import proofs.«01_k».proof.Proof.FfnLoads
public import Idealize.ShloMosaic.Lib.StableHlo.Run
public import Idealize.ShloMosaic.Lib.Pipeline.Value

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic

variable (m : (ℓ : Loc nD τ sig) → Buf (Elt Ideal) ℓ) (c : Dev nD)

/-- The arguments, read off the launched memory. -/
def inputs : Inputs :=
  .of (m ((c : Thread nD τ).loc main_arg0) : FVec Ideal S8x4096x1024 .f32)
    (m ((c : Thread nD τ).loc main_arg1) : FVec Ideal S8x4096x512 .f32)
    (m ((c : Thread nD τ).loc main_arg2) : FVec Ideal S8x4096x512 .f32)
    (m ((c : Thread nD τ).loc main_arg3) : FVec Ideal S8x4096x2048 .f32)
    (m ((c : Thread nD τ).loc main_arg4) : FVec Ideal S512x1024 .f32)
    (m ((c : Thread nD τ).loc main_arg5) : FVec Ideal S512x1024 .f32)
    (m ((c : Thread nD τ).loc main_arg6) : FVec Ideal S1024x1024 .f32)
    (m ((c : Thread nD τ).loc main_arg7) : FVec Ideal S1024 .f32)
    (m ((c : Thread nD τ).loc main_arg8) : FVec Ideal S1024x5632 .f32)
    (m ((c : Thread nD τ).loc main_arg9) : FVec Ideal S3x2816 .f32)
    (m ((c : Thread nD τ).loc main_arg10) : FVec Ideal S2816 .f32)
    (m ((c : Thread nD τ).loc main_arg11) : FVec Ideal S2816x1024 .f32)

/-- The flattened row of a grid point's row. -/
def flatRow (t : Fin cfg0.N) (r : Fin 512) : Fin 32768 :=
  ⟨512 * t.val + r.val, by have := lt_of_lt_of_eq t.isLt (show cfg0.N = 64 from N_0); omega⟩

/-- The row of the arguments a grid point's row is. -/
def rowAt (t : Fin cfg0.N) (r : Fin 512) : Row := (inputs m c).row (seqOf (flatRow t r)) (posOf (flatRow t r))

theorem at_flat {n : ℕ} (a : FVec Ideal ⟨3, ![8, 4096, n]⟩ .f32) (h : (⟨3, ![8, 4096, n]⟩ : Shape).ShapeCasts ⟨2, ![32768, n]⟩)
    (P : Fin 32768) (j : Fin n) : shapeCast ⟨2, ![32768, n]⟩ a h (ix2 P j) = a (ix3 (seqOf P) (posOf P) j) := by
  refine shapeCast_apply a h _ _ ?_
  rw [Shape.rowMajor_val_three, Shape.rowMajor_val_two]
  show (P.val / 4096 * 4096 + P.val % 4096) * n + j.val = P.val * n + j.val
  rw [show P.val / 4096 * 4096 + P.val % 4096 = P.val from by omega]

theorem V_main_v0 : V m c main_v0 = (shapeCast S32768x1024 (m ((c : Thread nD τ).loc main_arg0) : FVec Ideal S8x4096x1024 .f32) shapeCasts_S8x4096x1024_S32768x1024) := by
  dsimp only [V, List.flatten_cons, List.flatten_nil, List.append_nil, List.cons_append, List.nil_append]
  after_results_simp
  rfl

theorem V_main_v2 : V m c main_v2 = (truncf .bf16 ((shapeCast S32768x512 (m ((c : Thread nD τ).loc main_arg1) : FVec Ideal S8x4096x512 .f32) shapeCasts_S8x4096x512_S32768x512) : FVec Ideal S32768x512 .f32) bitsLt_bf16_f32 : FVec Ideal S32768x512 .bf16) := by
  dsimp only [V, List.flatten_cons, List.flatten_nil, List.append_nil, List.cons_append, List.nil_append]
  after_results_simp
  rfl

theorem V_main_v4 : V m c main_v4 = (truncf .bf16 ((shapeCast S32768x512 (m ((c : Thread nD τ).loc main_arg2) : FVec Ideal S8x4096x512 .f32) shapeCasts_S8x4096x512_S32768x512) : FVec Ideal S32768x512 .f32) bitsLt_bf16_f32 : FVec Ideal S32768x512 .bf16) := by
  dsimp only [V, List.flatten_cons, List.flatten_nil, List.append_nil, List.cons_append, List.nil_append]
  after_results_simp
  rfl

theorem V_main_v6 : V m c main_v6 = (truncf .bf16 ((shapeCast S32768x2048 (m ((c : Thread nD τ).loc main_arg3) : FVec Ideal S8x4096x2048 .f32) shapeCasts_S8x4096x2048_S32768x2048) : FVec Ideal S32768x2048 .f32) bitsLt_bf16_f32 : FVec Ideal S32768x2048 .bf16) := by
  dsimp only [V, List.flatten_cons, List.flatten_nil, List.append_nil, List.cons_append, List.nil_append]
  after_results_simp
  rfl

theorem V_main_v7 : V m c main_v7 = (truncf .bf16 (m ((c : Thread nD τ).loc main_arg4) : FVec Ideal S512x1024 .f32) bitsLt_bf16_f32 : FVec Ideal S512x1024 .bf16) := by
  dsimp only [V, List.flatten_cons, List.flatten_nil, List.append_nil, List.cons_append, List.nil_append]
  after_results_simp

theorem V_main_v8 : V m c main_v8 = (truncf .bf16 (m ((c : Thread nD τ).loc main_arg5) : FVec Ideal S512x1024 .f32) bitsLt_bf16_f32 : FVec Ideal S512x1024 .bf16) := by
  dsimp only [V, List.flatten_cons, List.flatten_nil, List.append_nil, List.cons_append, List.nil_append]
  after_results_simp

theorem V_main_v9 : V m c main_v9 = (truncf .bf16 (m ((c : Thread nD τ).loc main_arg6) : FVec Ideal S1024x1024 .f32) bitsLt_bf16_f32 : FVec Ideal S1024x1024 .bf16) := by
  dsimp only [V, List.flatten_cons, List.flatten_nil, List.append_nil, List.cons_append, List.nil_append]
  after_results_simp

theorem V_main_v11 : V m c main_v11 = (truncf .bf16 (m ((c : Thread nD τ).loc main_arg8) : FVec Ideal S1024x5632 .f32) bitsLt_bf16_f32 : FVec Ideal S1024x5632 .bf16) := by
  dsimp only [V, List.flatten_cons, List.flatten_nil, List.append_nil, List.cons_append, List.nil_append]
  after_results_simp

theorem V_main_v13 : V m c main_v13 = (truncf .bf16 (m ((c : Thread nD τ).loc main_arg11) : FVec Ideal S2816x1024 .f32) bitsLt_bf16_f32 : FVec Ideal S2816x1024 .bf16) := by
  dsimp only [V, List.flatten_cons, List.flatten_nil, List.append_nil, List.cons_append, List.nil_append]
  after_results_simp

theorem V_main_v10 : V m c main_v10 = broadcastInDim S1x1024 ![1] bcast_S1024_S1x1024_1 (m ((c : Thread nD τ).loc main_arg7) : FVec Ideal S1024 .f32) := by
  dsimp only [V, List.flatten_cons, List.flatten_nil, List.append_nil, List.cons_append, List.nil_append]
  after_results_simp

theorem V_main_v12 : V m c main_v12 = broadcastInDim S1x2816 ![1] bcast_S2816_S1x2816_1 (m ((c : Thread nD τ).loc main_arg10) : FVec Ideal S2816 .f32) := by
  dsimp only [V, List.flatten_cons, List.flatten_nil, List.append_nil, List.cons_append, List.nil_append]
  after_results_simp

theorem indexRow : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0 := by
  decide +kernel

theorem indexWhole : ∀ t : Fin grid0.N, win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_8.index t 0 = 0 ∧ win0_8.index t 1 = 0 ∧ win0_9.index t 0 = 0 ∧ win0_9.index t 1 = 0 ∧ win0_10.index t 0 = 0 ∧ win0_10.index t 1 = 0 ∧ win0_11.index t 0 = 0 ∧ win0_11.index t 1 = 0 := by
  decide +kernel

theorem blk0 (t : Fin cfg0.N) (r : Fin 512) (n : Fin 1024) :
    ((iblk m c 0 t : Vec Ideal S512x1024 .f32) (ix2 r n) : EReal) = (rowAt m c t r).x n := by
  have e : (iblk m c 0 t : Vec Ideal S512x1024 .f32) (ix2 r n) = (V m c main_v0 : FVec Ideal S32768x1024 .f32) (ix2 (flatRow t r) n) := by
    unfold iblk
    rw [View.read_apply]
    show (V m c main_v0 : FVec Ideal S32768x1024 .f32) _ = _
    congr 1
    obtain ⟨h0, h1, _, _, _, _, _, _⟩ := indexRow t
    funext a
    apply Fin.ext
    match a with
    | ⟨0, _⟩ => show win0_0.index t 0 * 512 + 1 * r.val = 512 * t.val + r.val; omega
    | ⟨1, _⟩ => show win0_0.index t 1 * 1024 + 1 * n.val = n.val; omega
  rw [e, V_main_v0]
  exact at_flat _ _ (flatRow t r) n

theorem blk1 (t : Fin cfg0.N) (r : Fin 512) (n : Fin 512) :
    ((iblk m c 1 t : Vec Ideal S512x512 .bf16) (ix2 r n) : EReal) = (rowAt m c t r).ya n := by
  have e : (iblk m c 1 t : Vec Ideal S512x512 .bf16) (ix2 r n) = (V m c main_v2 : FVec Ideal S32768x512 .bf16) (ix2 (flatRow t r) n) := by
    unfold iblk
    rw [View.read_apply]
    show (V m c main_v2 : FVec Ideal S32768x512 .bf16) _ = _
    congr 1
    obtain ⟨_, _, h0, h1, _, _, _, _⟩ := indexRow t
    funext a
    apply Fin.ext
    match a with
    | ⟨0, _⟩ => show win0_1.index t 0 * 512 + 1 * r.val = 512 * t.val + r.val; omega
    | ⟨1, _⟩ => show win0_1.index t 1 * 512 + 1 * n.val = n.val; omega
  rw [e, V_main_v2]
  exact at_flat _ _ (flatRow t r) n

theorem blk2 (t : Fin cfg0.N) (r : Fin 512) (n : Fin 512) :
    ((iblk m c 2 t : Vec Ideal S512x512 .bf16) (ix2 r n) : EReal) = (rowAt m c t r).yb n := by
  have e : (iblk m c 2 t : Vec Ideal S512x512 .bf16) (ix2 r n) = (V m c main_v4 : FVec Ideal S32768x512 .bf16) (ix2 (flatRow t r) n) := by
    unfold iblk
    rw [View.read_apply]
    show (V m c main_v4 : FVec Ideal S32768x512 .bf16) _ = _
    congr 1
    obtain ⟨_, _, _, _, h0, h1, _, _⟩ := indexRow t
    funext a
    apply Fin.ext
    match a with
    | ⟨0, _⟩ => show win0_2.index t 0 * 512 + 1 * r.val = 512 * t.val + r.val; omega
    | ⟨1, _⟩ => show win0_2.index t 1 * 512 + 1 * n.val = n.val; omega
  rw [e, V_main_v4]
  exact at_flat _ _ (flatRow t r) n

theorem blk3 (t : Fin cfg0.N) (r : Fin 512) (n : Fin 2048) :
    ((iblk m c 3 t : Vec Ideal S512x2048 .bf16) (ix2 r n) : EReal) = (rowAt m c t r).gm n := by
  have e : (iblk m c 3 t : Vec Ideal S512x2048 .bf16) (ix2 r n) = (V m c main_v6 : FVec Ideal S32768x2048 .bf16) (ix2 (flatRow t r) n) := by
    unfold iblk
    rw [View.read_apply]
    show (V m c main_v6 : FVec Ideal S32768x2048 .bf16) _ = _
    congr 1
    obtain ⟨_, _, _, _, _, _, h0, h1⟩ := indexRow t
    funext a
    apply Fin.ext
    match a with
    | ⟨0, _⟩ => show win0_3.index t 0 * 512 + 1 * r.val = 512 * t.val + r.val; omega
    | ⟨1, _⟩ => show win0_3.index t 1 * 2048 + 1 * n.val = n.val; omega
  rw [e, V_main_v6]
  exact at_flat _ _ (flatRow t r) n

theorem blk4 (t : Fin cfg0.N) (k : Fin 512) (n : Fin 1024) :
    ((iblk m c 4 t : Vec Ideal S512x1024 .bf16) (ix2 k n) : EReal) = (inputs m c).weights.wa k n := by
  have e : (iblk m c 4 t : Vec Ideal S512x1024 .bf16) (ix2 k n) = (V m c main_v7 : FVec Ideal S512x1024 .bf16) (ix2 k n) := by
    unfold iblk
    rw [View.read_apply]
    show (V m c main_v7 : FVec Ideal S512x1024 .bf16) _ = _
    congr 1
    obtain ⟨h0, h1, _, _, _, _, _, _, _, _, _, _, _, _, _, _⟩ := indexWhole t
    funext a
    apply Fin.ext
    match a with
    | ⟨0, _⟩ => show win0_4.index t 0 * 512 + 1 * k.val = k.val; omega
    | ⟨1, _⟩ => show win0_4.index t 1 * 1024 + 1 * n.val = n.val; omega
  rw [e, V_main_v7]
  rfl

theorem blk5 (t : Fin cfg0.N) (k : Fin 512) (n : Fin 1024) :
    ((iblk m c 5 t : Vec Ideal S512x1024 .bf16) (ix2 k n) : EReal) = (inputs m c).weights.wb k n := by
  have e : (iblk m c 5 t : Vec Ideal S512x1024 .bf16) (ix2 k n) = (V m c main_v8 : FVec Ideal S512x1024 .bf16) (ix2 k n) := by
    unfold iblk
    rw [View.read_apply]
    show (V m c main_v8 : FVec Ideal S512x1024 .bf16) _ = _
    congr 1
    obtain ⟨_, _, h0, h1, _, _, _, _, _, _, _, _, _, _, _, _⟩ := indexWhole t
    funext a
    apply Fin.ext
    match a with
    | ⟨0, _⟩ => show win0_5.index t 0 * 512 + 1 * k.val = k.val; omega
    | ⟨1, _⟩ => show win0_5.index t 1 * 1024 + 1 * n.val = n.val; omega
  rw [e, V_main_v8]
  rfl

theorem blk6 (t : Fin cfg0.N) (k : Fin 1024) (n : Fin 1024) :
    ((iblk m c 6 t : Vec Ideal S1024x1024 .bf16) (ix2 k n) : EReal) = (inputs m c).weights.wo k n := by
  have e : (iblk m c 6 t : Vec Ideal S1024x1024 .bf16) (ix2 k n) = (V m c main_v9 : FVec Ideal S1024x1024 .bf16) (ix2 k n) := by
    unfold iblk
    rw [View.read_apply]
    show (V m c main_v9 : FVec Ideal S1024x1024 .bf16) _ = _
    congr 1
    obtain ⟨_, _, _, _, h0, h1, _, _, _, _, _, _, _, _, _, _⟩ := indexWhole t
    funext a
    apply Fin.ext
    match a with
    | ⟨0, _⟩ => show win0_6.index t 0 * 1024 + 1 * k.val = k.val; omega
    | ⟨1, _⟩ => show win0_6.index t 1 * 1024 + 1 * n.val = n.val; omega
  rw [e, V_main_v9]
  rfl

theorem blk7 (t : Fin cfg0.N) (n : Fin 1024) :
    ((iblk m c 7 t : Vec Ideal S1x1024 .f32) (ix2 0 n) : EReal) = (inputs m c).weights.gain n := by
  have e : (iblk m c 7 t : Vec Ideal S1x1024 .f32) (ix2 0 n) = (V m c main_v10 : FVec Ideal S1x1024 .f32) (ix2 0 n) := by
    unfold iblk
    rw [View.read_apply]
    show (V m c main_v10 : FVec Ideal S1x1024 .f32) _ = _
    congr 1
    obtain ⟨_, _, _, _, _, _, h0, h1, _, _, _, _, _, _, _, _⟩ := indexWhole t
    funext a
    apply Fin.ext
    match a with
    | ⟨0, _⟩ => show win0_7.index t 0 * 1 + 1 * 0 = 0; omega
    | ⟨1, _⟩ => show win0_7.index t 1 * 1024 + 1 * n.val = n.val; omega
  rw [e, V_main_v10]
  pointwise
  rfl

theorem blk8 (t : Fin cfg0.N) (k : Fin 1024) (n : Fin 5632) :
    ((iblk m c 8 t : Vec Ideal S1024x5632 .bf16) (ix2 k n) : EReal) = (inputs m c).weights.win k n := by
  have e : (iblk m c 8 t : Vec Ideal S1024x5632 .bf16) (ix2 k n) = (V m c main_v11 : FVec Ideal S1024x5632 .bf16) (ix2 k n) := by
    unfold iblk
    rw [View.read_apply]
    show (V m c main_v11 : FVec Ideal S1024x5632 .bf16) _ = _
    congr 1
    obtain ⟨_, _, _, _, _, _, _, _, h0, h1, _, _, _, _, _, _⟩ := indexWhole t
    funext a
    apply Fin.ext
    match a with
    | ⟨0, _⟩ => show win0_8.index t 0 * 1024 + 1 * k.val = k.val; omega
    | ⟨1, _⟩ => show win0_8.index t 1 * 5632 + 1 * n.val = n.val; omega
  rw [e, V_main_v11]
  rfl

theorem blk9 (t : Fin cfg0.N) (k : Fin 3) (n : Fin 2816) :
    ((iblk m c 9 t : Vec Ideal S3x2816 .f32) (ix2 k n) : EReal) = (inputs m c).weights.cw k n := by
  have e : (iblk m c 9 t : Vec Ideal S3x2816 .f32) (ix2 k n) = (V m c main_arg9 : FVec Ideal S3x2816 .f32) (ix2 k n) := by
    unfold iblk
    rw [View.read_apply]
    show (V m c main_arg9 : FVec Ideal S3x2816 .f32) _ = _
    congr 1
    obtain ⟨_, _, _, _, _, _, _, _, _, _, h0, h1, _, _, _, _⟩ := indexWhole t
    funext a
    apply Fin.ext
    match a with
    | ⟨0, _⟩ => show win0_9.index t 0 * 3 + 1 * k.val = k.val; omega
    | ⟨1, _⟩ => show win0_9.index t 1 * 2816 + 1 * n.val = n.val; omega
  rw [e, V_main_arg9]
  rfl

theorem blk10 (t : Fin cfg0.N) (n : Fin 2816) :
    ((iblk m c 10 t : Vec Ideal S1x2816 .f32) (ix2 0 n) : EReal) = (inputs m c).weights.cb n := by
  have e : (iblk m c 10 t : Vec Ideal S1x2816 .f32) (ix2 0 n) = (V m c main_v12 : FVec Ideal S1x2816 .f32) (ix2 0 n) := by
    unfold iblk
    rw [View.read_apply]
    show (V m c main_v12 : FVec Ideal S1x2816 .f32) _ = _
    congr 1
    obtain ⟨_, _, _, _, _, _, _, _, _, _, _, _, h0, h1, _, _⟩ := indexWhole t
    funext a
    apply Fin.ext
    match a with
    | ⟨0, _⟩ => show win0_10.index t 0 * 1 + 1 * 0 = 0; omega
    | ⟨1, _⟩ => show win0_10.index t 1 * 2816 + 1 * n.val = n.val; omega
  rw [e, V_main_v12]
  pointwise
  rfl

theorem blk11 (t : Fin cfg0.N) (k : Fin 2816) (n : Fin 1024) :
    ((iblk m c 11 t : Vec Ideal S2816x1024 .bf16) (ix2 k n) : EReal) = (inputs m c).weights.wout k n := by
  have e : (iblk m c 11 t : Vec Ideal S2816x1024 .bf16) (ix2 k n) = (V m c main_v13 : FVec Ideal S2816x1024 .bf16) (ix2 k n) := by
    unfold iblk
    rw [View.read_apply]
    show (V m c main_v13 : FVec Ideal S2816x1024 .bf16) _ = _
    congr 1
    obtain ⟨_, _, _, _, _, _, _, _, _, _, _, _, _, _, h0, h1⟩ := indexWhole t
    funext a
    apply Fin.ext
    match a with
    | ⟨0, _⟩ => show win0_11.index t 0 * 2816 + 1 * k.val = k.val; omega
    | ⟨1, _⟩ => show win0_11.index t 1 * 1024 + 1 * n.val = n.val; omega
  rw [e, V_main_v13]
  rfl

/-- A point's blocks are its rows and the weights. -/
theorem blocks (t : Fin cfg0.N) :
    Blocks (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (inputs m c).weights (rowAt m c t) where
  x := blk0 m c t
  ya := blk1 m c t
  yb := blk2 m c t
  gm := blk3 m c t
  wa := blk4 m c t
  wb := blk5 m c t
  wo := blk6 m c t
  gain := blk7 m c t
  win := blk8 m c t
  cw := blk9 m c t
  cb := blk10 m c t
  wout := blk11 m c t

end Cert.Kernel2Ideal.Ffn

end
-- ==== Proof.FfnRun.lean ====
/- What the merge and feed-forward call leaves in its result: at every grid point the carried rows are the last eight rows of the
   point before it in the sequence, so each row's taps are the positions one and two before it. -/
module

public import proofs.«01_k».proof.Proof.FfnArrays
public import proofs.«01_k».proof.Proof.Gen.Kernel2Ideal.Value

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.SL.Sem

variable (m : (ℓ : Loc nD τ sig) → Buf (Elt Ideal) ℓ) (c : Dev nD)

/-- A grid point's loads. -/
def loadsAt (t : Fin cfg0.N) : Loads :=
  loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem loadsAt_reads (t : Fin cfg0.N) : (loadsAt m c t).Reads (inputs m c).weights (rowAt m c t) :=
  loads_reads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ (blocks m c t)

theorem step_A (t : Fin cfg0.N) (h0 : t.val % 8 = 0) :
    outsAt0 m c t.val t.isLt = (stored (scM0_0 : Memref sig .tc .vmem S520x2816 .f32).view (scM0_0 : Memref sig .tc .vmem S520x2816 .f32).view.junk (scM0_0 : Memref sig .tc .vmem S520x2816 .f32).view.junk zeros (loadsAt m c t),
      (scM0_0 : Memref sig .tc .vmem S520x2816 .f32).view.read (Elt Ideal) ((scM0_0 : Memref sig .tc .vmem S520x2816 .f32).view.writes (Elt Ideal) (scM0_0 : Memref sig .tc .vmem S520x2816 .f32).view.junk (piecesT4 (scM0_0 : Memref sig .tc .vmem S520x2816 .f32).view (scM0_0 : Memref sig .tc .vmem S520x2816 .f32).view.junk zeros (loadsAt m c t)))) :=
  (outsAt0_A m c t h0).trans (congrArg₂ Prod.mk
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)))

theorem step_B (t : Fin cfg0.N) (h0 : ¬t.val % 8 = 0) :
    outsAt0 m c t.val t.isLt = (stored (scM0_0 : Memref sig .tc .vmem S520x2816 .f32).view ((Memref.isWhole_whole _ : (scM0_0 : Memref sig .tc .vmem S520x2816 .f32).IsWhole).unread ((outsAt0 m c (t.val - 1) (Nat.lt_of_le_of_lt (Nat.sub_le _ _) t.isLt)).2)) (scM0_0 : Memref sig .tc .vmem S520x2816 .f32).view.junk [] (loadsAt m c t),
      (scM0_0 : Memref sig .tc .vmem S520x2816 .f32).view.read (Elt Ideal) ((scM0_0 : Memref sig .tc .vmem S520x2816 .f32).view.writes (Elt Ideal) (scM0_0 : Memref sig .tc .vmem S520x2816 .f32).view.junk (piecesT4 (scM0_0 : Memref sig .tc .vmem S520x2816 .f32).view (scM0_0 : Memref sig .tc .vmem S520x2816 .f32).view.junk [] (loadsAt m c t)))) :=
  (outsAt0_B m c t h0).trans (congrArg₂ Prod.mk
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((outsAt0 m c (t.val - 1) (Nat.lt_of_le_of_lt (Nat.sub_le _ _) t.isLt)).2))
    (sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((outsAt0 m c (t.val - 1) (Nat.lt_of_le_of_lt (Nat.sub_le _ _) t.isLt)).2)))

theorem carry_A (t : Fin cfg0.N) (h0 : t.val % 8 = 0) : (outsAt0 m c t.val t.isLt).2
    = (scM0_0 : Memref sig .tc .vmem S520x2816 .f32).view.read (Elt Ideal) ((scM0_0 : Memref sig .tc .vmem S520x2816 .f32).view.writes (Elt Ideal) (scM0_0 : Memref sig .tc .vmem S520x2816 .f32).view.junk (piecesT4 (scM0_0 : Memref sig .tc .vmem S520x2816 .f32).view (scM0_0 : Memref sig .tc .vmem S520x2816 .f32).view.junk zeros (loadsAt m c t))) := by
  rw [step_A m c t h0]

theorem carry_B (t : Fin cfg0.N) (h0 : ¬t.val % 8 = 0) : (outsAt0 m c t.val t.isLt).2
    = (scM0_0 : Memref sig .tc .vmem S520x2816 .f32).view.read (Elt Ideal) ((scM0_0 : Memref sig .tc .vmem S520x2816 .f32).view.writes (Elt Ideal) (scM0_0 : Memref sig .tc .vmem S520x2816 .f32).view.junk (piecesT4 (scM0_0 : Memref sig .tc .vmem S520x2816 .f32).view (scM0_0 : Memref sig .tc .vmem S520x2816 .f32).view.junk [] (loadsAt m c t))) := by
  rw [step_B m c t h0]

/-- After a grid point the scratch's first eight rows are the point's last eight. -/
theorem carried (t : Fin cfg0.N) (y : S520x2816.Idx) (a : Fin 8) (n : Fin 2816) (h0 : (y 0).val = a.val) (h1 : (y 1).val = n.val) :
    ((outsAt0 m c t.val t.isLt).2 y : EReal) = pre (inputs m c).weights (rowAt m c t ⟨504 + a.val, by omega⟩) (gateCol n) := by
  by_cases h : t.val % 8 = 0
  · exact (congrFun (carry_A m c t h) y).trans (kept (scM0_0 : Memref sig .tc .vmem S520x2816 .f32).view (scM0_0 : Memref sig .tc .vmem S520x2816 .f32).view.junk (scM0_0 : Memref sig .tc .vmem S520x2816 .f32).view.junk zeros (loadsAt_reads m c t) y a n h0 h1)
  · exact (congrFun (carry_B m c t h) y).trans (kept (scM0_0 : Memref sig .tc .vmem S520x2816 .f32).view (scM0_0 : Memref sig .tc .vmem S520x2816 .f32).view.junk (scM0_0 : Memref sig .tc .vmem S520x2816 .f32).view.junk [] (loadsAt_reads m c t) y a n h0 h1)

theorem row_congr (I : Inputs) {b b' : Fin 8} {t t' : Fin 4096} {n : Fin 5632} (hb : b.val = b'.val) (ht : t.val = t'.val) :
    pre I.weights (I.row b t) n = pre I.weights (I.row b' t') n := by
  rw [Fin.ext hb, Fin.ext ht]

/-- A row of the sequence's first block: the rows before it are its own block's, or zeros. -/
theorem back_A (t : Fin cfg0.N) (h0 : t.val % 8 = 0) (r : Fin 512) (k : ℕ) (hk : 0 < k ∧ k ≤ 8) :
    backAt (inputs m c).weights (rowAt m c t) (fun _ _ => 0) r k hk
      = (inputs m c).back (seqOf (flatRow t r)) (posOf (flatRow t r)) k := by
  funext n
  have hp : (posOf (flatRow t r)).val = r.val := by show (512 * t.val + r.val) % 4096 = r.val; omega
  unfold backAt Inputs.back
  by_cases h : k ≤ r.val
  · rw [dif_pos h, if_pos (by omega)]
    exact row_congr _ (by show (512 * t.val + (r.val - k)) / 4096 = (512 * t.val + r.val) / 4096; omega) (by show (512 * t.val + (r.val - k)) % 4096 = (512 * t.val + r.val) % 4096 - k; omega)
  · rw [dif_neg h, if_neg (by omega)]

/-- A row of a later block: the rows before it are its own block's, or the last ones of the block before. -/
theorem back_B (t s : Fin cfg0.N) (h0 : ¬t.val % 8 = 0) (hs : s.val = t.val - 1) (r : Fin 512) (k : ℕ) (hk : 0 < k ∧ k ≤ 8) :
    backAt (inputs m c).weights (rowAt m c t)
        (fun a n => pre (inputs m c).weights (rowAt m c s ⟨504 + a.val, by omega⟩) (gateCol n)) r k hk
      = (inputs m c).back (seqOf (flatRow t r)) (posOf (flatRow t r)) k := by
  funext n
  have hp : (posOf (flatRow t r)).val = 512 * (t.val % 8) + r.val := by
    show (512 * t.val + r.val) % 4096 = 512 * (t.val % 8) + r.val; omega
  unfold backAt Inputs.back
  rw [if_pos (by omega)]
  by_cases h : k ≤ r.val
  · rw [dif_pos h]
    exact row_congr _ (by show (512 * t.val + (r.val - k)) / 4096 = (512 * t.val + r.val) / 4096; omega) (by show (512 * t.val + (r.val - k)) % 4096 = (512 * t.val + r.val) % 4096 - k; omega)
  · rw [dif_neg h]
    exact row_congr _ (by show (512 * s.val + (504 + (8 - k + r.val))) / 4096 = (512 * t.val + r.val) / 4096; omega) (by show (512 * s.val + (504 + (8 - k + r.val))) % 4096 = (512 * t.val + r.val) % 4096 - k; omega)

/-- What a grid point leaves in its block of the result. -/
theorem block_result (t : Fin cfg0.N) (r : Fin 512) (j : Fin 1024) :
    ((outsAt0 m c t.val t.isLt).1 (ix2 r j) : EReal) = (inputs m c).result (seqOf (flatRow t r)) (posOf (flatRow t r)) j := by
  by_cases h : t.val % 8 = 0
  · rw [step_A m c t h]
    refine (stored_reads (scM0_0 : Memref sig .tc .vmem S520x2816 .f32).view (scM0_0 : Memref sig .tc .vmem S520x2816 .f32).view.junk (scM0_0 : Memref sig .tc .vmem S520x2816 .f32).view.junk zeros (loadsAt_reads m c t) (fun _ _ => 0) (fun y a n h0 h1 => ?_) r j).trans ?_
    · exact (hit (scM0_0 : Memref sig .tc .vmem S520x2816 .f32).view (scM0_0 : Memref sig .tc .vmem S520x2816 .f32).view.junk (h := 8) (w := 2816) (o0 := 0) (o1 := 0) _ _ _ y a n (by omega) (by omega)).trans (pay3_eq a n)
    · rw [back_A m c t h, back_A m c t h]
      rfl
  · have hs : t.val - 1 < cfg0.N := Nat.lt_of_le_of_lt (Nat.sub_le _ _) t.isLt
    rw [step_B m c t h]
    refine (stored_reads (scM0_0 : Memref sig .tc .vmem S520x2816 .f32).view ((Memref.isWhole_whole _ : (scM0_0 : Memref sig .tc .vmem S520x2816 .f32).IsWhole).unread ((outsAt0 m c (t.val - 1) (Nat.lt_of_le_of_lt (Nat.sub_le _ _) t.isLt)).2)) (scM0_0 : Memref sig .tc .vmem S520x2816 .f32).view.junk [] (loadsAt_reads m c t)
      (fun a n => pre (inputs m c).weights (rowAt m c ⟨t.val - 1, hs⟩ ⟨504 + a.val, by omega⟩) (gateCol n)) (fun y a n h0 h1 => ?_) r j).trans ?_
    · exact (congrFun ((Memref.isWhole_whole _ : (scM0_0 : Memref sig .tc .vmem S520x2816 .f32).IsWhole).read_unread _) y).trans
        (carried m c ⟨t.val - 1, hs⟩ y a n h0 h1)
    · rw [back_B m c t _ h rfl, back_B m c t _ h rfl]
      rfl

/-- The call's whole result. -/
theorem result_eq (y : S32768x1024.Idx) :
    (Cert.Kernel2Ideal.Value.G12 m c y : EReal) = (inputs m c).result (seqOf (y 0)) (posOf (y 0)) (y 1) := by
  have h0 : (y 0).val < 32768 := (y 0).isLt
  have h1 : (y 1).val < 1024 := (y 1).isLt
  have hp : Cert.Kernel2Ideal.Value.pt12Of y = (y 0).val / 512 := by
    show 1 * ((y 0).val / 512 - 0) + 1 * ((y 1).val / 1024 - 0) = (y 0).val / 512
    omega
  have hN : Cert.Kernel2Ideal.Value.pt12Of y < cfg0.N := lt_of_lt_of_eq (by omega) N_0.symm
  have hl : Cert.Kernel2Ideal.Value.loc12Of y = ix2 ⟨(y 0).val % 512, Nat.mod_lt _ (by decide)⟩ ⟨(y 1).val, h1⟩ := by
    funext a
    fin_cases a
    · rfl
    · apply Fin.ext; show (y 1).val % 1024 = (y 1).val; omega
  unfold Cert.Kernel2Ideal.Value.G12
  rw [dif_pos hN, ← Cert.Kernel2Ideal.Value.outsAt0_sweep m c _ hN, hl]
  refine (block_result m c ⟨Cert.Kernel2Ideal.Value.pt12Of y, hN⟩ _ _).trans ?_
  have e : flatRow ⟨Cert.Kernel2Ideal.Value.pt12Of y, hN⟩ ⟨(y 0).val % 512, Nat.mod_lt _ (by decide)⟩ = y 0 := by
    apply Fin.ext
    show 512 * Cert.Kernel2Ideal.Value.pt12Of y + (y 0).val % 512 = (y 0).val
    rw [hp]; omega
  rw [e]
  rfl

end Cert.Kernel2Ideal.Ffn

end
-- ==== Proof.FfnRef.lean ====
/- The reference of the merge and feed-forward part, read position by position. -/
module

public import proofs.«01_k».proof.Proof.FfnSpec
public import proofs.«01_k».proof.Proof.Gen.Reference2Ideal.Run
public import Idealize.ShloMosaic.Lib.Pointwise

@[expose] public section

set_option maxRecDepth 16384

noncomputable section

namespace Cert.Reference2Ideal.Ffn

open Cert.Reference2Ideal Cert.Reference2Ideal.Gen Cert.Reference2Ideal.Value Cert.Ffn
open Idealize.ShloMosaic Idealize.ShloMosaic.TcCoe Idealize.ShloMosaic.Tactic

section
variable (a0 : FVec Ideal S8x4096x1024 .f32) (a1 : FVec Ideal S8x4096x512 .f32) (a2 : FVec Ideal S8x4096x512 .f32) (a3 : FVec Ideal S8x4096x2048 .f32) (a4 : FVec Ideal S512x1024 .f32) (a5 : FVec Ideal S512x1024 .f32) (a6 : FVec Ideal S1024x1024 .f32) (a7 : FVec Ideal S1024 .f32) (a8 : FVec Ideal S1024x5632 .f32) (a9 : FVec Ideal S3x2816 .f32) (a10 : FVec Ideal S2816 .f32) (a11 : FVec Ideal S2816x1024 .f32)

/-- The first branch, gated. -/
def branchA : FVec Ideal S8x4096x1024 .f32 :=
  mulf (extractStridedSlice S8x4096x1024 ![0, 0, 0] a3 slices_S8x4096x2048_S8x4096x1024_0_0_0) (Host.dotGeneral dot_S8x4096x512_S512x1024_S8x4096x1024_2_0_01_1_n_n none a1 a4)

/-- The second branch, gated. -/
def branchB : FVec Ideal S8x4096x1024 .f32 :=
  mulf (extractStridedSlice S8x4096x1024 ![0, 0, 1024] a3 slices_S8x4096x2048_S8x4096x1024_0_0_1024) (Host.dotGeneral dot_S8x4096x512_S512x1024_S8x4096x1024_2_0_01_1_n_n none a2 a5)

/-- The merge. -/
def merged : FVec Ideal S8x4096x1024 .f32 :=
  addf (branchA a1 a3 a4) (branchB a2 a3 a5)

/-- The residual after the merge. -/
def middle : FVec Ideal S8x4096x1024 .f32 :=
  addf a0 (Host.dotGeneral dot_S8x4096x1024_S1024x1024_S8x4096x1024_2_0_01_1_n_n none (merged a1 a2 a3 a4 a5) a6)

/-- The sums of squares. -/
def squares : FVec Ideal S8x4096 .f32 :=
  Host.reduceAdd (mulf (middle a0 a1 a2 a3 a4 a5 a6) (middle a0 a1 a2 a3 a4 a5 a6)) (constant S_ .f32 0x00000000#32) reducesTo_S8x4096x1024_S8x4096_d2 h_S_

/-- The normed residual. -/
def hidden : FVec Ideal S8x4096x1024 .f32 :=
  mulf (mulf (middle a0 a1 a2 a3 a4 a5 a6) (broadcastInDim S8x4096x1024 ![0, 1, 2] bcast_S8x4096x1_S8x4096x1024_0_1_2 (Host.rsqrt (addf (Host.divf (broadcastInDim S8x4096x1 ![0, 1] bcast_S8x4096_S8x4096x1_0_1 (squares a0 a1 a2 a3 a4 a5 a6)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a7))

/-- The input projection. -/
def projected : FVec Ideal S8x4096x5632 .f32 :=
  Host.dotGeneral dot_S8x4096x1024_S1024x5632_S8x4096x5632_2_0_01_1_n_n none (hidden a0 a1 a2 a3 a4 a5 a6 a7) a8

/-- Its gate half after two rows of zeros. -/
def padded : FVec Ideal S8x4098x2816 .f32 :=
  pad S8x4098x2816 ![0, 2, 0] ![0, 0, 0] ![0, 0, 0] (extractStridedSlice S8x4096x2816 ![0, 0, 0] (projected a0 a1 a2 a3 a4 a5 a6 a7 a8) slices_S8x4096x5632_S8x4096x2816_0_0_0) (sitofp .f32 (constantI S_ 32 0#32)) pads_S8x4096x2816_S8x4098x2816_000_200_000 h_S_

/-- The convolution. -/
def conv : FVec Ideal S8x4096x2816 .f32 :=
  addf (addf (addf (mulf (broadcastInDim S8x4096x2816 ![0, 1, 2] bcast_S1x1x2816_S8x4096x2816_0_1_2 (broadcastInDim S1x1x2816 ![2] bcast_S2816_S1x1x2816_2 (shapeCast _ (extractStridedSlice S1x2816 ![0, 0] a9 slices_S3x2816_S1x2816_0_0) shapeCasts_S1x2816_S2816))) (extractStridedSlice S8x4096x2816 ![0, 0, 0] (padded a0 a1 a2 a3 a4 a5 a6 a7 a8) slices_S8x4098x2816_S8x4096x2816_0_0_0)) (mulf (broadcastInDim S8x4096x2816 ![0, 1, 2] bcast_S1x1x2816_S8x4096x2816_0_1_2 (broadcastInDim S1x1x2816 ![2] bcast_S2816_S1x1x2816_2 (shapeCast _ (extractStridedSlice S1x2816 ![1, 0] a9 slices_S3x2816_S1x2816_1_0) shapeCasts_S1x2816_S2816))) (extractStridedSlice S8x4096x2816 ![0, 1, 0] (padded a0 a1 a2 a3 a4 a5 a6 a7 a8) slices_S8x4098x2816_S8x4096x2816_0_1_0))) (mulf (broadcastInDim S8x4096x2816 ![0, 1, 2] bcast_S1x1x2816_S8x4096x2816_0_1_2 (broadcastInDim S1x1x2816 ![2] bcast_S2816_S1x1x2816_2 (shapeCast _ (extractStridedSlice S1x2816 ![2, 0] a9 slices_S3x2816_S1x2816_2_0) shapeCasts_S1x2816_S2816))) (extractStridedSlice S8x4096x2816 ![0, 2, 0] (padded a0 a1 a2 a3 a4 a5 a6 a7 a8) slices_S8x4098x2816_S8x4096x2816_0_2_0))) (broadcastInDim S8x4096x2816 ![0, 1, 2] bcast_S1x1x2816_S8x4096x2816_0_1_2 (broadcastInDim S1x1x2816 ![2] bcast_S2816_S1x1x2816_2 a10))

/-- The result. -/
def answer : FVec Ideal S32768x1024 .f32 :=
  shapeCast _ (addf (middle a0 a1 a2 a3 a4 a5 a6) (Host.dotGeneral dot_S8x4096x2816_S2816x1024_S8x4096x1024_2_0_01_1_n_n none (mulf (mulf (conv a0 a1 a2 a3 a4 a5 a6 a7 a8 a9 a10) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (conv a0 a1 a2 a3 a4 a5 a6 a7 a8 a9 a10)))))) (extractStridedSlice S8x4096x2816 ![0, 0, 2816] (projected a0 a1 a2 a3 a4 a5 a6 a7 a8) slices_S8x4096x5632_S8x4096x2816_0_0_2816)) a11)) shapeCasts_S8x4096x1024_S32768x1024

end

variable (m : (ℓ : Loc nD τ sig) → Buf (Elt Ideal) ℓ) (c : Dev nD)

set_option maxHeartbeats 4000000 in
theorem res_eq : res_main_v53 m c = answer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_main_v53
  rfl

section
variable (a0 : FVec Ideal S8x4096x1024 .f32) (a1 : FVec Ideal S8x4096x512 .f32) (a2 : FVec Ideal S8x4096x512 .f32) (a3 : FVec Ideal S8x4096x2048 .f32) (a4 : FVec Ideal S512x1024 .f32) (a5 : FVec Ideal S512x1024 .f32) (a6 : FVec Ideal S1024x1024 .f32) (a7 : FVec Ideal S1024 .f32) (a8 : FVec Ideal S1024x5632 .f32) (a9 : FVec Ideal S3x2816 .f32) (a10 : FVec Ideal S2816 .f32) (a11 : FVec Ideal S2816x1024 .f32)

theorem middle_at (b : Fin 8) (t : Fin 4096) (j : Fin 1024) :
    (middle a0 a1 a2 a3 a4 a5 a6 (ix3 b t j) : EReal) = mid (Inputs.of a0 a1 a2 a3 a4 a5 a6 a7 a8 a9 a10 a11).weights ((Inputs.of a0 a1 a2 a3 a4 a5 a6 a7 a8 a9 a10 a11).row b t) j := by
  pointwise [middle, merged, branchA, branchB]
  rfl

theorem squares_at (b : Fin 8) (t : Fin 4096) :
    (squares a0 a1 a2 a3 a4 a5 a6 (ix2 b t) : EReal) = ∑ k, middle a0 a1 a2 a3 a4 a5 a6 (ix3 b t k) * middle a0 a1 a2 a3 a4 a5 a6 (ix3 b t k) := by
  pointwise [squares]

theorem hidden_at (b : Fin 8) (t : Fin 4096) (j : Fin 1024) :
    (hidden a0 a1 a2 a3 a4 a5 a6 a7 (ix3 b t j) : EReal) = hid (Inputs.of a0 a1 a2 a3 a4 a5 a6 a7 a8 a9 a10 a11).weights ((Inputs.of a0 a1 a2 a3 a4 a5 a6 a7 a8 a9 a10 a11).row b t) j := by
  pointwise [hidden]
  rw [squares_at]
  simp only [middle_at a0 a1 a2 a3 a4 a5 a6 a7 a8 a9 a10 a11]
  rfl

theorem projected_at (b : Fin 8) (t : Fin 4096) (n : Fin 5632) :
    (projected a0 a1 a2 a3 a4 a5 a6 a7 a8 (ix3 b t n) : EReal) = pre (Inputs.of a0 a1 a2 a3 a4 a5 a6 a7 a8 a9 a10 a11).weights ((Inputs.of a0 a1 a2 a3 a4 a5 a6 a7 a8 a9 a10 a11).row b t) n := by
  pointwise [projected]
  exact Finset.sum_congr rfl fun k _ => congrArg (· * a8 (ix2 k n)) (hidden_at a0 a1 a2 a3 a4 a5 a6 a7 a8 a9 a10 a11 b t k)

/-- A padded row is the position two before it, or zeros. -/
theorem padded_at (b : Fin 8) (t : Fin 4096) (k : ℕ) (hk : k ≤ 2) (s : Fin 4098) (hs : s.val = 2 - k + t.val) (n : Fin 2816) :
    (padded a0 a1 a2 a3 a4 a5 a6 a7 a8 (ix3 b s n) : EReal) = (Inputs.of a0 a1 a2 a3 a4 a5 a6 a7 a8 a9 a10 a11).back b t k n := by
  have e : (padded a0 a1 a2 a3 a4 a5 a6 a7 a8 (ix3 b s n) : EReal) = if h : 2 ≤ s.val ∧ s.val - 2 < 4096 then
      projected a0 a1 a2 a3 a4 a5 a6 a7 a8 (ix3 b ⟨s.val - 2, h.2⟩ (gateCol n)) else 0 := by
    pointwise [padded]
    have z : (FloatOps.sitofp (F := Ideal) FTy.f32 (0#32 : BitVec 32) : EReal) = 0 := by
      show (((0#32 : BitVec 32).toInt : ℝ) : EReal) = 0
      simp
    rw [z]
    rfl
  rw [e]
  unfold Inputs.back
  by_cases h : k ≤ t.val
  · rw [dif_pos ⟨by omega, by omega⟩, if_pos h, projected_at a0 a1 a2 a3 a4 a5 a6 a7 a8 a9 a10 a11]
    congr 2
    apply Fin.ext
    show s.val - 2 = t.val - k
    omega
  · rw [dif_neg (by omega), if_neg h]

theorem conv_at (b : Fin 8) (t : Fin 4096) (n : Fin 2816) :
    (conv a0 a1 a2 a3 a4 a5 a6 a7 a8 a9 a10 (ix3 b t n) : EReal) = a9 (ix2 0 n) * (Inputs.of a0 a1 a2 a3 a4 a5 a6 a7 a8 a9 a10 a11).back b t 2 n + a9 (ix2 1 n) * (Inputs.of a0 a1 a2 a3 a4 a5 a6 a7 a8 a9 a10 a11).back b t 1 n
      + a9 (ix2 2 n) * pre (Inputs.of a0 a1 a2 a3 a4 a5 a6 a7 a8 a9 a10 a11).weights ((Inputs.of a0 a1 a2 a3 a4 a5 a6 a7 a8 a9 a10 a11).row b t) (gateCol n) + a10 (ix1 n) := by
  pointwise [conv]
  rw [padded_at a0 a1 a2 a3 a4 a5 a6 a7 a8 a9 a10 a11 b t 2 (by omega) _ (by show t.val = _; omega), padded_at a0 a1 a2 a3 a4 a5 a6 a7 a8 a9 a10 a11 b t 1 (by omega) _ (by show 1 + t.val = _; omega),
    padded_at a0 a1 a2 a3 a4 a5 a6 a7 a8 a9 a10 a11 b t 0 (by omega) _ (by show 2 + t.val = _; omega)]
  rw [show (Inputs.of a0 a1 a2 a3 a4 a5 a6 a7 a8 a9 a10 a11).back b t 0 n = pre (Inputs.of a0 a1 a2 a3 a4 a5 a6 a7 a8 a9 a10 a11).weights ((Inputs.of a0 a1 a2 a3 a4 a5 a6 a7 a8 a9 a10 a11).row b t) (gateCol n) from if_pos (Nat.zero_le _)]

theorem answer_at (P : Fin 32768) (j : Fin 1024) :
    (answer a0 a1 a2 a3 a4 a5 a6 a7 a8 a9 a10 a11 (ix2 P j) : EReal) = (Inputs.of a0 a1 a2 a3 a4 a5 a6 a7 a8 a9 a10 a11).result (seqOf P) (posOf P) j := by
  pointwise [answer]
  refine congrArg₂ (· + ·) (middle_at a0 a1 a2 a3 a4 a5 a6 a7 a8 a9 a10 a11 _ _ j) (Finset.sum_congr rfl fun n _ => congrArg (· * a11 (ix2 n j)) ?_)
  rw [conv_at a0 a1 a2 a3 a4 a5 a6 a7 a8 a9 a10 a11, projected_at a0 a1 a2 a3 a4 a5 a6 a7 a8 a9 a10 a11]
  rfl
end

end Cert.Reference2Ideal.Ffn

end
-- ==== Proof.lean ====
/- The certificate: the frames, that the idealized program is the printed one with its named constants, and that the
   idealized kernel computes the reference's attention where queries and keys are finite; and the same for the merge and
   feed-forward call, with no condition. -/
module

public import proofs.«01_k».proof.Defs
public import proofs.«01_k».proof.Proof.RefResult
public import proofs.«01_k».proof.Proof.Finite
public import proofs.«01_k».proof.Proof.FrameWord
public import proofs.«01_k».proof.Proof.FrameIdeal
public import proofs.«01_k».proof.Proof.FfnRun
public import proofs.«01_k».proof.Proof.FfnRef
public import proofs.«01_k».proof.Proof.Gen.Kernel2.Frame

@[expose] public section

noncomputable section

namespace Cert.Proof

open Idealize.ShloMosaic Idealize.SL.Sem

/-- The scale and the stand-in for minus infinity denote their names' values. -/
theorem names : Cert.preserves_Kernel_KernelIdeal :=
  ⟨IdealRules.named_const.statement _ _ _ _ _ rfl, IdealRules.named_const.statement _ _ _ _ _ rfl⟩

/-- The reference leaves its arguments as they were; it has no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with the same attention. -/
theorem attention : Cert.algebraic_KernelIdeal_ReferenceIdeal_pre_finite := by
  intro m g m' g' hp ha
  have hf := fun c => Cert.Nsa.finite_of_pre m hp c
  have hi : ∀ c, Cert.ReferenceIdeal.Nsa.inputsOf m' c = Cert.KernelIdeal.Nsa.inputs m c := by
    intro c
    obtain ⟨h0, h1, h2, h3, h4, h5, h6, h7⟩ := ha c
    unfold Cert.ReferenceIdeal.Nsa.inputsOf Cert.ReferenceIdeal.Nsa.inputs Cert.KernelIdeal.Nsa.inputs
    congr 1
    · exact funext fun b => funext fun t => funext fun h => funext fun d => congrFun h0 (ix4 b t h d)
    · exact funext fun b => funext fun t => funext fun h => funext fun d => congrFun h1 (ix4 b t h d)
    · exact funext fun b => funext fun t => funext fun h => funext fun d => congrFun h2 (ix4 b t h d)
    · exact funext fun b => funext fun t => funext fun h => funext fun d => congrFun h3 (ix4 b t h d)
    · exact funext fun b => funext fun t => funext fun h => funext fun d => congrFun h4 (ix4 b t h d)
    · exact funext fun b => funext fun t => funext fun h => funext fun d => congrFun h5 (ix4 b t h d)
    · exact funext fun b => funext fun t => funext fun h => funext fun d => congrFun h6 (ix4 b t h d)
    · exact funext fun b => funext fun t => funext fun h => funext fun d => congrFun h7 (ix4 b t h d)
  refine ⟨fun c => Cert.KernelIdeal.Nsa.resultArray m c,
    (θ_run Cert.KernelIdeal.defs _ _).mono (fun r h c => ⟨h.1 c, h.2.1 c⟩)
      (θ_run_and (Cert.KernelIdeal.Nsa.kernel_run m g hf) (Cert.KernelIdeal.Nsa.frame m g)),
    (θ_run Cert.ReferenceIdeal.defs _ _).mono (fun r h c => ⟨(h c).1.trans ?_, (h c).2⟩)
      (Cert.ReferenceIdeal.Nsa.reference_run m' g' fun c => (hi c).symm ▸ hf c)⟩
  funext y
  show (Cert.ReferenceIdeal.Nsa.inputsOf m' c).result (y 0) (y 1) (y 2) = (Cert.KernelIdeal.Nsa.inputs m c).result (y 0) (y 1) (y 2)
  rw [hi c]

/-- The second reference leaves its arguments as they were; it has no semaphore. -/
theorem reference2_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The merge and feed-forward kernel and its reference end with the same rows. -/
theorem feedforward : Cert.algebraic_Kernel2Ideal_Reference2Ideal := by
  intro m g m' g' hp ha
  refine ⟨fun c => Cert.Kernel2Ideal.Value.G12 m c, Cert.Kernel2Ideal.Value.run (F := Ideal) m g,
    (θ_run Cert.Reference2Ideal.defs _ _).mono (fun r h c => ⟨(h c).1.trans ?_, (h c).2⟩)
      (Cert.Reference2Ideal.Value.run (F := Ideal) m' g')⟩
  obtain ⟨h0, h1, h2, h3, h4, h5, h6, h7, h8, h9, h10, h11⟩ := ha c
  have hi : Cert.Ffn.Inputs.of (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10))
      (m' ((c.tc : Thread Cert.Reference2Ideal.nD Cert.Reference2Ideal.τ).loc Cert.Reference2Ideal.main_arg11)) = Cert.Kernel2Ideal.Ffn.inputs m c := by
    unfold Cert.Kernel2Ideal.Ffn.inputs
    congr 1
  rw [Cert.Reference2Ideal.Ffn.res_eq]
  funext y
  refine (congrArg _ (eq_ix2 y)).trans ?_
  exact (Cert.Reference2Ideal.Ffn.answer_at _ _ _ _ _ _ _ _ _ _ _ _ (y 0) (y 1)).trans
    ((congrArg (fun I => I.result (Cert.Ffn.seqOf (y 0)) (Cert.Ffn.posOf (y 0)) (y 1)) hi).trans
      (Cert.Kernel2Ideal.Ffn.result_eq m c y).symm)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Nsa.preFacts,
    fun m g _ => Cert.Kernel.Nsa.frame m g, fun m g _ => Cert.KernelIdeal.Nsa.frame m g,
    fun m g _ => Cert.KernelIdeal.Nsa.frame m g, reference_frame, fun m g _ => reference_frame m g trivial,
    fun m g _ => Cert.Kernel2.Gen.frame m g, fun m g _ => Cert.Kernel2Ideal.Gen.frame m g, reference2_frame,
    names, attention, trivial, feedforward⟩

end Cert.Proof

end
